-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_metadata_valid [hPre_metadata_valid : Cert.Pre_metadata_valid.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_metadata_valid.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4))) = (fun _ => 1#1)

def Pre_GateUpReferenceIdeal (m : (ℓ : Loc Cert.GateUpReferenceIdeal.nD Cert.GateUpReferenceIdeal.τ Cert.GateUpReferenceIdeal.sig) → Buf (Elt Ideal) ℓ) : Prop :=
  True

def Pre_GateUpReferenceIdeal_metadata_valid [hPre_metadata_valid : Cert.Pre_metadata_valid.Facts] (m : (ℓ : Loc Cert.GateUpReferenceIdeal.nD Cert.GateUpReferenceIdeal.τ Cert.GateUpReferenceIdeal.sig) → Buf (Elt Ideal) ℓ) : Prop :=
  ∀ c : Dev Cert.GateUpReferenceIdeal.nD,
    (Cert.Pre_metadata_valid.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_metadata_valid_down [hPre_metadata_valid_down : Cert.Pre_metadata_valid_down.Facts] (m : (ℓ : Loc Cert.DownIdeal.nD Cert.DownIdeal.τ Cert.DownIdeal.sig) → Buf (Elt Ideal) ℓ) : Prop :=
  ∀ c : Dev Cert.DownIdeal.nD,
    (Cert.Pre_metadata_valid_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_metadata_valid_down [hPre_metadata_valid_down : Cert.Pre_metadata_valid_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_metadata_valid_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_metadata_valid_qkv [hPre_metadata_valid_qkv : Cert.Pre_metadata_valid_qkv.Facts] (m : (ℓ : Loc Cert.QkvIdeal.nD Cert.QkvIdeal.τ Cert.QkvIdeal.sig) → Buf (Elt Ideal) ℓ) : Prop :=
  ∀ c : Dev Cert.QkvIdeal.nD,
    (Cert.Pre_metadata_valid_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))) = (fun _ => 1#1)

def Pre_QkvReferenceIdeal (m : (ℓ : Loc Cert.QkvReferenceIdeal.nD Cert.QkvReferenceIdeal.τ Cert.QkvReferenceIdeal.sig) → Buf (Elt Ideal) ℓ) : Prop :=
  True

def Pre_QkvReferenceIdeal_metadata_valid_qkv [hPre_metadata_valid_qkv : Cert.Pre_metadata_valid_qkv.Facts] (m : (ℓ : Loc Cert.QkvReferenceIdeal.nD Cert.QkvReferenceIdeal.τ Cert.QkvReferenceIdeal.sig) → Buf (Elt Ideal) ℓ) : Prop :=
  ∀ c : Dev Cert.QkvReferenceIdeal.nD,
    (Cert.Pre_metadata_valid_qkv.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))) = (fun _ => 1#1)

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoIdeal_metadata_valid_wo [hPre_metadata_valid_wo : Cert.Pre_metadata_valid_wo.Facts] (m : (ℓ : Loc Cert.WoIdeal.nD Cert.WoIdeal.τ Cert.WoIdeal.sig) → Buf (Elt Ideal) ℓ) : Prop :=
  ∀ c : Dev Cert.WoIdeal.nD,
    (Cert.Pre_metadata_valid_wo.fn (F := Ideal) (m ((c.tc : Thread Cert.WoIdeal.nD Cert.WoIdeal.τ).loc Cert.WoIdeal.main_arg0)) (m ((c.tc : Thread Cert.WoIdeal.nD Cert.WoIdeal.τ).loc Cert.WoIdeal.main_arg1)) (m ((c.tc : Thread Cert.WoIdeal.nD Cert.WoIdeal.τ).loc Cert.WoIdeal.main_arg2)) (m ((c.tc : Thread Cert.WoIdeal.nD Cert.WoIdeal.τ).loc Cert.WoIdeal.main_arg3)) (m ((c.tc : Thread Cert.WoIdeal.nD Cert.WoIdeal.τ).loc Cert.WoIdeal.main_arg4)) (m ((c.tc : Thread Cert.WoIdeal.nD Cert.WoIdeal.τ).loc Cert.WoIdeal.main_arg5))) = (fun _ => 1#1)

def Pre_WoReferenceIdeal (m : (ℓ : Loc Cert.WoReferenceIdeal.nD Cert.WoReferenceIdeal.τ Cert.WoReferenceIdeal.sig) → Buf (Elt Ideal) ℓ) : Prop :=
  True

def Pre_WoReferenceIdeal_metadata_valid_wo [hPre_metadata_valid_wo : Cert.Pre_metadata_valid_wo.Facts] (m : (ℓ : Loc Cert.WoReferenceIdeal.nD Cert.WoReferenceIdeal.τ Cert.WoReferenceIdeal.sig) → Buf (Elt Ideal) ℓ) : Prop :=
  ∀ c : Dev Cert.WoReferenceIdeal.nD,
    (Cert.Pre_metadata_valid_wo.fn (F := Ideal) (m ((c.tc : Thread Cert.WoReferenceIdeal.nD Cert.WoReferenceIdeal.τ).loc Cert.WoReferenceIdeal.main_arg0)) (m ((c.tc : Thread Cert.WoReferenceIdeal.nD Cert.WoReferenceIdeal.τ).loc Cert.WoReferenceIdeal.main_arg1)) (m ((c.tc : Thread Cert.WoReferenceIdeal.nD Cert.WoReferenceIdeal.τ).loc Cert.WoReferenceIdeal.main_arg2)) (m ((c.tc : Thread Cert.WoReferenceIdeal.nD Cert.WoReferenceIdeal.τ).loc Cert.WoReferenceIdeal.main_arg3)) (m ((c.tc : Thread Cert.WoReferenceIdeal.nD Cert.WoReferenceIdeal.τ).loc Cert.WoReferenceIdeal.main_arg4)) (m ((c.tc : Thread Cert.WoReferenceIdeal.nD Cert.WoReferenceIdeal.τ).loc Cert.WoReferenceIdeal.main_arg5))) = (fun _ => 1#1)

def Pre_NormX (m : (ℓ : Loc Cert.NormX.nD Cert.NormX.τ Cert.NormX.sig) → Buf (Elt Bits) ℓ) : Prop :=
  True

def Pre_NormXIdeal (m : (ℓ : Loc Cert.NormXIdeal.nD Cert.NormXIdeal.τ Cert.NormXIdeal.sig) → Buf (Elt Ideal) ℓ) : Prop :=
  True

def Pre_NormXReferenceIdeal (m : (ℓ : Loc Cert.NormXReferenceIdeal.nD Cert.NormXReferenceIdeal.τ Cert.NormXReferenceIdeal.sig) → Buf (Elt Ideal) ℓ) : Prop :=
  True

def Pre_NormH (m : (ℓ : Loc Cert.NormH.nD Cert.NormH.τ Cert.NormH.sig) → Buf (Elt Bits) ℓ) : Prop :=
  True

def Pre_NormHIdeal (m : (ℓ : Loc Cert.NormHIdeal.nD Cert.NormHIdeal.τ Cert.NormHIdeal.sig) → Buf (Elt Ideal) ℓ) : Prop :=
  True

def Pre_NormHReferenceIdeal (m : (ℓ : Loc Cert.NormHReferenceIdeal.nD Cert.NormHReferenceIdeal.τ Cert.NormHReferenceIdeal.sig) → Buf (Elt Ideal) ℓ) : Prop :=
  True

def Pre_QuantAttn (m : (ℓ : Loc Cert.QuantAttn.nD Cert.QuantAttn.τ Cert.QuantAttn.sig) → Buf (Elt Bits) ℓ) : Prop :=
  True

def Pre_QuantAttnIdeal (m : (ℓ : Loc Cert.QuantAttnIdeal.nD Cert.QuantAttnIdeal.τ Cert.QuantAttnIdeal.sig) → Buf (Elt Ideal) ℓ) : Prop :=
  True

def Pre_QuantAttnReferenceIdeal (m : (ℓ : Loc Cert.QuantAttnReferenceIdeal.nD Cert.QuantAttnReferenceIdeal.τ Cert.QuantAttnReferenceIdeal.sig) → Buf (Elt Ideal) ℓ) : Prop :=
  True

def Pre_QuantAct (m : (ℓ : Loc Cert.QuantAct.nD Cert.QuantAct.τ Cert.QuantAct.sig) → Buf (Elt Bits) ℓ) : Prop :=
  True

def Pre_QuantActIdeal (m : (ℓ : Loc Cert.QuantActIdeal.nD Cert.QuantActIdeal.τ Cert.QuantActIdeal.sig) → Buf (Elt Ideal) ℓ) : Prop :=
  True

def Pre_QuantActReferenceIdeal (m : (ℓ : Loc Cert.QuantActReferenceIdeal.nD Cert.QuantActReferenceIdeal.τ Cert.QuantActReferenceIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpIdeal_pre_metadata_valid [hGateUpIdeal : Cert.GateUpIdeal.Facts] [hPre_metadata_valid : Cert.Pre_metadata_valid.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_metadata_valid m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
      ∧ r.2.sem = fun _ => 0)

def quiescent_GateUpReferenceIdeal_pre_metadata_valid [hGateUpReferenceIdeal : Cert.GateUpReferenceIdeal.Facts] [hPre_metadata_valid : Cert.Pre_metadata_valid.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal_metadata_valid m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownIdeal_pre_metadata_valid_down [hDownIdeal : Cert.DownIdeal.Facts] [hPre_metadata_valid_down : Cert.Pre_metadata_valid_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_metadata_valid_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_DownReferenceIdeal_pre_metadata_valid_down [hDownReferenceIdeal : Cert.DownReferenceIdeal.Facts] [hPre_metadata_valid_down : Cert.Pre_metadata_valid_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_metadata_valid_down m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvIdeal_pre_metadata_valid_qkv [hQkvIdeal : Cert.QkvIdeal.Facts] [hPre_metadata_valid_qkv : Cert.Pre_metadata_valid_qkv.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_metadata_valid_qkv m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_QkvReferenceIdeal_pre_metadata_valid_qkv [hQkvReferenceIdeal : Cert.QkvReferenceIdeal.Facts] [hPre_metadata_valid_qkv : Cert.Pre_metadata_valid_qkv.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal_metadata_valid_qkv m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3)
      ∧ r.2.mem ((c.tc : Thread Cert.Wo.nD Cert.Wo.τ).loc Cert.Wo.main_arg4) = m ((c.tc : Thread Cert.Wo.nD Cert.Wo.τ).loc Cert.Wo.main_arg4)
      ∧ r.2.mem ((c.tc : Thread Cert.Wo.nD Cert.Wo.τ).loc Cert.Wo.main_arg5) = m ((c.tc : Thread Cert.Wo.nD Cert.Wo.τ).loc Cert.Wo.main_arg5))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
      ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ r.2.sem = fun _ => 0)

def quiescent_WoIdeal_pre_metadata_valid_wo [hWoIdeal : Cert.WoIdeal.Facts] [hPre_metadata_valid_wo : Cert.Pre_metadata_valid_wo.Facts] : Prop :=
  ∀ (m : (ℓ : Loc Cert.WoIdeal.nD Cert.WoIdeal.τ Cert.WoIdeal.sig) → Buf (Elt Ideal) ℓ) (g : Dev Cert.WoIdeal.nD → PrngReg), Pre_WoIdeal_metadata_valid_wo m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
      ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ r.2.sem = fun _ => 0)

def quiescent_WoReferenceIdeal [hWoReferenceIdeal : Cert.WoReferenceIdeal.Facts] : Prop :=
  ∀ (m : (ℓ : Loc Cert.WoReferenceIdeal.nD Cert.WoReferenceIdeal.τ Cert.WoReferenceIdeal.sig) → Buf (Elt Ideal) ℓ) (g : Dev Cert.WoReferenceIdeal.nD → PrngReg), Pre_WoReferenceIdeal m →
    θ_run (Cert.WoReferenceIdeal.defs (F := Ideal)) (onTc (τ := Cert.WoReferenceIdeal.τ) (Cert.WoReferenceIdeal.main (F := Ideal))) ⟨m, fun _ => 0, g⟩ (fun r => (∀ c : Dev Cert.WoReferenceIdeal.nD,
      r.2.mem ((c.tc : Thread Cert.WoReferenceIdeal.nD Cert.WoReferenceIdeal.τ).loc Cert.WoReferenceIdeal.main_arg0) = m ((c.tc : Thread Cert.WoReferenceIdeal.nD Cert.WoReferenceIdeal.τ).loc Cert.WoReferenceIdeal.main_arg0)
      ∧ r.2.mem ((c.tc : Thread Cert.WoReferenceIdeal.nD Cert.WoReferenceIdeal.τ).loc Cert.WoReferenceIdeal.main_arg1) = m ((c.tc : Thread Cert.WoReferenceIdeal.nD Cert.WoReferenceIdeal.τ).loc Cert.WoReferenceIdeal.main_arg1)
      ∧ r.2.mem ((c.tc : Thread Cert.WoReferenceIdeal.nD Cert.WoReferenceIdeal.τ).loc Cert.WoReferenceIdeal.main_arg2) = m ((c.tc : Thread Cert.WoReferenceIdeal.nD Cert.WoReferenceIdeal.τ).loc Cert.WoReferenceIdeal.main_arg2)
      ∧ r.2.mem ((c.tc : Thread Cert.WoReferenceIdeal.nD Cert.WoReferenceIdeal.τ).loc Cert.WoReferenceIdeal.main_arg3) = m ((c.tc : Thread Cert.WoReferenceIdeal.nD Cert.WoReferenceIdeal.τ).loc Cert.WoReferenceIdeal.main_arg3)
      ∧ r.2.mem ((c.tc : Thread Cert.WoReferenceIdeal.nD Cert.WoReferenceIdeal.τ).loc Cert.WoReferenceIdeal.main_arg4) = m ((c.tc : Thread Cert.WoReferenceIdeal.nD Cert.WoReferenceIdeal.τ).loc Cert.WoReferenceIdeal.main_arg4)
      ∧ r.2.mem ((c.tc : Thread Cert.WoReferenceIdeal.nD Cert.WoReferenceIdeal.τ).loc Cert.WoReferenceIdeal.main_arg5) = m ((c.tc : Thread Cert.WoReferenceIdeal.nD Cert.WoReferenceIdeal.τ).loc Cert.WoReferenceIdeal.main_arg5))
      ∧ r.2.sem = fun _ => 0)

def quiescent_WoReferenceIdeal_pre_metadata_valid_wo [hWoReferenceIdeal : Cert.WoReferenceIdeal.Facts] [hPre_metadata_valid_wo : Cert.Pre_metadata_valid_wo.Facts] : Prop :=
  ∀ (m : (ℓ : Loc Cert.WoReferenceIdeal.nD Cert.WoReferenceIdeal.τ Cert.WoReferenceIdeal.sig) → Buf (Elt Ideal) ℓ) (g : Dev Cert.WoReferenceIdeal.nD → PrngReg), Pre_WoReferenceIdeal_metadata_valid_wo m →
    θ_run (Cert.WoReferenceIdeal.defs (F := Ideal)) (onTc (τ := Cert.WoReferenceIdeal.τ) (Cert.WoReferenceIdeal.main (F := Ideal))) ⟨m, fun _ => 0, g⟩ (fun r => (∀ c : Dev Cert.WoReferenceIdeal.nD,
      r.2.mem ((c.tc : Thread Cert.WoReferenceIdeal.nD Cert.WoReferenceIdeal.τ).loc Cert.WoReferenceIdeal.main_arg0) = m ((c.tc : Thread Cert.WoReferenceIdeal.nD Cert.WoReferenceIdeal.τ).loc Cert.WoReferenceIdeal.main_arg0)
      ∧ r.2.mem ((c.tc : Thread Cert.WoReferenceIdeal.nD Cert.WoReferenceIdeal.τ).loc Cert.WoReferenceIdeal.main_arg1) = m ((c.tc : Thread Cert.WoReferenceIdeal.nD Cert.WoReferenceIdeal.τ).loc Cert.WoReferenceIdeal.main_arg1)
      ∧ r.2.mem ((c.tc : Thread Cert.WoReferenceIdeal.nD Cert.WoReferenceIdeal.τ).loc Cert.WoReferenceIdeal.main_arg2) = m ((c.tc : Thread Cert.WoReferenceIdeal.nD Cert.WoReferenceIdeal.τ).loc Cert.WoReferenceIdeal.main_arg2)
      ∧ r.2.mem ((c.tc : Thread Cert.WoReferenceIdeal.nD Cert.WoReferenceIdeal.τ).loc Cert.WoReferenceIdeal.main_arg3) = m ((c.tc : Thread Cert.WoReferenceIdeal.nD Cert.WoReferenceIdeal.τ).loc Cert.WoReferenceIdeal.main_arg3)
      ∧ r.2.mem ((c.tc : Thread Cert.WoReferenceIdeal.nD Cert.WoReferenceIdeal.τ).loc Cert.WoReferenceIdeal.main_arg4) = m ((c.tc : Thread Cert.WoReferenceIdeal.nD Cert.WoReferenceIdeal.τ).loc Cert.WoReferenceIdeal.main_arg4)
      ∧ r.2.mem ((c.tc : Thread Cert.WoReferenceIdeal.nD Cert.WoReferenceIdeal.τ).loc Cert.WoReferenceIdeal.main_arg5) = m ((c.tc : Thread Cert.WoReferenceIdeal.nD Cert.WoReferenceIdeal.τ).loc Cert.WoReferenceIdeal.main_arg5))
      ∧ r.2.sem = fun _ => 0)

def quiescent_NormX [hNormX : Cert.NormX.Facts] : Prop :=
  ∀ (m : (ℓ : Loc Cert.NormX.nD Cert.NormX.τ Cert.NormX.sig) → Buf (Elt Bits) ℓ) (g : Dev Cert.NormX.nD → PrngReg), Pre_NormX m →
    θ_run (Cert.NormX.defs (F := Bits)) (onTc (τ := Cert.NormX.τ) (Cert.NormX.main (F := Bits))) ⟨m, fun _ => 0, g⟩ (fun r => (∀ c : Dev Cert.NormX.nD,
      r.2.mem ((c.tc : Thread Cert.NormX.nD Cert.NormX.τ).loc Cert.NormX.main_arg0) = m ((c.tc : Thread Cert.NormX.nD Cert.NormX.τ).loc Cert.NormX.main_arg0)
      ∧ r.2.mem ((c.tc : Thread Cert.NormX.nD Cert.NormX.τ).loc Cert.NormX.main_arg1) = m ((c.tc : Thread Cert.NormX.nD Cert.NormX.τ).loc Cert.NormX.main_arg1))
      ∧ r.2.sem = fun _ => 0)

def quiescent_NormXIdeal [hNormXIdeal : Cert.NormXIdeal.Facts] : Prop :=
  ∀ (m : (ℓ : Loc Cert.NormXIdeal.nD Cert.NormXIdeal.τ Cert.NormXIdeal.sig) → Buf (Elt Ideal) ℓ) (g : Dev Cert.NormXIdeal.nD → PrngReg), Pre_NormXIdeal m →
    θ_run (Cert.NormXIdeal.defs (F := Ideal)) (onTc (τ := Cert.NormXIdeal.τ) (Cert.NormXIdeal.main (F := Ideal))) ⟨m, fun _ => 0, g⟩ (fun r => (∀ c : Dev Cert.NormXIdeal.nD,
      r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
      ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1))
      ∧ r.2.sem = fun _ => 0)

def quiescent_NormXReferenceIdeal [hNormXReferenceIdeal : Cert.NormXReferenceIdeal.Facts] : Prop :=
  ∀ (m : (ℓ : Loc Cert.NormXReferenceIdeal.nD Cert.NormXReferenceIdeal.τ Cert.NormXReferenceIdeal.sig) → Buf (Elt Ideal) ℓ) (g : Dev Cert.NormXReferenceIdeal.nD → PrngReg), Pre_NormXReferenceIdeal m →
    θ_run (Cert.NormXReferenceIdeal.defs (F := Ideal)) (onTc (τ := Cert.NormXReferenceIdeal.τ) (Cert.NormXReferenceIdeal.main (F := Ideal))) ⟨m, fun _ => 0, g⟩ (fun r => (∀ c : Dev Cert.NormXReferenceIdeal.nD,
      r.2.mem ((c.tc : Thread Cert.NormXReferenceIdeal.nD Cert.NormXReferenceIdeal.τ).loc Cert.NormXReferenceIdeal.main_arg0) = m ((c.tc : Thread Cert.NormXReferenceIdeal.nD Cert.NormXReferenceIdeal.τ).loc Cert.NormXReferenceIdeal.main_arg0)
      ∧ r.2.mem ((c.tc : Thread Cert.NormXReferenceIdeal.nD Cert.NormXReferenceIdeal.τ).loc Cert.NormXReferenceIdeal.main_arg1) = m ((c.tc : Thread Cert.NormXReferenceIdeal.nD Cert.NormXReferenceIdeal.τ).loc Cert.NormXReferenceIdeal.main_arg1))
      ∧ r.2.sem = fun _ => 0)

def quiescent_NormH [hNormH : Cert.NormH.Facts] : Prop :=
  ∀ (m : (ℓ : Loc Cert.NormH.nD Cert.NormH.τ Cert.NormH.sig) → Buf (Elt Bits) ℓ) (g : Dev Cert.NormH.nD → PrngReg), Pre_NormH m →
    θ_run (Cert.NormH.defs (F := Bits)) (onTc (τ := Cert.NormH.τ) (Cert.NormH.main (F := Bits))) ⟨m, fun _ => 0, g⟩ (fun r => (∀ c : Dev Cert.NormH.nD,
      r.2.mem ((c.tc : Thread Cert.NormH.nD Cert.NormH.τ).loc Cert.NormH.main_arg0) = m ((c.tc : Thread Cert.NormH.nD Cert.NormH.τ).loc Cert.NormH.main_arg0)
      ∧ r.2.mem ((c.tc : Thread Cert.NormH.nD Cert.NormH.τ).loc Cert.NormH.main_arg1) = m ((c.tc : Thread Cert.NormH.nD Cert.NormH.τ).loc Cert.NormH.main_arg1))
      ∧ r.2.sem = fun _ => 0)

def quiescent_NormHIdeal [hNormHIdeal : Cert.NormHIdeal.Facts] : Prop :=
  ∀ (m : (ℓ : Loc Cert.NormHIdeal.nD Cert.NormHIdeal.τ Cert.NormHIdeal.sig) → Buf (Elt Ideal) ℓ) (g : Dev Cert.NormHIdeal.nD → PrngReg), Pre_NormHIdeal m →
    θ_run (Cert.NormHIdeal.defs (F := Ideal)) (onTc (τ := Cert.NormHIdeal.τ) (Cert.NormHIdeal.main (F := Ideal))) ⟨m, fun _ => 0, g⟩ (fun r => (∀ c : Dev Cert.NormHIdeal.nD,
      r.2.mem ((c.tc : Thread Cert.NormHIdeal.nD Cert.NormHIdeal.τ).loc Cert.NormHIdeal.main_arg0) = m ((c.tc : Thread Cert.NormHIdeal.nD Cert.NormHIdeal.τ).loc Cert.NormHIdeal.main_arg0)
      ∧ r.2.mem ((c.tc : Thread Cert.NormHIdeal.nD Cert.NormHIdeal.τ).loc Cert.NormHIdeal.main_arg1) = m ((c.tc : Thread Cert.NormHIdeal.nD Cert.NormHIdeal.τ).loc Cert.NormHIdeal.main_arg1))
      ∧ r.2.sem = fun _ => 0)

def quiescent_NormHReferenceIdeal [hNormHReferenceIdeal : Cert.NormHReferenceIdeal.Facts] : Prop :=
  ∀ (m : (ℓ : Loc Cert.NormHReferenceIdeal.nD Cert.NormHReferenceIdeal.τ Cert.NormHReferenceIdeal.sig) → Buf (Elt Ideal) ℓ) (g : Dev Cert.NormHReferenceIdeal.nD → PrngReg), Pre_NormHReferenceIdeal m →
    θ_run (Cert.NormHReferenceIdeal.defs (F := Ideal)) (onTc (τ := Cert.NormHReferenceIdeal.τ) (Cert.NormHReferenceIdeal.main (F := Ideal))) ⟨m, fun _ => 0, g⟩ (fun r => (∀ c : Dev Cert.NormHReferenceIdeal.nD,
      r.2.mem ((c.tc : Thread Cert.NormHReferenceIdeal.nD Cert.NormHReferenceIdeal.τ).loc Cert.NormHReferenceIdeal.main_arg0) = m ((c.tc : Thread Cert.NormHReferenceIdeal.nD Cert.NormHReferenceIdeal.τ).loc Cert.NormHReferenceIdeal.main_arg0)
      ∧ r.2.mem ((c.tc : Thread Cert.NormHReferenceIdeal.nD Cert.NormHReferenceIdeal.τ).loc Cert.NormHReferenceIdeal.main_arg1) = m ((c.tc : Thread Cert.NormHReferenceIdeal.nD Cert.NormHReferenceIdeal.τ).loc Cert.NormHReferenceIdeal.main_arg1))
      ∧ r.2.sem = fun _ => 0)

def quiescent_QuantAttn [hQuantAttn : Cert.QuantAttn.Facts] : Prop :=
  ∀ (m : (ℓ : Loc Cert.QuantAttn.nD Cert.QuantAttn.τ Cert.QuantAttn.sig) → Buf (Elt Bits) ℓ) (g : Dev Cert.QuantAttn.nD → PrngReg), Pre_QuantAttn m →
    θ_run (Cert.QuantAttn.defs (F := Bits)) (onTc (τ := Cert.QuantAttn.τ) (Cert.QuantAttn.main (F := Bits))) ⟨m, fun _ => 0, g⟩ (fun r => (∀ c : Dev Cert.QuantAttn.nD,
      r.2.mem ((c.tc : Thread Cert.QuantAttn.nD Cert.QuantAttn.τ).loc Cert.QuantAttn.main_arg0) = m ((c.tc : Thread Cert.QuantAttn.nD Cert.QuantAttn.τ).loc Cert.QuantAttn.main_arg0))
      ∧ r.2.sem = fun _ => 0)

def quiescent_QuantAttnIdeal [hQuantAttnIdeal : Cert.QuantAttnIdeal.Facts] : Prop :=
  ∀ (m : (ℓ : Loc Cert.QuantAttnIdeal.nD Cert.QuantAttnIdeal.τ Cert.QuantAttnIdeal.sig) → Buf (Elt Ideal) ℓ) (g : Dev Cert.QuantAttnIdeal.nD → PrngReg), Pre_QuantAttnIdeal m →
    θ_run (Cert.QuantAttnIdeal.defs (F := Ideal)) (onTc (τ := Cert.QuantAttnIdeal.τ) (Cert.QuantAttnIdeal.main (F := Ideal))) ⟨m, fun _ => 0, g⟩ (fun r => (∀ c : Dev Cert.QuantAttnIdeal.nD,
      r.2.mem ((c.tc : Thread Cert.QuantAttnIdeal.nD Cert.QuantAttnIdeal.τ).loc Cert.QuantAttnIdeal.main_arg0) = m ((c.tc : Thread Cert.QuantAttnIdeal.nD Cert.QuantAttnIdeal.τ).loc Cert.QuantAttnIdeal.main_arg0))
      ∧ r.2.sem = fun _ => 0)

def quiescent_QuantAttnReferenceIdeal [hQuantAttnReferenceIdeal : Cert.QuantAttnReferenceIdeal.Facts] : Prop :=
  ∀ (m : (ℓ : Loc Cert.QuantAttnReferenceIdeal.nD Cert.QuantAttnReferenceIdeal.τ Cert.QuantAttnReferenceIdeal.sig) → Buf (Elt Ideal) ℓ) (g : Dev Cert.QuantAttnReferenceIdeal.nD → PrngReg), Pre_QuantAttnReferenceIdeal m →
    θ_run (Cert.QuantAttnReferenceIdeal.defs (F := Ideal)) (onTc (τ := Cert.QuantAttnReferenceIdeal.τ) (Cert.QuantAttnReferenceIdeal.main (F := Ideal))) ⟨m, fun _ => 0, g⟩ (fun r => (∀ c : Dev Cert.QuantAttnReferenceIdeal.nD,
      r.2.mem ((c.tc : Thread Cert.QuantAttnReferenceIdeal.nD Cert.QuantAttnReferenceIdeal.τ).loc Cert.QuantAttnReferenceIdeal.main_arg0) = m ((c.tc : Thread Cert.QuantAttnReferenceIdeal.nD Cert.QuantAttnReferenceIdeal.τ).loc Cert.QuantAttnReferenceIdeal.main_arg0))
      ∧ r.2.sem = fun _ => 0)

def quiescent_QuantAct [hQuantAct : Cert.QuantAct.Facts] : Prop :=
  ∀ (m : (ℓ : Loc Cert.QuantAct.nD Cert.QuantAct.τ Cert.QuantAct.sig) → Buf (Elt Bits) ℓ) (g : Dev Cert.QuantAct.nD → PrngReg), Pre_QuantAct m →
    θ_run (Cert.QuantAct.defs (F := Bits)) (onTc (τ := Cert.QuantAct.τ) (Cert.QuantAct.main (F := Bits))) ⟨m, fun _ => 0, g⟩ (fun r => (∀ c : Dev Cert.QuantAct.nD,
      r.2.mem ((c.tc : Thread Cert.QuantAct.nD Cert.QuantAct.τ).loc Cert.QuantAct.main_arg0) = m ((c.tc : Thread Cert.QuantAct.nD Cert.QuantAct.τ).loc Cert.QuantAct.main_arg0))
      ∧ r.2.sem = fun _ => 0)

def quiescent_QuantActIdeal [hQuantActIdeal : Cert.QuantActIdeal.Facts] : Prop :=
  ∀ (m : (ℓ : Loc Cert.QuantActIdeal.nD Cert.QuantActIdeal.τ Cert.QuantActIdeal.sig) → Buf (Elt Ideal) ℓ) (g : Dev Cert.QuantActIdeal.nD → PrngReg), Pre_QuantActIdeal m →
    θ_run (Cert.QuantActIdeal.defs (F := Ideal)) (onTc (τ := Cert.QuantActIdeal.τ) (Cert.QuantActIdeal.main (F := Ideal))) ⟨m, fun _ => 0, g⟩ (fun r => (∀ c : Dev Cert.QuantActIdeal.nD,
      r.2.mem ((c.tc : Thread Cert.QuantActIdeal.nD Cert.QuantActIdeal.τ).loc Cert.QuantActIdeal.main_arg0) = m ((c.tc : Thread Cert.QuantActIdeal.nD Cert.QuantActIdeal.τ).loc Cert.QuantActIdeal.main_arg0))
      ∧ r.2.sem = fun _ => 0)

def quiescent_QuantActReferenceIdeal [hQuantActReferenceIdeal : Cert.QuantActReferenceIdeal.Facts] : Prop :=
  ∀ (m : (ℓ : Loc Cert.QuantActReferenceIdeal.nD Cert.QuantActReferenceIdeal.τ Cert.QuantActReferenceIdeal.sig) → Buf (Elt Ideal) ℓ) (g : Dev Cert.QuantActReferenceIdeal.nD → PrngReg), Pre_QuantActReferenceIdeal m →
    θ_run (Cert.QuantActReferenceIdeal.defs (F := Ideal)) (onTc (τ := Cert.QuantActReferenceIdeal.τ) (Cert.QuantActReferenceIdeal.main (F := Ideal))) ⟨m, fun _ => 0, g⟩ (fun r => (∀ c : Dev Cert.QuantActReferenceIdeal.nD,
      r.2.mem ((c.tc : Thread Cert.QuantActReferenceIdeal.nD Cert.QuantActReferenceIdeal.τ).loc Cert.QuantActReferenceIdeal.main_arg0) = m ((c.tc : Thread Cert.QuantActReferenceIdeal.nD Cert.QuantActReferenceIdeal.τ).loc Cert.QuantActReferenceIdeal.main_arg0))
      ∧ r.2.sem = fun _ => 0)

def preserves_GateUp_GateUpIdeal : Prop :=
  True

def algebraic_GateUpIdeal_GateUpReferenceIdeal_pre_metadata_valid [hGateUpIdeal : Cert.GateUpIdeal.Facts] [hGateUpReferenceIdeal : Cert.GateUpReferenceIdeal.Facts] [hPre_metadata_valid : Cert.Pre_metadata_valid.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal_metadata_valid m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v4)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v4) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v47) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4))

def preserves_Down_DownIdeal : Prop :=
  True

def algebraic_DownIdeal_DownReferenceIdeal_pre_metadata_valid_down [hDownIdeal : Cert.DownIdeal.Facts] [hDownReferenceIdeal : Cert.DownReferenceIdeal.Facts] [hPre_metadata_valid_down : Cert.Pre_metadata_valid_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_metadata_valid_down m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v47) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def preserves_Qkv_QkvIdeal : Prop :=
  True

def algebraic_QkvIdeal_QkvReferenceIdeal_pre_metadata_valid_qkv [hQkvIdeal : Cert.QkvIdeal.Facts] [hQkvReferenceIdeal : Cert.QkvReferenceIdeal.Facts] [hPre_metadata_valid_qkv : Cert.Pre_metadata_valid_qkv.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal_metadata_valid_qkv m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v47) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_Wo_WoIdeal : Prop :=
  True

def algebraic_WoIdeal_WoReferenceIdeal_pre_metadata_valid_wo [hWoIdeal : Cert.WoIdeal.Facts] [hWoReferenceIdeal : Cert.WoReferenceIdeal.Facts] [hPre_metadata_valid_wo : Cert.Pre_metadata_valid_wo.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoReferenceIdeal.nD Cert.WoReferenceIdeal.τ Cert.WoReferenceIdeal.sig) → Buf (Elt Ideal) ℓ) (g' : Dev Cert.WoReferenceIdeal.nD → PrngReg), Pre_WoIdeal_metadata_valid_wo m →
    (∀ c : Dev Cert.WoIdeal.nD,
      m' ((c.tc : Thread Cert.WoReferenceIdeal.nD Cert.WoReferenceIdeal.τ).loc Cert.WoReferenceIdeal.main_arg0) = m ((c.tc : Thread Cert.WoIdeal.nD Cert.WoIdeal.τ).loc Cert.WoIdeal.main_arg0)
      ∧ m' ((c.tc : Thread Cert.WoReferenceIdeal.nD Cert.WoReferenceIdeal.τ).loc Cert.WoReferenceIdeal.main_arg1) = m ((c.tc : Thread Cert.WoIdeal.nD Cert.WoIdeal.τ).loc Cert.WoIdeal.main_arg1)
      ∧ m' ((c.tc : Thread Cert.WoReferenceIdeal.nD Cert.WoReferenceIdeal.τ).loc Cert.WoReferenceIdeal.main_arg2) = m ((c.tc : Thread Cert.WoIdeal.nD Cert.WoIdeal.τ).loc Cert.WoIdeal.main_arg2)
      ∧ m' ((c.tc : Thread Cert.WoReferenceIdeal.nD Cert.WoReferenceIdeal.τ).loc Cert.WoReferenceIdeal.main_arg3) = m ((c.tc : Thread Cert.WoIdeal.nD Cert.WoIdeal.τ).loc Cert.WoIdeal.main_arg3)
      ∧ m' ((c.tc : Thread Cert.WoReferenceIdeal.nD Cert.WoReferenceIdeal.τ).loc Cert.WoReferenceIdeal.main_arg4) = m ((c.tc : Thread Cert.WoIdeal.nD Cert.WoIdeal.τ).loc Cert.WoIdeal.main_arg4)
      ∧ m' ((c.tc : Thread Cert.WoReferenceIdeal.nD Cert.WoReferenceIdeal.τ).loc Cert.WoReferenceIdeal.main_arg5) = m ((c.tc : Thread Cert.WoIdeal.nD Cert.WoIdeal.τ).loc Cert.WoIdeal.main_arg5)) →
    ∃ (v0 : (c : Dev Cert.WoIdeal.nD) → Buf (Elt Ideal) ((c.tc : Thread Cert.WoIdeal.nD Cert.WoIdeal.τ).loc Cert.WoIdeal.main_v4)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v4) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
          ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
          ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ θ_run (Cert.WoReferenceIdeal.defs (F := Ideal)) (onTc (τ := Cert.WoReferenceIdeal.τ) (Cert.WoReferenceIdeal.main (F := Ideal))) ⟨m', fun _ => 0, g'⟩ (fun r => ∀ c : Dev Cert.WoReferenceIdeal.nD,
          r.2.mem ((c.tc : Thread Cert.WoReferenceIdeal.nD Cert.WoReferenceIdeal.τ).loc Cert.WoReferenceIdeal.main_v47) = v0 c
          ∧ r.2.mem ((c.tc : Thread Cert.WoReferenceIdeal.nD Cert.WoReferenceIdeal.τ).loc Cert.WoReferenceIdeal.main_arg0) = m' ((c.tc : Thread Cert.WoReferenceIdeal.nD Cert.WoReferenceIdeal.τ).loc Cert.WoReferenceIdeal.main_arg0)
          ∧ r.2.mem ((c.tc : Thread Cert.WoReferenceIdeal.nD Cert.WoReferenceIdeal.τ).loc Cert.WoReferenceIdeal.main_arg1) = m' ((c.tc : Thread Cert.WoReferenceIdeal.nD Cert.WoReferenceIdeal.τ).loc Cert.WoReferenceIdeal.main_arg1)
          ∧ r.2.mem ((c.tc : Thread Cert.WoReferenceIdeal.nD Cert.WoReferenceIdeal.τ).loc Cert.WoReferenceIdeal.main_arg2) = m' ((c.tc : Thread Cert.WoReferenceIdeal.nD Cert.WoReferenceIdeal.τ).loc Cert.WoReferenceIdeal.main_arg2)
          ∧ r.2.mem ((c.tc : Thread Cert.WoReferenceIdeal.nD Cert.WoReferenceIdeal.τ).loc Cert.WoReferenceIdeal.main_arg3) = m' ((c.tc : Thread Cert.WoReferenceIdeal.nD Cert.WoReferenceIdeal.τ).loc Cert.WoReferenceIdeal.main_arg3)
          ∧ r.2.mem ((c.tc : Thread Cert.WoReferenceIdeal.nD Cert.WoReferenceIdeal.τ).loc Cert.WoReferenceIdeal.main_arg4) = m' ((c.tc : Thread Cert.WoReferenceIdeal.nD Cert.WoReferenceIdeal.τ).loc Cert.WoReferenceIdeal.main_arg4)
          ∧ r.2.mem ((c.tc : Thread Cert.WoReferenceIdeal.nD Cert.WoReferenceIdeal.τ).loc Cert.WoReferenceIdeal.main_arg5) = m' ((c.tc : Thread Cert.WoReferenceIdeal.nD Cert.WoReferenceIdeal.τ).loc Cert.WoReferenceIdeal.main_arg5))

def preserves_NormX_NormXIdeal : Prop :=
  True

def algebraic_NormXIdeal_NormXReferenceIdeal [hNormXIdeal : Cert.NormXIdeal.Facts] [hNormXReferenceIdeal : Cert.NormXReferenceIdeal.Facts] : Prop :=
  ∀ (m : (ℓ : Loc Cert.NormXIdeal.nD Cert.NormXIdeal.τ Cert.NormXIdeal.sig) → Buf (Elt Ideal) ℓ) (g : Dev Cert.NormXIdeal.nD → PrngReg)
    (m' : (ℓ : Loc Cert.NormXReferenceIdeal.nD Cert.NormXReferenceIdeal.τ Cert.NormXReferenceIdeal.sig) → Buf (Elt Ideal) ℓ) (g' : Dev Cert.NormXReferenceIdeal.nD → PrngReg), Pre_NormXIdeal m →
    (∀ c : Dev Cert.NormXIdeal.nD,
      m' ((c.tc : Thread Cert.NormXReferenceIdeal.nD Cert.NormXReferenceIdeal.τ).loc Cert.NormXReferenceIdeal.main_arg0) = m ((c.tc : Thread Cert.NormXIdeal.nD Cert.NormXIdeal.τ).loc Cert.NormXIdeal.main_arg0)
      ∧ m' ((c.tc : Thread Cert.NormXReferenceIdeal.nD Cert.NormXReferenceIdeal.τ).loc Cert.NormXReferenceIdeal.main_arg1) = m ((c.tc : Thread Cert.NormXIdeal.nD Cert.NormXIdeal.τ).loc Cert.NormXIdeal.main_arg1)) →
    ∃ (v0 : (c : Dev Cert.NormXIdeal.nD) → Buf (Elt Ideal) ((c.tc : Thread Cert.NormXIdeal.nD Cert.NormXIdeal.τ).loc Cert.NormXIdeal.main_v1_0)) (v1 : (c : Dev Cert.NormXIdeal.nD) → Buf (Elt Ideal) ((c.tc : Thread Cert.NormXIdeal.nD Cert.NormXIdeal.τ).loc Cert.NormXIdeal.main_v1_1)),
      θ_run (Cert.NormXIdeal.defs (F := Ideal)) (onTc (τ := Cert.NormXIdeal.τ) (Cert.NormXIdeal.main (F := Ideal))) ⟨m, fun _ => 0, g⟩ (fun r => ∀ c : Dev Cert.NormXIdeal.nD,
          r.2.mem ((c.tc : Thread Cert.NormXIdeal.nD Cert.NormXIdeal.τ).loc Cert.NormXIdeal.main_v1_0) = v0 c
          ∧ r.2.mem ((c.tc : Thread Cert.NormXIdeal.nD Cert.NormXIdeal.τ).loc Cert.NormXIdeal.main_v1_1) = v1 c
          ∧ r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
          ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1))
      ∧ θ_run (Cert.NormXReferenceIdeal.defs (F := Ideal)) (onTc (τ := Cert.NormXReferenceIdeal.τ) (Cert.NormXReferenceIdeal.main (F := Ideal))) ⟨m', fun _ => 0, g'⟩ (fun r => ∀ c : Dev Cert.NormXReferenceIdeal.nD,
          r.2.mem ((c.tc : Thread Cert.NormXReferenceIdeal.nD Cert.NormXReferenceIdeal.τ).loc Cert.NormXReferenceIdeal.main_v1_0) = v0 c
          ∧ r.2.mem ((c.tc : Thread Cert.NormXReferenceIdeal.nD Cert.NormXReferenceIdeal.τ).loc Cert.NormXReferenceIdeal.main_v1_1) = v1 c
          ∧ r.2.mem ((c.tc : Thread Cert.NormXReferenceIdeal.nD Cert.NormXReferenceIdeal.τ).loc Cert.NormXReferenceIdeal.main_arg0) = m' ((c.tc : Thread Cert.NormXReferenceIdeal.nD Cert.NormXReferenceIdeal.τ).loc Cert.NormXReferenceIdeal.main_arg0)
          ∧ r.2.mem ((c.tc : Thread Cert.NormXReferenceIdeal.nD Cert.NormXReferenceIdeal.τ).loc Cert.NormXReferenceIdeal.main_arg1) = m' ((c.tc : Thread Cert.NormXReferenceIdeal.nD Cert.NormXReferenceIdeal.τ).loc Cert.NormXReferenceIdeal.main_arg1))

def preserves_NormH_NormHIdeal : Prop :=
  True

def algebraic_NormHIdeal_NormHReferenceIdeal [hNormHIdeal : Cert.NormHIdeal.Facts] [hNormHReferenceIdeal : Cert.NormHReferenceIdeal.Facts] : Prop :=
  ∀ (m : (ℓ : Loc Cert.NormHIdeal.nD Cert.NormHIdeal.τ Cert.NormHIdeal.sig) → Buf (Elt Ideal) ℓ) (g : Dev Cert.NormHIdeal.nD → PrngReg)
    (m' : (ℓ : Loc Cert.NormHReferenceIdeal.nD Cert.NormHReferenceIdeal.τ Cert.NormHReferenceIdeal.sig) → Buf (Elt Ideal) ℓ) (g' : Dev Cert.NormHReferenceIdeal.nD → PrngReg), Pre_NormHIdeal m →
    (∀ c : Dev Cert.NormHIdeal.nD,
      m' ((c.tc : Thread Cert.NormHReferenceIdeal.nD Cert.NormHReferenceIdeal.τ).loc Cert.NormHReferenceIdeal.main_arg0) = m ((c.tc : Thread Cert.NormHIdeal.nD Cert.NormHIdeal.τ).loc Cert.NormHIdeal.main_arg0)
      ∧ m' ((c.tc : Thread Cert.NormHReferenceIdeal.nD Cert.NormHReferenceIdeal.τ).loc Cert.NormHReferenceIdeal.main_arg1) = m ((c.tc : Thread Cert.NormHIdeal.nD Cert.NormHIdeal.τ).loc Cert.NormHIdeal.main_arg1)) →
    ∃ (v0 : (c : Dev Cert.NormHIdeal.nD) → Buf (Elt Ideal) ((c.tc : Thread Cert.NormHIdeal.nD Cert.NormHIdeal.τ).loc Cert.NormHIdeal.main_v1_0)) (v1 : (c : Dev Cert.NormHIdeal.nD) → Buf (Elt Ideal) ((c.tc : Thread Cert.NormHIdeal.nD Cert.NormHIdeal.τ).loc Cert.NormHIdeal.main_v1_1)),
      θ_run (Cert.NormHIdeal.defs (F := Ideal)) (onTc (τ := Cert.NormHIdeal.τ) (Cert.NormHIdeal.main (F := Ideal))) ⟨m, fun _ => 0, g⟩ (fun r => ∀ c : Dev Cert.NormHIdeal.nD,
          r.2.mem ((c.tc : Thread Cert.NormHIdeal.nD Cert.NormHIdeal.τ).loc Cert.NormHIdeal.main_v1_0) = v0 c
          ∧ r.2.mem ((c.tc : Thread Cert.NormHIdeal.nD Cert.NormHIdeal.τ).loc Cert.NormHIdeal.main_v1_1) = v1 c
          ∧ r.2.mem ((c.tc : Thread Cert.NormHIdeal.nD Cert.NormHIdeal.τ).loc Cert.NormHIdeal.main_arg0) = m ((c.tc : Thread Cert.NormHIdeal.nD Cert.NormHIdeal.τ).loc Cert.NormHIdeal.main_arg0)
          ∧ r.2.mem ((c.tc : Thread Cert.NormHIdeal.nD Cert.NormHIdeal.τ).loc Cert.NormHIdeal.main_arg1) = m ((c.tc : Thread Cert.NormHIdeal.nD Cert.NormHIdeal.τ).loc Cert.NormHIdeal.main_arg1))
      ∧ θ_run (Cert.NormHReferenceIdeal.defs (F := Ideal)) (onTc (τ := Cert.NormHReferenceIdeal.τ) (Cert.NormHReferenceIdeal.main (F := Ideal))) ⟨m', fun _ => 0, g'⟩ (fun r => ∀ c : Dev Cert.NormHReferenceIdeal.nD,
          r.2.mem ((c.tc : Thread Cert.NormHReferenceIdeal.nD Cert.NormHReferenceIdeal.τ).loc Cert.NormHReferenceIdeal.main_v1_0) = v0 c
          ∧ r.2.mem ((c.tc : Thread Cert.NormHReferenceIdeal.nD Cert.NormHReferenceIdeal.τ).loc Cert.NormHReferenceIdeal.main_v1_1) = v1 c
          ∧ r.2.mem ((c.tc : Thread Cert.NormHReferenceIdeal.nD Cert.NormHReferenceIdeal.τ).loc Cert.NormHReferenceIdeal.main_arg0) = m' ((c.tc : Thread Cert.NormHReferenceIdeal.nD Cert.NormHReferenceIdeal.τ).loc Cert.NormHReferenceIdeal.main_arg0)
          ∧ r.2.mem ((c.tc : Thread Cert.NormHReferenceIdeal.nD Cert.NormHReferenceIdeal.τ).loc Cert.NormHReferenceIdeal.main_arg1) = m' ((c.tc : Thread Cert.NormHReferenceIdeal.nD Cert.NormHReferenceIdeal.τ).loc Cert.NormHReferenceIdeal.main_arg1))

def preserves_QuantAttn_QuantAttnIdeal : Prop :=
  True

def algebraic_QuantAttnIdeal_QuantAttnReferenceIdeal [hQuantAttnIdeal : Cert.QuantAttnIdeal.Facts] [hQuantAttnReferenceIdeal : Cert.QuantAttnReferenceIdeal.Facts] : Prop :=
  ∀ (m : (ℓ : Loc Cert.QuantAttnIdeal.nD Cert.QuantAttnIdeal.τ Cert.QuantAttnIdeal.sig) → Buf (Elt Ideal) ℓ) (g : Dev Cert.QuantAttnIdeal.nD → PrngReg)
    (m' : (ℓ : Loc Cert.QuantAttnReferenceIdeal.nD Cert.QuantAttnReferenceIdeal.τ Cert.QuantAttnReferenceIdeal.sig) → Buf (Elt Ideal) ℓ) (g' : Dev Cert.QuantAttnReferenceIdeal.nD → PrngReg), Pre_QuantAttnIdeal m →
    (∀ c : Dev Cert.QuantAttnIdeal.nD,
      m' ((c.tc : Thread Cert.QuantAttnReferenceIdeal.nD Cert.QuantAttnReferenceIdeal.τ).loc Cert.QuantAttnReferenceIdeal.main_arg0) = m ((c.tc : Thread Cert.QuantAttnIdeal.nD Cert.QuantAttnIdeal.τ).loc Cert.QuantAttnIdeal.main_arg0)) →
    ∃ (v0 : (c : Dev Cert.QuantAttnIdeal.nD) → Buf (Elt Ideal) ((c.tc : Thread Cert.QuantAttnIdeal.nD Cert.QuantAttnIdeal.τ).loc Cert.QuantAttnIdeal.main_v0_0)) (v1 : (c : Dev Cert.QuantAttnIdeal.nD) → Buf (Elt Ideal) ((c.tc : Thread Cert.QuantAttnIdeal.nD Cert.QuantAttnIdeal.τ).loc Cert.QuantAttnIdeal.main_v0_1)),
      θ_run (Cert.QuantAttnIdeal.defs (F := Ideal)) (onTc (τ := Cert.QuantAttnIdeal.τ) (Cert.QuantAttnIdeal.main (F := Ideal))) ⟨m, fun _ => 0, g⟩ (fun r => ∀ c : Dev Cert.QuantAttnIdeal.nD,
          r.2.mem ((c.tc : Thread Cert.QuantAttnIdeal.nD Cert.QuantAttnIdeal.τ).loc Cert.QuantAttnIdeal.main_v0_0) = v0 c
          ∧ r.2.mem ((c.tc : Thread Cert.QuantAttnIdeal.nD Cert.QuantAttnIdeal.τ).loc Cert.QuantAttnIdeal.main_v0_1) = v1 c
          ∧ r.2.mem ((c.tc : Thread Cert.QuantAttnIdeal.nD Cert.QuantAttnIdeal.τ).loc Cert.QuantAttnIdeal.main_arg0) = m ((c.tc : Thread Cert.QuantAttnIdeal.nD Cert.QuantAttnIdeal.τ).loc Cert.QuantAttnIdeal.main_arg0))
      ∧ θ_run (Cert.QuantAttnReferenceIdeal.defs (F := Ideal)) (onTc (τ := Cert.QuantAttnReferenceIdeal.τ) (Cert.QuantAttnReferenceIdeal.main (F := Ideal))) ⟨m', fun _ => 0, g'⟩ (fun r => ∀ c : Dev Cert.QuantAttnReferenceIdeal.nD,
          r.2.mem ((c.tc : Thread Cert.QuantAttnReferenceIdeal.nD Cert.QuantAttnReferenceIdeal.τ).loc Cert.QuantAttnReferenceIdeal.main_v0_0) = v0 c
          ∧ r.2.mem ((c.tc : Thread Cert.QuantAttnReferenceIdeal.nD Cert.QuantAttnReferenceIdeal.τ).loc Cert.QuantAttnReferenceIdeal.main_v0_1) = v1 c
          ∧ r.2.mem ((c.tc : Thread Cert.QuantAttnReferenceIdeal.nD Cert.QuantAttnReferenceIdeal.τ).loc Cert.QuantAttnReferenceIdeal.main_arg0) = m' ((c.tc : Thread Cert.QuantAttnReferenceIdeal.nD Cert.QuantAttnReferenceIdeal.τ).loc Cert.QuantAttnReferenceIdeal.main_arg0))

def preserves_QuantAct_QuantActIdeal : Prop :=
  True

def algebraic_QuantActIdeal_QuantActReferenceIdeal [hQuantActIdeal : Cert.QuantActIdeal.Facts] [hQuantActReferenceIdeal : Cert.QuantActReferenceIdeal.Facts] : Prop :=
  ∀ (m : (ℓ : Loc Cert.QuantActIdeal.nD Cert.QuantActIdeal.τ Cert.QuantActIdeal.sig) → Buf (Elt Ideal) ℓ) (g : Dev Cert.QuantActIdeal.nD → PrngReg)
    (m' : (ℓ : Loc Cert.QuantActReferenceIdeal.nD Cert.QuantActReferenceIdeal.τ Cert.QuantActReferenceIdeal.sig) → Buf (Elt Ideal) ℓ) (g' : Dev Cert.QuantActReferenceIdeal.nD → PrngReg), Pre_QuantActIdeal m →
    (∀ c : Dev Cert.QuantActIdeal.nD,
      m' ((c.tc : Thread Cert.QuantActReferenceIdeal.nD Cert.QuantActReferenceIdeal.τ).loc Cert.QuantActReferenceIdeal.main_arg0) = m ((c.tc : Thread Cert.QuantActIdeal.nD Cert.QuantActIdeal.τ).loc Cert.QuantActIdeal.main_arg0)) →
    ∃ (v0 : (c : Dev Cert.QuantActIdeal.nD) → Buf (Elt Ideal) ((c.tc : Thread Cert.QuantActIdeal.nD Cert.QuantActIdeal.τ).loc Cert.QuantActIdeal.main_v0_0)) (v1 : (c : Dev Cert.QuantActIdeal.nD) → Buf (Elt Ideal) ((c.tc : Thread Cert.QuantActIdeal.nD Cert.QuantActIdeal.τ).loc Cert.QuantActIdeal.main_v0_1)),
      θ_run (Cert.QuantActIdeal.defs (F := Ideal)) (onTc (τ := Cert.QuantActIdeal.τ) (Cert.QuantActIdeal.main (F := Ideal))) ⟨m, fun _ => 0, g⟩ (fun r => ∀ c : Dev Cert.QuantActIdeal.nD,
          r.2.mem ((c.tc : Thread Cert.QuantActIdeal.nD Cert.QuantActIdeal.τ).loc Cert.QuantActIdeal.main_v0_0) = v0 c
          ∧ r.2.mem ((c.tc : Thread Cert.QuantActIdeal.nD Cert.QuantActIdeal.τ).loc Cert.QuantActIdeal.main_v0_1) = v1 c
          ∧ r.2.mem ((c.tc : Thread Cert.QuantActIdeal.nD Cert.QuantActIdeal.τ).loc Cert.QuantActIdeal.main_arg0) = m ((c.tc : Thread Cert.QuantActIdeal.nD Cert.QuantActIdeal.τ).loc Cert.QuantActIdeal.main_arg0))
      ∧ θ_run (Cert.QuantActReferenceIdeal.defs (F := Ideal)) (onTc (τ := Cert.QuantActReferenceIdeal.τ) (Cert.QuantActReferenceIdeal.main (F := Ideal))) ⟨m', fun _ => 0, g'⟩ (fun r => ∀ c : Dev Cert.QuantActReferenceIdeal.nD,
          r.2.mem ((c.tc : Thread Cert.QuantActReferenceIdeal.nD Cert.QuantActReferenceIdeal.τ).loc Cert.QuantActReferenceIdeal.main_v0_0) = v0 c
          ∧ r.2.mem ((c.tc : Thread Cert.QuantActReferenceIdeal.nD Cert.QuantActReferenceIdeal.τ).loc Cert.QuantActReferenceIdeal.main_v0_1) = v1 c
          ∧ r.2.mem ((c.tc : Thread Cert.QuantActReferenceIdeal.nD Cert.QuantActReferenceIdeal.τ).loc Cert.QuantActReferenceIdeal.main_arg0) = m' ((c.tc : Thread Cert.QuantActReferenceIdeal.nD Cert.QuantActReferenceIdeal.τ).loc Cert.QuantActReferenceIdeal.main_arg0))

def Claim : Prop :=
  ∃ (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts) (hQkv : Cert.Qkv.Facts) (hQkvIdeal : Cert.QkvIdeal.Facts) (hQkvReferenceIdeal : Cert.QkvReferenceIdeal.Facts) (hWo : Cert.Wo.Facts) (hWoIdeal : Cert.WoIdeal.Facts) (hWoReferenceIdeal : Cert.WoReferenceIdeal.Facts) (hNormX : Cert.NormX.Facts) (hNormXIdeal : Cert.NormXIdeal.Facts) (hNormXReferenceIdeal : Cert.NormXReferenceIdeal.Facts) (hNormH : Cert.NormH.Facts) (hNormHIdeal : Cert.NormHIdeal.Facts) (hNormHReferenceIdeal : Cert.NormHReferenceIdeal.Facts) (hQuantAttn : Cert.QuantAttn.Facts) (hQuantAttnIdeal : Cert.QuantAttnIdeal.Facts) (hQuantAttnReferenceIdeal : Cert.QuantAttnReferenceIdeal.Facts) (hQuantAct : Cert.QuantAct.Facts) (hQuantActIdeal : Cert.QuantActIdeal.Facts) (hQuantActReferenceIdeal : Cert.QuantActReferenceIdeal.Facts) (hPre_metadata_valid : Cert.Pre_metadata_valid.Facts) (hPre_metadata_valid_down : Cert.Pre_metadata_valid_down.Facts) (hPre_metadata_valid_qkv : Cert.Pre_metadata_valid_qkv.Facts) (hPre_metadata_valid_wo : Cert.Pre_metadata_valid_wo.Facts),
    quiescent_GateUp (hGateUp := hGateUp)
    ∧ quiescent_GateUpIdeal (hGateUpIdeal := hGateUpIdeal)
    ∧ quiescent_GateUpIdeal_pre_metadata_valid (hGateUpIdeal := hGateUpIdeal) (hPre_metadata_valid := hPre_metadata_valid)
    ∧ quiescent_GateUpReferenceIdeal (hGateUpReferenceIdeal := hGateUpReferenceIdeal)
    ∧ quiescent_GateUpReferenceIdeal_pre_metadata_valid (hGateUpReferenceIdeal := hGateUpReferenceIdeal) (hPre_metadata_valid := hPre_metadata_valid)
    ∧ quiescent_Down (hDown := hDown)
    ∧ quiescent_DownIdeal (hDownIdeal := hDownIdeal)
    ∧ quiescent_DownIdeal_pre_metadata_valid_down (hDownIdeal := hDownIdeal) (hPre_metadata_valid_down := hPre_metadata_valid_down)
    ∧ quiescent_DownReferenceIdeal (hDownReferenceIdeal := hDownReferenceIdeal)
    ∧ quiescent_DownReferenceIdeal_pre_metadata_valid_down (hDownReferenceIdeal := hDownReferenceIdeal) (hPre_metadata_valid_down := hPre_metadata_valid_down)
    ∧ quiescent_Qkv (hQkv := hQkv)
    ∧ quiescent_QkvIdeal (hQkvIdeal := hQkvIdeal)
    ∧ quiescent_QkvIdeal_pre_metadata_valid_qkv (hQkvIdeal := hQkvIdeal) (hPre_metadata_valid_qkv := hPre_metadata_valid_qkv)
    ∧ quiescent_QkvReferenceIdeal (hQkvReferenceIdeal := hQkvReferenceIdeal)
    ∧ quiescent_QkvReferenceIdeal_pre_metadata_valid_qkv (hQkvReferenceIdeal := hQkvReferenceIdeal) (hPre_metadata_valid_qkv := hPre_metadata_valid_qkv)
    ∧ quiescent_Wo (hWo := hWo)
    ∧ quiescent_WoIdeal (hWoIdeal := hWoIdeal)
    ∧ quiescent_WoIdeal_pre_metadata_valid_wo (hWoIdeal := hWoIdeal) (hPre_metadata_valid_wo := hPre_metadata_valid_wo)
    ∧ quiescent_WoReferenceIdeal (hWoReferenceIdeal := hWoReferenceIdeal)
    ∧ quiescent_WoReferenceIdeal_pre_metadata_valid_wo (hWoReferenceIdeal := hWoReferenceIdeal) (hPre_metadata_valid_wo := hPre_metadata_valid_wo)
    ∧ quiescent_NormX (hNormX := hNormX)
    ∧ quiescent_NormXIdeal (hNormXIdeal := hNormXIdeal)
    ∧ quiescent_NormXReferenceIdeal (hNormXReferenceIdeal := hNormXReferenceIdeal)
    ∧ quiescent_NormH (hNormH := hNormH)
    ∧ quiescent_NormHIdeal (hNormHIdeal := hNormHIdeal)
    ∧ quiescent_NormHReferenceIdeal (hNormHReferenceIdeal := hNormHReferenceIdeal)
    ∧ quiescent_QuantAttn (hQuantAttn := hQuantAttn)
    ∧ quiescent_QuantAttnIdeal (hQuantAttnIdeal := hQuantAttnIdeal)
    ∧ quiescent_QuantAttnReferenceIdeal (hQuantAttnReferenceIdeal := hQuantAttnReferenceIdeal)
    ∧ quiescent_QuantAct (hQuantAct := hQuantAct)
    ∧ quiescent_QuantActIdeal (hQuantActIdeal := hQuantActIdeal)
    ∧ quiescent_QuantActReferenceIdeal (hQuantActReferenceIdeal := hQuantActReferenceIdeal)
    ∧ preserves_GateUp_GateUpIdeal
    ∧ algebraic_GateUpIdeal_GateUpReferenceIdeal_pre_metadata_valid (hGateUpIdeal := hGateUpIdeal) (hGateUpReferenceIdeal := hGateUpReferenceIdeal) (hPre_metadata_valid := hPre_metadata_valid)
    ∧ preserves_Down_DownIdeal
    ∧ algebraic_DownIdeal_DownReferenceIdeal_pre_metadata_valid_down (hDownIdeal := hDownIdeal) (hDownReferenceIdeal := hDownReferenceIdeal) (hPre_metadata_valid_down := hPre_metadata_valid_down)
    ∧ preserves_Qkv_QkvIdeal
    ∧ algebraic_QkvIdeal_QkvReferenceIdeal_pre_metadata_valid_qkv (hQkvIdeal := hQkvIdeal) (hQkvReferenceIdeal := hQkvReferenceIdeal) (hPre_metadata_valid_qkv := hPre_metadata_valid_qkv)
    ∧ preserves_Wo_WoIdeal
    ∧ algebraic_WoIdeal_WoReferenceIdeal_pre_metadata_valid_wo (hWoIdeal := hWoIdeal) (hWoReferenceIdeal := hWoReferenceIdeal) (hPre_metadata_valid_wo := hPre_metadata_valid_wo)
    ∧ preserves_NormX_NormXIdeal
    ∧ algebraic_NormXIdeal_NormXReferenceIdeal (hNormXIdeal := hNormXIdeal) (hNormXReferenceIdeal := hNormXReferenceIdeal)
    ∧ preserves_NormH_NormHIdeal
    ∧ algebraic_NormHIdeal_NormHReferenceIdeal (hNormHIdeal := hNormHIdeal) (hNormHReferenceIdeal := hNormHReferenceIdeal)
    ∧ preserves_QuantAttn_QuantAttnIdeal
    ∧ algebraic_QuantAttnIdeal_QuantAttnReferenceIdeal (hQuantAttnIdeal := hQuantAttnIdeal) (hQuantAttnReferenceIdeal := hQuantAttnReferenceIdeal)
    ∧ preserves_QuantAct_QuantActIdeal
    ∧ algebraic_QuantActIdeal_QuantActReferenceIdeal (hQuantActIdeal := hQuantActIdeal) (hQuantActReferenceIdeal := hQuantActReferenceIdeal)
-- ==== Pre_metadata_valid.lean ====
abbrev S96x4096 : Shape := ⟨2, ![96, 4096]⟩
abbrev S96x1 : Shape := ⟨2, ![96, 1]⟩
abbrev S28672x2048 : Shape := ⟨2, ![28672, 2048]⟩
abbrev S28672x256 : Shape := ⟨2, ![28672, 256]⟩
abbrev S28672 : Shape := ⟨1, ![28672]⟩
abbrev S_ : Shape := ⟨0, ![]⟩

class Facts : Prop where
  natLt_16_32 : 16 < 32
  bcast_S_S28672x256 : S_.BroadcastsInDim S28672x256 (![] : Fin 0 → Fin S28672x256.rank)
  reducesTo_S28672x256_S_d0_1 : S28672x256.ReducesTo [0, 1] S_
  h_S_ : 0 < S_.numel

variable [Facts]

def fn_part2 {F : FTy → Type} [FloatOps F] (main_v0 : IVec S28672x256 32) (main_v29 : IVec S28672x256 1) (main_v33 : IVec S28672x256 32) : IVec S_ 1 :=
  let main_c_13 : IVec S_ 32 := constantI S_ 32 14#32
  let main_v34 : IVec S28672x256 32 := broadcastInDim S28672x256 ![] bcast_S_S28672x256 main_c_13
  let main_v35 : IVec S28672x256 32 := Host.shrui main_v0 main_v34
  let main_c_14 : IVec S_ 32 := constantI S_ 32 3#32
  let main_v36 : IVec S28672x256 32 := broadcastInDim S28672x256 ![] bcast_S_S28672x256 main_c_14
  let main_v37 : IVec S28672x256 32 := andi main_v35 main_v36
  let main_v38 : IVec S28672x256 1 := cmpi .slt main_v33 main_v37
  let main_v39 : IVec S28672x256 1 := andi main_v29 main_v38
  let main_c_15 : IVec S_ 1 := constantI S_ 1 1#1
  let main_v40 : IVec S_ 1 := (fun x v => Host.reduce IntOp.andi x v reducesTo_S28672x256_S_d0_1 h_S_) main_v39 main_c_15
  main_v40

def fn_part1 {F : FTy → Type} [FloatOps F] (main_v0 : IVec S28672x256 32) (main_v9 : IVec S28672x256 1) (main_v13 : IVec S28672x256 32) (main_v15 : IVec S28672x256 32) (main_c_6 : IVec S_ 32) : IVec S_ 1 :=
  let main_v16 : IVec S28672x256 32 := broadcastInDim S28672x256 ![] bcast_S_S28672x256 main_c_6
  let main_v17 : IVec S28672x256 32 := andi main_v15 main_v16
  let main_v18 : IVec S28672x256 1 := cmpi .slt main_v13 main_v17
  let main_v19 : IVec S28672x256 1 := andi main_v9 main_v18
  let main_c_7 : IVec S_ 32 := constantI S_ 32 8#32
  let main_v20 : IVec S28672x256 32 := broadcastInDim S28672x256 ![] bcast_S_S28672x256 main_c_7
  let main_v21 : IVec S28672x256 32 := Host.shrui main_v0 main_v20
  let main_c_8 : IVec S_ 32 := constantI S_ 32 3#32
  let main_v22 : IVec S28672x256 32 := broadcastInDim S28672x256 ![] bcast_S_S28672x256 main_c_8
  let main_v23 : IVec S28672x256 32 := andi main_v21 main_v22
  let main_c_9 : IVec S_ 32 := constantI S_ 32 10#32
  let main_v24 : IVec S28672x256 32 := broadcastInDim S28672x256 ![] bcast_S_S28672x256 main_c_9
  let main_v25 : IVec S28672x256 32 := Host.shrui main_v0 main_v24
  let main_c_10 : IVec S_ 32 := constantI S_ 32 3#32
  let main_v26 : IVec S28672x256 32 := broadcastInDim S28672x256 ![] bcast_S_S28672x256 main_c_10
  let main_v27 : IVec S28672x256 32 := andi main_v25 main_v26
  let main_v28 : IVec S28672x256 1 := cmpi .slt main_v23 main_v27
  let main_v29 : IVec S28672x256 1 := andi main_v19 main_v28
  let main_c_11 : IVec S_ 32 := constantI S_ 32 12#32
  let main_v30 : IVec S28672x256 32 := broadcastInDim S28672x256 ![] bcast_S_S28672x256 main_c_11
  let main_v31 : IVec S28672x256 32 := Host.shrui main_v0 main_v30
  let main_c_12 : IVec S_ 32 := constantI S_ 32 3#32
  let main_v32 : IVec S28672x256 32 := broadcastInDim S28672x256 ![] bcast_S_S28672x256 main_c_12
  let main_v33 : IVec S28672x256 32 := andi main_v31 main_v32
  fn_part2 (F := F) main_v0 main_v29 main_v33

def fn {F : FTy → Type} [FloatOps F] (main_arg0 : FVec F S96x4096 .fp8e4m3) (main_arg1 : FVec F S96x1 .f32) (main_arg2 : IVec S28672x2048 8) (main_arg3 : IVec S28672x256 16) (main_arg4 : FVec F S28672 .f32) : IVec S_ 1 :=
  let main_v0 : IVec S28672x256 32 := (extui 32 · natLt_16_32) main_arg3
  let main_c : IVec S_ 32 := constantI S_ 32 0#32
  let main_v1 : IVec S28672x256 32 := broadcastInDim S28672x256 ![] bcast_S_S28672x256 main_c
  let main_v2 : IVec S28672x256 32 := Host.shrui main_v0 main_v1
  let main_c_0 : IVec S_ 32 := constantI S_ 32 3#32
  let main_v3 : IVec S28672x256 32 := broadcastInDim S28672x256 ![] bcast_S_S28672x256 main_c_0
  let main_v4 : IVec S28672x256 32 := andi main_v2 main_v3
  let main_c_1 : IVec S_ 32 := constantI S_ 32 2#32
  let main_v5 : IVec S28672x256 32 := broadcastInDim S28672x256 ![] bcast_S_S28672x256 main_c_1
  let main_v6 : IVec S28672x256 32 := Host.shrui main_v0 main_v5
  let main_c_2 : IVec S_ 32 := constantI S_ 32 3#32
  let main_v7 : IVec S28672x256 32 := broadcastInDim S28672x256 ![] bcast_S_S28672x256 main_c_2
  let main_v8 : IVec S28672x256 32 := andi main_v6 main_v7
  let main_v9 : IVec S28672x256 1 := cmpi .slt main_v4 main_v8
  let main_c_3 : IVec S_ 32 := constantI S_ 32 4#32
  let main_v10 : IVec S28672x256 32 := broadcastInDim S28672x256 ![] bcast_S_S28672x256 main_c_3
  let main_v11 : IVec S28672x256 32 := Host.shrui main_v0 main_v10
  let main_c_4 : IVec S_ 32 := constantI S_ 32 3#32
  let main_v12 : IVec S28672x256 32 := broadcastInDim S28672x256 ![] bcast_S_S28672x256 main_c_4
  let main_v13 : IVec S28672x256 32 := andi main_v11 main_v12
  let main_c_5 : IVec S_ 32 := constantI S_ 32 6#32
  let main_v14 : IVec S28672x256 32 := broadcastInDim S28672x256 ![] bcast_S_S28672x256 main_c_5
  let main_v15 : IVec S28672x256 32 := Host.shrui main_v0 main_v14
  let main_c_6 : IVec S_ 32 := constantI S_ 32 3#32
  fn_part1 (F := F) main_v0 main_v9 main_v13 main_v15 main_c_6
-- ==== Pre_metadata_valid_down.lean ====
abbrev S96x14336 : Shape := ⟨2, ![96, 14336]⟩
abbrev S96x1 : Shape := ⟨2, ![96, 1]⟩
abbrev S4096x7168 : Shape := ⟨2, ![4096, 7168]⟩
abbrev S4096x896 : Shape := ⟨2, ![4096, 896]⟩
abbrev S4096 : Shape := ⟨1, ![4096]⟩
abbrev S96x4096 : Shape := ⟨2, ![96, 4096]⟩
abbrev S_ : Shape := ⟨0, ![]⟩

class Facts : Prop where
  natLt_16_32 : 16 < 32
  bcast_S_S4096x896 : S_.BroadcastsInDim S4096x896 (![] : Fin 0 → Fin S4096x896.rank)
  reducesTo_S4096x896_S_d0_1 : S4096x896.ReducesTo [0, 1] S_
  h_S_ : 0 < S_.numel

variable [Facts]

def fn_part2 {F : FTy → Type} [FloatOps F] (main_v0 : IVec S4096x896 32) (main_v29 : IVec S4096x896 1) (main_v33 : IVec S4096x896 32) : IVec S_ 1 :=
  let main_c_13 : IVec S_ 32 := constantI S_ 32 14#32
  let main_v34 : IVec S4096x896 32 := broadcastInDim S4096x896 ![] bcast_S_S4096x896 main_c_13
  let main_v35 : IVec S4096x896 32 := Host.shrui main_v0 main_v34
  let main_c_14 : IVec S_ 32 := constantI S_ 32 3#32
  let main_v36 : IVec S4096x896 32 := broadcastInDim S4096x896 ![] bcast_S_S4096x896 main_c_14
  let main_v37 : IVec S4096x896 32 := andi main_v35 main_v36
  let main_v38 : IVec S4096x896 1 := cmpi .slt main_v33 main_v37
  let main_v39 : IVec S4096x896 1 := andi main_v29 main_v38
  let main_c_15 : IVec S_ 1 := constantI S_ 1 1#1
  let main_v40 : IVec S_ 1 := (fun x v => Host.reduce IntOp.andi x v reducesTo_S4096x896_S_d0_1 h_S_) main_v39 main_c_15
  main_v40

def fn_part1 {F : FTy → Type} [FloatOps F] (main_v0 : IVec S4096x896 32) (main_v9 : IVec S4096x896 1) (main_v13 : IVec S4096x896 32) (main_v15 : IVec S4096x896 32) (main_c_6 : IVec S_ 32) : IVec S_ 1 :=
  let main_v16 : IVec S4096x896 32 := broadcastInDim S4096x896 ![] bcast_S_S4096x896 main_c_6
  let main_v17 : IVec S4096x896 32 := andi main_v15 main_v16
  let main_v18 : IVec S4096x896 1 := cmpi .slt main_v13 main_v17
  let main_v19 : IVec S4096x896 1 := andi main_v9 main_v18
  let main_c_7 : IVec S_ 32 := constantI S_ 32 8#32
  let main_v20 : IVec S4096x896 32 := broadcastInDim S4096x896 ![] bcast_S_S4096x896 main_c_7
  let main_v21 : IVec S4096x896 32 := Host.shrui main_v0 main_v20
  let main_c_8 : IVec S_ 32 := constantI S_ 32 3#32
  let main_v22 : IVec S4096x896 32 := broadcastInDim S4096x896 ![] bcast_S_S4096x896 main_c_8
  let main_v23 : IVec S4096x896 32 := andi main_v21 main_v22
  let main_c_9 : IVec S_ 32 := constantI S_ 32 10#32
  let main_v24 : IVec S4096x896 32 := broadcastInDim S4096x896 ![] bcast_S_S4096x896 main_c_9
  let main_v25 : IVec S4096x896 32 := Host.shrui main_v0 main_v24
  let main_c_10 : IVec S_ 32 := constantI S_ 32 3#32
  let main_v26 : IVec S4096x896 32 := broadcastInDim S4096x896 ![] bcast_S_S4096x896 main_c_10
  let main_v27 : IVec S4096x896 32 := andi main_v25 main_v26
  let main_v28 : IVec S4096x896 1 := cmpi .slt main_v23 main_v27
  let main_v29 : IVec S4096x896 1 := andi main_v19 main_v28
  let main_c_11 : IVec S_ 32 := constantI S_ 32 12#32
  let main_v30 : IVec S4096x896 32 := broadcastInDim S4096x896 ![] bcast_S_S4096x896 main_c_11
  let main_v31 : IVec S4096x896 32 := Host.shrui main_v0 main_v30
  let main_c_12 : IVec S_ 32 := constantI S_ 32 3#32
  let main_v32 : IVec S4096x896 32 := broadcastInDim S4096x896 ![] bcast_S_S4096x896 main_c_12
  let main_v33 : IVec S4096x896 32 := andi main_v31 main_v32
  fn_part2 (F := F) main_v0 main_v29 main_v33

def fn {F : FTy → Type} [FloatOps F] (main_arg0 : FVec F S96x14336 .fp8e4m3) (main_arg1 : FVec F S96x1 .f32) (main_arg2 : IVec S4096x7168 8) (main_arg3 : IVec S4096x896 16) (main_arg4 : FVec F S4096 .f32) (main_arg5 : FVec F S96x4096 .f32) : IVec S_ 1 :=
  let main_v0 : IVec S4096x896 32 := (extui 32 · natLt_16_32) main_arg3
  let main_c : IVec S_ 32 := constantI S_ 32 0#32
  let main_v1 : IVec S4096x896 32 := broadcastInDim S4096x896 ![] bcast_S_S4096x896 main_c
  let main_v2 : IVec S4096x896 32 := Host.shrui main_v0 main_v1
  let main_c_0 : IVec S_ 32 := constantI S_ 32 3#32
  let main_v3 : IVec S4096x896 32 := broadcastInDim S4096x896 ![] bcast_S_S4096x896 main_c_0
  let main_v4 : IVec S4096x896 32 := andi main_v2 main_v3
  let main_c_1 : IVec S_ 32 := constantI S_ 32 2#32
  let main_v5 : IVec S4096x896 32 := broadcastInDim S4096x896 ![] bcast_S_S4096x896 main_c_1
  let main_v6 : IVec S4096x896 32 := Host.shrui main_v0 main_v5
  let main_c_2 : IVec S_ 32 := constantI S_ 32 3#32
  let main_v7 : IVec S4096x896 32 := broadcastInDim S4096x896 ![] bcast_S_S4096x896 main_c_2
  let main_v8 : IVec S4096x896 32 := andi main_v6 main_v7
  let main_v9 : IVec S4096x896 1 := cmpi .slt main_v4 main_v8
  let main_c_3 : IVec S_ 32 := constantI S_ 32 4#32
  let main_v10 : IVec S4096x896 32 := broadcastInDim S4096x896 ![] bcast_S_S4096x896 main_c_3
  let main_v11 : IVec S4096x896 32 := Host.shrui main_v0 main_v10
  let main_c_4 : IVec S_ 32 := constantI S_ 32 3#32
  let main_v12 : IVec S4096x896 32 := broadcastInDim S4096x896 ![] bcast_S_S4096x896 main_c_4
  let main_v13 : IVec S4096x896 32 := andi main_v11 main_v12
  let main_c_5 : IVec S_ 32 := constantI S_ 32 6#32
  let main_v14 : IVec S4096x896 32 := broadcastInDim S4096x896 ![] bcast_S_S4096x896 main_c_5
  let main_v15 : IVec S4096x896 32 := Host.shrui main_v0 main_v14
  let main_c_6 : IVec S_ 32 := constantI S_ 32 3#32
  fn_part1 (F := F) main_v0 main_v9 main_v13 main_v15 main_c_6
-- ==== Pre_metadata_valid_qkv.lean ====
abbrev S96x4096 : Shape := ⟨2, ![96, 4096]⟩
abbrev S96x1 : Shape := ⟨2, ![96, 1]⟩
abbrev S6144x2048 : Shape := ⟨2, ![6144, 2048]⟩
abbrev S6144x256 : Shape := ⟨2, ![6144, 256]⟩
abbrev S6144 : Shape := ⟨1, ![6144]⟩
abbrev S_ : Shape := ⟨0, ![]⟩

class Facts : Prop where
  natLt_16_32 : 16 < 32
  bcast_S_S6144x256 : S_.BroadcastsInDim S6144x256 (![] : Fin 0 → Fin S6144x256.rank)
  reducesTo_S6144x256_S_d0_1 : S6144x256.ReducesTo [0, 1] S_
  h_S_ : 0 < S_.numel

variable [Facts]

def fn_part2 {F : FTy → Type} [FloatOps F] (main_v0 : IVec S6144x256 32) (main_v29 : IVec S6144x256 1) (main_v33 : IVec S6144x256 32) : IVec S_ 1 :=
  let main_c_13 : IVec S_ 32 := constantI S_ 32 14#32
  let main_v34 : IVec S6144x256 32 := broadcastInDim S6144x256 ![] bcast_S_S6144x256 main_c_13
  let main_v35 : IVec S6144x256 32 := Host.shrui main_v0 main_v34
  let main_c_14 : IVec S_ 32 := constantI S_ 32 3#32
  let main_v36 : IVec S6144x256 32 := broadcastInDim S6144x256 ![] bcast_S_S6144x256 main_c_14
  let main_v37 : IVec S6144x256 32 := andi main_v35 main_v36
  let main_v38 : IVec S6144x256 1 := cmpi .slt main_v33 main_v37
  let main_v39 : IVec S6144x256 1 := andi main_v29 main_v38
  let main_c_15 : IVec S_ 1 := constantI S_ 1 1#1
  let main_v40 : IVec S_ 1 := (fun x v => Host.reduce IntOp.andi x v reducesTo_S6144x256_S_d0_1 h_S_) main_v39 main_c_15
  main_v40

def fn_part1 {F : FTy → Type} [FloatOps F] (main_v0 : IVec S6144x256 32) (main_v9 : IVec S6144x256 1) (main_v13 : IVec S6144x256 32) (main_v15 : IVec S6144x256 32) (main_c_6 : IVec S_ 32) : IVec S_ 1 :=
  let main_v16 : IVec S6144x256 32 := broadcastInDim S6144x256 ![] bcast_S_S6144x256 main_c_6
  let main_v17 : IVec S6144x256 32 := andi main_v15 main_v16
  let main_v18 : IVec S6144x256 1 := cmpi .slt main_v13 main_v17
  let main_v19 : IVec S6144x256 1 := andi main_v9 main_v18
  let main_c_7 : IVec S_ 32 := constantI S_ 32 8#32
  let main_v20 : IVec S6144x256 32 := broadcastInDim S6144x256 ![] bcast_S_S6144x256 main_c_7
  let main_v21 : IVec S6144x256 32 := Host.shrui main_v0 main_v20
  let main_c_8 : IVec S_ 32 := constantI S_ 32 3#32
  let main_v22 : IVec S6144x256 32 := broadcastInDim S6144x256 ![] bcast_S_S6144x256 main_c_8
  let main_v23 : IVec S6144x256 32 := andi main_v21 main_v22
  let main_c_9 : IVec S_ 32 := constantI S_ 32 10#32
  let main_v24 : IVec S6144x256 32 := broadcastInDim S6144x256 ![] bcast_S_S6144x256 main_c_9
  let main_v25 : IVec S6144x256 32 := Host.shrui main_v0 main_v24
  let main_c_10 : IVec S_ 32 := constantI S_ 32 3#32
  let main_v26 : IVec S6144x256 32 := broadcastInDim S6144x256 ![] bcast_S_S6144x256 main_c_10
  let main_v27 : IVec S6144x256 32 := andi main_v25 main_v26
  let main_v28 : IVec S6144x256 1 := cmpi .slt main_v23 main_v27
  let main_v29 : IVec S6144x256 1 := andi main_v19 main_v28
  let main_c_11 : IVec S_ 32 := constantI S_ 32 12#32
  let main_v30 : IVec S6144x256 32 := broadcastInDim S6144x256 ![] bcast_S_S6144x256 main_c_11
  let main_v31 : IVec S6144x256 32 := Host.shrui main_v0 main_v30
  let main_c_12 : IVec S_ 32 := constantI S_ 32 3#32
  let main_v32 : IVec S6144x256 32 := broadcastInDim S6144x256 ![] bcast_S_S6144x256 main_c_12
  let main_v33 : IVec S6144x256 32 := andi main_v31 main_v32
  fn_part2 (F := F) main_v0 main_v29 main_v33

def fn {F : FTy → Type} [FloatOps F] (main_arg0 : FVec F S96x4096 .fp8e4m3) (main_arg1 : FVec F S96x1 .f32) (main_arg2 : IVec S6144x2048 8) (main_arg3 : IVec S6144x256 16) (main_arg4 : FVec F S6144 .f32) : IVec S_ 1 :=
  let main_v0 : IVec S6144x256 32 := (extui 32 · natLt_16_32) main_arg3
  let main_c : IVec S_ 32 := constantI S_ 32 0#32
  let main_v1 : IVec S6144x256 32 := broadcastInDim S6144x256 ![] bcast_S_S6144x256 main_c
  let main_v2 : IVec S6144x256 32 := Host.shrui main_v0 main_v1
  let main_c_0 : IVec S_ 32 := constantI S_ 32 3#32
  let main_v3 : IVec S6144x256 32 := broadcastInDim S6144x256 ![] bcast_S_S6144x256 main_c_0
  let main_v4 : IVec S6144x256 32 := andi main_v2 main_v3
  let main_c_1 : IVec S_ 32 := constantI S_ 32 2#32
  let main_v5 : IVec S6144x256 32 := broadcastInDim S6144x256 ![] bcast_S_S6144x256 main_c_1
  let main_v6 : IVec S6144x256 32 := Host.shrui main_v0 main_v5
  let main_c_2 : IVec S_ 32 := constantI S_ 32 3#32
  let main_v7 : IVec S6144x256 32 := broadcastInDim S6144x256 ![] bcast_S_S6144x256 main_c_2
  let main_v8 : IVec S6144x256 32 := andi main_v6 main_v7
  let main_v9 : IVec S6144x256 1 := cmpi .slt main_v4 main_v8
  let main_c_3 : IVec S_ 32 := constantI S_ 32 4#32
  let main_v10 : IVec S6144x256 32 := broadcastInDim S6144x256 ![] bcast_S_S6144x256 main_c_3
  let main_v11 : IVec S6144x256 32 := Host.shrui main_v0 main_v10
  let main_c_4 : IVec S_ 32 := constantI S_ 32 3#32
  let main_v12 : IVec S6144x256 32 := broadcastInDim S6144x256 ![] bcast_S_S6144x256 main_c_4
  let main_v13 : IVec S6144x256 32 := andi main_v11 main_v12
  let main_c_5 : IVec S_ 32 := constantI S_ 32 6#32
  let main_v14 : IVec S6144x256 32 := broadcastInDim S6144x256 ![] bcast_S_S6144x256 main_c_5
  let main_v15 : IVec S6144x256 32 := Host.shrui main_v0 main_v14
  let main_c_6 : IVec S_ 32 := constantI S_ 32 3#32
  fn_part1 (F := F) main_v0 main_v9 main_v13 main_v15 main_c_6
-- ==== Pre_metadata_valid_wo.lean ====
abbrev S96x4096 : Shape := ⟨2, ![96, 4096]⟩
abbrev S96x1 : Shape := ⟨2, ![96, 1]⟩
abbrev S4096x2048 : Shape := ⟨2, ![4096, 2048]⟩
abbrev S4096x256 : Shape := ⟨2, ![4096, 256]⟩
abbrev S4096 : Shape := ⟨1, ![4096]⟩
abbrev S_ : Shape := ⟨0, ![]⟩

class Facts : Prop where
  natLt_16_32 : 16 < 32
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn_part2 {F : FTy → Type} [FloatOps F] (main_v0 : IVec S4096x256 32) (main_v29 : IVec S4096x256 1) (main_v33 : IVec S4096x256 32) : IVec S_ 1 :=
  let main_c_13 : IVec S_ 32 := constantI S_ 32 14#32
  let main_v34 : IVec S4096x256 32 := broadcastInDim S4096x256 ![] bcast_S_S4096x256 main_c_13
  let main_v35 : IVec S4096x256 32 := Host.shrui main_v0 main_v34
  let main_c_14 : IVec S_ 32 := constantI S_ 32 3#32
  let main_v36 : IVec S4096x256 32 := broadcastInDim S4096x256 ![] bcast_S_S4096x256 main_c_14
  let main_v37 : IVec S4096x256 32 := andi main_v35 main_v36
  let main_v38 : IVec S4096x256 1 := cmpi .slt main_v33 main_v37
  let main_v39 : IVec S4096x256 1 := andi main_v29 main_v38
  let main_c_15 : IVec S_ 1 := constantI S_ 1 1#1
  let main_v40 : IVec S_ 1 := (fun x v => Host.reduce IntOp.andi x v reducesTo_S4096x256_S_d0_1 h_S_) main_v39 main_c_15
  main_v40

def fn_part1 {F : FTy → Type} [FloatOps F] (main_v0 : IVec S4096x256 32) (main_v9 : IVec S4096x256 1) (main_v13 : IVec S4096x256 32) (main_v15 : IVec S4096x256 32) (main_c_6 : IVec S_ 32) : IVec S_ 1 :=
  let main_v16 : IVec S4096x256 32 := broadcastInDim S4096x256 ![] bcast_S_S4096x256 main_c_6
  let main_v17 : IVec S4096x256 32 := andi main_v15 main_v16
  let main_v18 : IVec S4096x256 1 := cmpi .slt main_v13 main_v17
  let main_v19 : IVec S4096x256 1 := andi main_v9 main_v18
  let main_c_7 : IVec S_ 32 := constantI S_ 32 8#32
  let main_v20 : IVec S4096x256 32 := broadcastInDim S4096x256 ![] bcast_S_S4096x256 main_c_7
  let main_v21 : IVec S4096x256 32 := Host.shrui main_v0 main_v20
  let main_c_8 : IVec S_ 32 := constantI S_ 32 3#32
  let main_v22 : IVec S4096x256 32 := broadcastInDim S4096x256 ![] bcast_S_S4096x256 main_c_8
  let main_v23 : IVec S4096x256 32 := andi main_v21 main_v22
  let main_c_9 : IVec S_ 32 := constantI S_ 32 10#32
  let main_v24 : IVec S4096x256 32 := broadcastInDim S4096x256 ![] bcast_S_S4096x256 main_c_9
  let main_v25 : IVec S4096x256 32 := Host.shrui main_v0 main_v24
  let main_c_10 : IVec S_ 32 := constantI S_ 32 3#32
  let main_v26 : IVec S4096x256 32 := broadcastInDim S4096x256 ![] bcast_S_S4096x256 main_c_10
  let main_v27 : IVec S4096x256 32 := andi main_v25 main_v26
  let main_v28 : IVec S4096x256 1 := cmpi .slt main_v23 main_v27
  let main_v29 : IVec S4096x256 1 := andi main_v19 main_v28
  let main_c_11 : IVec S_ 32 := constantI S_ 32 12#32
  let main_v30 : IVec S4096x256 32 := broadcastInDim S4096x256 ![] bcast_S_S4096x256 main_c_11
  let main_v31 : IVec S4096x256 32 := Host.shrui main_v0 main_v30
  let main_c_12 : IVec S_ 32 := constantI S_ 32 3#32
  let main_v32 : IVec S4096x256 32 := broadcastInDim S4096x256 ![] bcast_S_S4096x256 main_c_12
  let main_v33 : IVec S4096x256 32 := andi main_v31 main_v32
  fn_part2 (F := F) main_v0 main_v29 main_v33

def fn {F : FTy → Type} [FloatOps F] (main_arg0 : FVec F S96x4096 .fp8e4m3) (main_arg1 : FVec F S96x1 .f32) (main_arg2 : IVec S4096x2048 8) (main_arg3 : IVec S4096x256 16) (main_arg4 : FVec F S4096 .f32) (main_arg5 : FVec F S96x4096 .bf16) : IVec S_ 1 :=
  let main_v0 : IVec S4096x256 32 := (extui 32 · natLt_16_32) main_arg3
  let main_c : IVec S_ 32 := constantI S_ 32 0#32
  let main_v1 : IVec S4096x256 32 := broadcastInDim S4096x256 ![] bcast_S_S4096x256 main_c
  let main_v2 : IVec S4096x256 32 := Host.shrui main_v0 main_v1
  let main_c_0 : IVec S_ 32 := constantI S_ 32 3#32
  let main_v3 : IVec S4096x256 32 := broadcastInDim S4096x256 ![] bcast_S_S4096x256 main_c_0
  let main_v4 : IVec S4096x256 32 := andi main_v2 main_v3
  let main_c_1 : IVec S_ 32 := constantI S_ 32 2#32
  let main_v5 : IVec S4096x256 32 := broadcastInDim S4096x256 ![] bcast_S_S4096x256 main_c_1
  let main_v6 : IVec S4096x256 32 := Host.shrui main_v0 main_v5
  let main_c_2 : IVec S_ 32 := constantI S_ 32 3#32
  let main_v7 : IVec S4096x256 32 := broadcastInDim S4096x256 ![] bcast_S_S4096x256 main_c_2
  let main_v8 : IVec S4096x256 32 := andi main_v6 main_v7
  let main_v9 : IVec S4096x256 1 := cmpi .slt main_v4 main_v8
  let main_c_3 : IVec S_ 32 := constantI S_ 32 4#32
  let main_v10 : IVec S4096x256 32 := broadcastInDim S4096x256 ![] bcast_S_S4096x256 main_c_3
  let main_v11 : IVec S4096x256 32 := Host.shrui main_v0 main_v10
  let main_c_4 : IVec S_ 32 := constantI S_ 32 3#32
  let main_v12 : IVec S4096x256 32 := broadcastInDim S4096x256 ![] bcast_S_S4096x256 main_c_4
  let main_v13 : IVec S4096x256 32 := andi main_v11 main_v12
  let main_c_5 : IVec S_ 32 := constantI S_ 32 6#32
  let main_v14 : IVec S4096x256 32 := broadcastInDim S4096x256 ![] bcast_S_S4096x256 main_c_5
  let main_v15 : IVec S4096x256 32 := Host.shrui main_v0 main_v14
  let main_c_6 : IVec S_ 32 := constantI S_ 32 3#32
  fn_part1 (F := F) main_v0 main_v9 main_v13 main_v15 main_c_6
-- ==== GateUp.lean ====
abbrev S96x4096 : Shape := ⟨2, ![96, 4096]⟩
abbrev S96x1 : Shape := ⟨2, ![96, 1]⟩
abbrev S28672x2048 : Shape := ⟨2, ![28672, 2048]⟩
abbrev S28672x256 : Shape := ⟨2, ![28672, 256]⟩
abbrev S28672 : Shape := ⟨1, ![28672]⟩
abbrev S96x1024x4 : Shape := ⟨3, ![96, 1024, 4]⟩
abbrev S96x4x1024 : Shape := ⟨3, ![96, 4, 1024]⟩
abbrev S1x28672 : Shape := ⟨2, ![1, 28672]⟩
abbrev S96x14336 : Shape := ⟨2, ![96, 14336]⟩
abbrev S1024x2048 : Shape := ⟨2, ![1024, 2048]⟩
abbrev S1024x256 : Shape := ⟨2, ![1024, 256]⟩
abbrev S1x1024 : Shape := ⟨2, ![1, 1024]⟩
abbrev S96x1024 : Shape := ⟨2, ![96, 1024]⟩
abbrev S8x128 : Shape := ⟨2, ![8, 128]⟩
abbrev S32x128 : Shape := ⟨2, ![32, 128]⟩
abbrev S16x128 : Shape := ⟨2, ![16, 128]⟩
abbrev S8x128x1 : Shape := ⟨3, ![8, 128, 1]⟩
abbrev S256x128 : Shape := ⟨2, ![256, 128]⟩
abbrev S256x256 : Shape := ⟨2, ![256, 256]⟩
abbrev S96x256 : Shape := ⟨2, ![96, 256]⟩
abbrev S1x256 : Shape := ⟨2, ![1, 256]⟩

abbrev nBuf : Space → Nat
  | .hbm => 10
  | .vmem => 16
  | .smem => 0
  | _ => 0

abbrev bufTy : (tb : Table) → Fin (tcTables nBuf tb) → BufTy
  | .hbm, ⟨0, _⟩ => ⟨S96x4096, .fp8e4m3⟩
  | .hbm, ⟨1, _⟩ => ⟨S96x1, .f32⟩
  | .hbm, ⟨2, _⟩ => ⟨S28672x2048, .i8⟩
  | .hbm, ⟨3, _⟩ => ⟨S28672x256, .i16⟩
  | .hbm, ⟨4, _⟩ => ⟨S28672, .f32⟩
  | .hbm, ⟨5, _⟩ => ⟨S96x1024x4, .fp8e4m3⟩
  | .hbm, ⟨6, _⟩ => ⟨S96x4x1024, .fp8e4m3⟩
  | .hbm, ⟨7, _⟩ => ⟨S96x4096, .fp8e4m3⟩
  | .hbm, ⟨8, _⟩ => ⟨S1x28672, .f32⟩
  | .hbm, ⟨9, _⟩ => ⟨S96x14336, .f32⟩
  | .local _ .vmem, ⟨0, _⟩ => ⟨S96x4096, .fp8e4m3⟩
  | .local _ .vmem, ⟨1, _⟩ => ⟨S96x1, .f32⟩
  | .local _ .vmem, ⟨2, _⟩ => ⟨S1024x2048, .i8⟩
  | .local _ .vmem, ⟨3, _⟩ => ⟨S1024x2048, .i8⟩
  | .local _ .vmem, ⟨4, _⟩ => ⟨S1024x256, .i16⟩
  | .local _ .vmem, ⟨5, _⟩ => ⟨S1024x256, .i16⟩
  | .local _ .vmem, ⟨6, _⟩ => ⟨S1x1024, .f32⟩
  | .local _ .vmem, ⟨7, _⟩ => ⟨S1x1024, .f32⟩
  | .local _ .vmem, ⟨8, _⟩ => ⟨S1024x2048, .i8⟩
  | .local _ .vmem, ⟨9, _⟩ => ⟨S1024x2048, .i8⟩
  | .local _ .vmem, ⟨10, _⟩ => ⟨S1024x256, .i16⟩
  | .local _ .vmem, ⟨11, _⟩ => ⟨S1024x256, .i16⟩
  | .local _ .vmem, ⟨12, _⟩ => ⟨S1x1024, .f32⟩
  | .local _ .vmem, ⟨13, _⟩ => ⟨S1x1024, .f32⟩
  | .local _ .vmem, ⟨14, _⟩ => ⟨S96x1024, .f32⟩
  | .local _ .vmem, ⟨15, _⟩ => ⟨S96x1024, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  v1
def k0_off1 (k0_t1 : Fin k0_t1_loop.trips) (c0_i32_11 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v39 : BitVec 32 := Scalar.addi v2 c0_i32_11
  let v40 : Index := Scalar.indexCast v39
  let c0 : Index := 0#32
  ![v40.toNat, 0]
def k0_off2 (k0_t1 : Fin k0_t1_loop.trips) (c0_i32_77 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v225 : BitVec 32 := Scalar.addi v2 c0_i32_77
  let v226 : Index := Scalar.indexCast v225
  let c0_78 : Index := 0#32
  ![v226.toNat, 0]
def k0_off3 (k0_t1 : Fin k0_t1_loop.trips) (c0_i32_77 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v225 : BitVec 32 := Scalar.addi v2 c0_i32_77
  let v237 : Index := Scalar.indexCast v225
  let c128 : Index := 128#32
  ![v237.toNat, 128]
def k0_off4 (k0_t1 : Fin k0_t1_loop.trips) (c0_i32_243 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v827 : BitVec 32 := Scalar.addi v2 c0_i32_243
  let v828 : Index := Scalar.indexCast v827
  let c256 : Index := 256#32
  ![v828.toNat, 256]
def k0_off5 (k0_t1 : Fin k0_t1_loop.trips) (c0_i32_243 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v827 : BitVec 32 := Scalar.addi v2 c0_i32_243
  let v839 : Index := Scalar.indexCast v827
  let c384 : Index := 384#32
  ![v839.toNat, 384]
def k0_off6 (k0_t1 : Fin k0_t1_loop.trips) (c0_i32_418 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v1453 : BitVec 32 := Scalar.addi v2 c0_i32_418
  let v1454 : Index := Scalar.indexCast v1453
  let c512 : Index := 512#32
  ![v1454.toNat, 512]
def k0_off7 (k0_t1 : Fin k0_t1_loop.trips) (c0_i32_418 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v1453 : BitVec 32 := Scalar.addi v2 c0_i32_418
  let v1465 : Index := Scalar.indexCast v1453
  let c640 : Index := 640#32
  ![v1465.toNat, 640]
def k0_off8 (k0_t1 : Fin k0_t1_loop.trips) (c0_i32_585 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v2055 : BitVec 32 := Scalar.addi v2 c0_i32_585
  let v2056 : Index := Scalar.indexCast v2055
  let c768 : Index := 768#32
  ![v2056.toNat, 768]
def k0_off9 (k0_t1 : Fin k0_t1_loop.trips) (c0_i32_585 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v2055 : BitVec 32 := Scalar.addi v2 c0_i32_585
  let v2067 : Index := Scalar.indexCast v2055
  let c896 : Index := 896#32
  ![v2067.toNat, 896]
def k0_off10 (k0_t1 : Fin k0_t1_loop.trips) (c0_i32_760 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v2683 : BitVec 32 := Scalar.addi v2 c0_i32_760
  let v2684 : Index := Scalar.indexCast v2683
  let c128_761 : Index := 128#32
  ![v2684.toNat, 128]
def k0_off11 (k0_t1 : Fin k0_t1_loop.trips) (c0_i32_833 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v2869 : BitVec 32 := Scalar.addi v2 c0_i32_833
  let v2870 : Index := Scalar.indexCast v2869
  let c1024_834 : Index := 1024#32
  ![v2870.toNat, 1024]
def k0_off12 (k0_t1 : Fin k0_t1_loop.trips) (c0_i32_833 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v2869 : BitVec 32 := Scalar.addi v2 c0_i32_833
  let v2881 : Index := Scalar.indexCast v2869
  let c1152 : Index := 1152#32
  ![v2881.toNat, 1152]
def k0_off13 (k0_t1 : Fin k0_t1_loop.trips) (c0_i32_1001 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v3471 : BitVec 32 := Scalar.addi v2 c0_i32_1001
  let v3472 : Index := Scalar.indexCast v3471
  let c1280_1002 : Index := 1280#32
  ![v3472.toNat, 1280]
def k0_off14 (k0_t1 : Fin k0_t1_loop.trips) (c0_i32_1001 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v3471 : BitVec 32 := Scalar.addi v2 c0_i32_1001
  let v3483 : Index := Scalar.indexCast v3471
  let c1408 : Index := 1408#32
  ![v3483.toNat, 1408]
def k0_off15 (k0_t1 : Fin k0_t1_loop.trips) (c0_i32_1178 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v4101 : BitVec 32 := Scalar.addi v2 c0_i32_1178
  let v4102 : Index := Scalar.indexCast v4101
  let c1536_1179 : Index := 1536#32
  ![v4102.toNat, 1536]
def k0_off16 (k0_t1 : Fin k0_t1_loop.trips) (c0_i32_1178 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v4101 : BitVec 32 := Scalar.addi v2 c0_i32_1178
  let v4113 : Index := Scalar.indexCast v4101
  let c1664 : Index := 1664#32
  ![v4113.toNat, 1664]
def k0_off17 (k0_t1 : Fin k0_t1_loop.trips) (c0_i32_1346 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v4703 : BitVec 32 := Scalar.addi v2 c0_i32_1346
  let v4704 : Index := Scalar.indexCast v4703
  let c1792 : Index := 1792#32
  ![v4704.toNat, 1792]
def k0_off18 (k0_t1 : Fin k0_t1_loop.trips) (c0_i32_1346 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v4703 : BitVec 32 := Scalar.addi v2 c0_i32_1346
  let v4715 : Index := Scalar.indexCast v4703
  let c1920 : Index := 1920#32
  ![v4715.toNat, 1920]
def k0_off19 (k0_t1 : Fin k0_t1_loop.trips) : Fin 2 → Nat :=
  let c0_1524 : Index := 0#32
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v5337 : Index := Scalar.indexCast v2
  ![0, v5337.toNat]
def k0_off20 (k0_t1 : Fin k0_t1_loop.trips) : Fin 2 → Nat :=
  let c0_3088 : Index := 0#32
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v10684 : Index := Scalar.indexCast v2
  ![0, v10684.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S96x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateUpReferenceIdeal.lean ====
abbrev S96x4096 : Shape := ⟨2, ![96, 4096]⟩
abbrev S96x1 : Shape := ⟨2, ![96, 1]⟩
abbrev S28672x2048 : Shape := ⟨2, ![28672, 2048]⟩
abbrev S28672x256 : Shape := ⟨2, ![28672, 256]⟩
abbrev S28672 : Shape := ⟨1, ![28672]⟩
abbrev S28672x1024 : Shape := ⟨2, ![28672, 1024]⟩
abbrev S28672x256x4 : Shape := ⟨3, ![28672, 256, 4]⟩
abbrev S1024 : Shape := ⟨1, ![1024]⟩
abbrev S_ : Shape := ⟨0, ![]⟩
abbrev S1x1024 : Shape := ⟨2, ![1, 1024]⟩
abbrev S96x1024 : Shape := ⟨2, ![96, 1024]⟩
abbrev S1x28672 : Shape := ⟨2, ![1, 28672]⟩
abbrev S96x14336 : Shape := ⟨2, ![96, 14336]⟩
abbrev S96x28672 : Shape := ⟨2, ![96, 28672]⟩

abbrev nBuf : Space → Nat
  | .hbm => 94
  | .vmem => 11
  | .smem => 0
  | _ => 0

abbrev bufTy : (tb : Table) → Fin (tcTables nBuf tb) → BufTy
  | .hbm, ⟨0, _⟩ => ⟨S96x4096, .fp8e4m3⟩
  | .hbm, ⟨1, _⟩ => ⟨S96x1, .f32⟩
  | .hbm, ⟨2, _⟩ => ⟨S28672x2048, .i8⟩
  | .hbm, ⟨3, _⟩ => ⟨S28672x256, .i16⟩
  | .hbm, ⟨4, _⟩ => ⟨S28672, .f32⟩
  | .hbm, ⟨5, _⟩ => ⟨S28672x1024, .i8⟩
  | .hbm, ⟨6, _⟩ => ⟨S28672x1024, .i8⟩
  | .hbm, ⟨7, _⟩ => ⟨S28672x256, .i32⟩
  | .hbm, ⟨8, _⟩ => ⟨S28672x256x4, .i32⟩
  | .hbm, ⟨9, _⟩ => ⟨S28672x1024, .i32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S_, .i1⟩
  | .hbm, ⟨27, _⟩ => ⟨S1024, .i1⟩
  | .hbm, ⟨28, _⟩ => ⟨S1024, .i1⟩
  | .hbm, ⟨29, _⟩ => ⟨S1024, .i1⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1x1024, .i32⟩
  | .hbm, ⟨37, _⟩ => ⟨S28672x1024, .i32⟩
  | .hbm, ⟨38, _⟩ => ⟨S28672x1024, .i32⟩
  | .hbm, ⟨39, _⟩ => ⟨S_, .i32⟩
  | .hbm, ⟨40, _⟩ => ⟨S28672x1024, .i32⟩
  | .hbm, ⟨41, _⟩ => ⟨S28672x1024, .i32⟩
  | .hbm, ⟨42, _⟩ => ⟨S_, .i32⟩
  | .hbm, ⟨43, _⟩ => ⟨S28672x1024, .i32⟩
  | .hbm, ⟨44, _⟩ => ⟨S28672x1024, .i32⟩
  | .hbm, ⟨45, _⟩ => ⟨S_, .i32⟩
  | .hbm, ⟨46, _⟩ => ⟨S28672x1024, .i32⟩
  | .hbm, ⟨47, _⟩ => ⟨S28672x1024, .i32⟩
  | .hbm, ⟨48, _⟩ => ⟨S_, .i32⟩
  | .hbm, ⟨49, _⟩ => ⟨S28672x1024, .i32⟩
  | .hbm, ⟨50, _⟩ => ⟨S28672x1024, .i1⟩
  | .hbm, ⟨51, _⟩ => ⟨S_, .i32⟩
  | .hbm, ⟨52, _⟩ => ⟨S28672x1024, .i32⟩
  | .hbm, ⟨53, _⟩ => ⟨S28672x1024, .i1⟩
  | .hbm, ⟨54, _⟩ => ⟨S_, .i8⟩
  | .hbm, ⟨55, _⟩ => ⟨S28672x1024, .i8⟩
  | .hbm, ⟨56, _⟩ => ⟨S28672x1024, .i8⟩
  | .hbm, ⟨57, _⟩ => ⟨S28672x1024, .i8⟩
  | .hbm, ⟨58, _⟩ => ⟨S_, .i32⟩
  | .hbm, ⟨59, _⟩ => ⟨S28672x1024, .i32⟩
  | .hbm, ⟨60, _⟩ => ⟨S28672x1024, .i1⟩
  | .hbm, ⟨61, _⟩ => ⟨S_, .i32⟩
  | .hbm, ⟨62, _⟩ => ⟨S28672x1024, .i32⟩
  | .hbm, ⟨63, _⟩ => ⟨S28672x1024, .i1⟩
  | .hbm, ⟨64, _⟩ => ⟨S_, .i8⟩
  | .hbm, ⟨65, _⟩ => ⟨S28672x1024, .i8⟩
  | .hbm, ⟨66, _⟩ => ⟨S28672x1024, .i8⟩
  | .hbm, ⟨67, _⟩ => ⟨S28672x1024, .i8⟩
  | .hbm, ⟨68, _⟩ => ⟨S_, .i32⟩
  | .hbm, ⟨69, _⟩ => ⟨S28672x1024, .i32⟩
  | .hbm, ⟨70, _⟩ => ⟨S28672x1024, .i1⟩
  | .hbm, ⟨71, _⟩ => ⟨S_, .i32⟩
  | .hbm, ⟨72, _⟩ => ⟨S28672x1024, .i32⟩
  | .hbm, ⟨73, _⟩ => ⟨S28672x1024, .i1⟩
  | .hbm, ⟨74, _⟩ => ⟨S_, .i8⟩
  | .hbm, ⟨75, _⟩ => ⟨S28672x1024, .i8⟩
  | .hbm, ⟨76, _⟩ => ⟨S28672x1024, .i8⟩
  | .hbm, ⟨77, _⟩ => ⟨S28672x1024, .i8⟩
  | .hbm, ⟨78, _⟩ => ⟨S_, .i32⟩
  | .hbm, ⟨79, _⟩ => ⟨S28672x1024, .i32⟩
  | .hbm, ⟨80, _⟩ => ⟨S28672x1024, .i1⟩
  | .hbm, ⟨81, _⟩ => ⟨S_, .i32⟩
  | .hbm, ⟨82, _⟩ => ⟨S28672x1024, .i32⟩
  | .hbm, ⟨83, _⟩ => ⟨S28672x1024, .i1⟩
  | .hbm, ⟨84, _⟩ => ⟨S_, .i8⟩
  | .hbm, ⟨85, _⟩ => ⟨S28672x1024, .i8⟩
  | .hbm, ⟨86, _⟩ => ⟨S28672x1024, .i8⟩
  | .hbm, ⟨87, _⟩ => ⟨S28672x1024, .i8⟩
  | .hbm, ⟨88, _⟩ => ⟨S96x1024, .fp8e4m3⟩
  | .hbm, ⟨89, _⟩ => ⟨S96x1024, .fp8e4m3⟩
  | .hbm, ⟨90, _⟩ => ⟨S96x1024, .fp8e4m3⟩
  | .hbm, ⟨91, _⟩ => ⟨S96x1024, .fp8e4m3⟩
  | .hbm, ⟨92, _⟩ => ⟨S1x28672, .f32⟩
  | .hbm, ⟨93, _⟩ => ⟨S96x14336, .f32⟩
  | .local _ .vmem, ⟨0, _⟩ => ⟨S96x1024, .fp8e4m3⟩
  | .local _ .vmem, ⟨1, _⟩ => ⟨S96x1024, .fp8e4m3⟩
  | .local _ .vmem, ⟨2, _⟩ => ⟨S96x1024, .fp8e4m3⟩
  | .local _ .vmem, ⟨3, _⟩ => ⟨S96x1024, .fp8e4m3⟩
  | .local _ .vmem, ⟨4, _⟩ => ⟨S28672x1024, .i8⟩
  | .local _ .vmem, ⟨5, _⟩ => ⟨S28672x1024, .i8⟩
  | .local _ .vmem, ⟨6, _⟩ => ⟨S28672x1024, .i8⟩
  | .local _ .vmem, ⟨7, _⟩ => ⟨S28672x1024, .i8⟩
  | .local _ .vmem, ⟨8, _⟩ => ⟨S96x1, .f32⟩
  | .local _ .vmem, ⟨9, _⟩ => ⟨S1x28672, .f32⟩
  | .local _ .vmem, ⟨10, _⟩ => ⟨S96x14336, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_1 : Ref sig .tc := ⟨.hbm, 39, rfl⟩
abbrev main_v12 : Ref sig .tc := ⟨.hbm, 40, rfl⟩
abbrev main_v13 : Ref sig .tc := ⟨.hbm, 41, rfl⟩
abbrev main_c_2 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_c_5 : Ref sig .tc := ⟨.hbm, 51, rfl⟩
abbrev main_v20 : Ref sig .tc := ⟨.hbm, 52, rfl⟩
abbrev main_v21 : Ref sig .tc := ⟨.hbm, 53, rfl⟩
abbrev main_c_6 : Ref sig .tc := ⟨.hbm, 54, rfl⟩
abbrev main_call1_v0 : Ref sig .tc := ⟨.hbm, 55, rfl⟩
abbrev main_v22 : Ref sig .tc := ⟨.hbm, 56, rfl⟩
abbrev main_v23 : Ref sig .tc := ⟨.hbm, 57, rfl⟩
abbrev main_c_7 : Ref sig .tc := ⟨.hbm, 58, rfl⟩
abbrev main_v24 : Ref sig .tc := ⟨.hbm, 59, rfl⟩
abbrev main_v25 : Ref sig .tc := ⟨.hbm, 60, rfl⟩
abbrev main_c_8 : Ref sig .tc := ⟨.hbm, 61, rfl⟩
abbrev main_v26 : Ref sig .tc := ⟨.hbm, 62, rfl⟩
abbrev main_v27 : Ref sig .tc := ⟨.hbm, 63, rfl⟩
abbrev main_c_9 : Ref sig .tc := ⟨.hbm, 64, rfl⟩
abbrev main_call3_v0 : Ref sig .tc := ⟨.hbm, 65, rfl⟩
abbrev main_v28 : Ref sig .tc := ⟨.hbm, 66, rfl⟩
abbrev main_v29 : Ref sig .tc := ⟨.hbm, 67, rfl⟩
abbrev main_c_10 : Ref sig .tc := ⟨.hbm, 68, rfl⟩
abbrev main_v30 : Ref sig .tc := ⟨.hbm, 69, rfl⟩
abbrev main_v31 : Ref sig .tc := ⟨.hbm, 70, rfl⟩
abbrev main_c_11 : Ref sig .tc := ⟨.hbm, 71, rfl⟩
abbrev main_v32 : Ref sig .tc := ⟨.hbm, 72, rfl⟩
abbrev main_v33 : Ref sig .tc := ⟨.hbm, 73, rfl⟩
abbrev main_c_12 : Ref sig .tc := ⟨.hbm, 74, rfl⟩
abbrev main_call5_v0 : Ref sig .tc := ⟨.hbm, 75, rfl⟩
abbrev main_v34 : Ref sig .tc := ⟨.hbm, 76, rfl⟩
abbrev main_v35 : Ref sig .tc := ⟨.hbm, 77, rfl⟩
abbrev main_c_13 : Ref sig .tc := ⟨.hbm, 78, rfl⟩
abbrev main_v36 : Ref sig .tc := ⟨.hbm, 79, rfl⟩
abbrev main_v37 : Ref sig .tc := ⟨.hbm, 80, rfl⟩
abbrev main_c_14 : Ref sig .tc := ⟨.hbm, 81, rfl⟩
abbrev main_v38 : Ref sig .tc := ⟨.hbm, 82, rfl⟩
abbrev main_v39 : Ref sig .tc := ⟨.hbm, 83, rfl⟩
abbrev main_c_15 : Ref sig .tc := ⟨.hbm, 84, rfl⟩
abbrev main_call7_v0 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S96x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28672x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28672x1024 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S28672x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S28672x1024 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x28672 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x14336 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Down.lean ====
abbrev S96x14336 : Shape := ⟨2, ![96, 14336]⟩
abbrev S96x1 : Shape := ⟨2, ![96, 1]⟩
abbrev S4096x7168 : Shape := ⟨2, ![4096, 7168]⟩
abbrev S4096x896 : Shape := ⟨2, ![4096, 896]⟩
abbrev S4096 : Shape := ⟨1, ![4096]⟩
abbrev S96x4096 : Shape := ⟨2, ![96, 4096]⟩
abbrev S96x3584x4 : Shape := ⟨3, ![96, 3584, 4]⟩
abbrev S96x4x3584 : Shape := ⟨3, ![96, 4, 3584]⟩
abbrev S1x4096 : Shape := ⟨2, ![1, 4096]⟩
abbrev S512x7168 : Shape := ⟨2, ![512, 7168]⟩
abbrev S512x896 : Shape := ⟨2, ![512, 896]⟩
abbrev S1x512 : Shape := ⟨2, ![1, 512]⟩
abbrev S96x512 : Shape := ⟨2, ![96, 512]⟩
abbrev S8x128 : Shape := ⟨2, ![8, 128]⟩
abbrev S32x128 : Shape := ⟨2, ![32, 128]⟩
abbrev S16x128 : Shape := ⟨2, ![16, 128]⟩
abbrev S8x128x1 : Shape := ⟨3, ![8, 128, 1]⟩
abbrev S256x128 : Shape := ⟨2, ![256, 128]⟩
abbrev S256x256 : Shape := ⟨2, ![256, 256]⟩
abbrev S96x256 : Shape := ⟨2, ![96, 256]⟩
abbrev S1x256 : Shape := ⟨2, ![1, 256]⟩

abbrev nBuf : Space → Nat
  | .hbm => 11
  | .vmem => 12
  | .smem => 0
  | _ => 0

abbrev bufTy : (tb : Table) → Fin (tcTables nBuf tb) → BufTy
  | .hbm, ⟨0, _⟩ => ⟨S96x14336, .fp8e4m3⟩
  | .hbm, ⟨1, _⟩ => ⟨S96x1, .f32⟩
  | .hbm, ⟨2, _⟩ => ⟨S4096x7168, .i8⟩
  | .hbm, ⟨3, _⟩ => ⟨S4096x896, .i16⟩
  | .hbm, ⟨4, _⟩ => ⟨S4096, .f32⟩
  | .hbm, ⟨5, _⟩ => ⟨S96x4096, .f32⟩
  | .hbm, ⟨6, _⟩ => ⟨S96x3584x4, .fp8e4m3⟩
  | .hbm, ⟨7, _⟩ => ⟨S96x4x3584, .fp8e4m3⟩
  | .hbm, ⟨8, _⟩ => ⟨S96x14336, .fp8e4m3⟩
  | .hbm, ⟨9, _⟩ => ⟨S1x4096, .f32⟩
  | .hbm, ⟨10, _⟩ => ⟨S96x4096, .bf16⟩
  | .local _ .vmem, ⟨0, _⟩ => ⟨S96x14336, .fp8e4m3⟩
  | .local _ .vmem, ⟨1, _⟩ => ⟨S96x1, .f32⟩
  | .local _ .vmem, ⟨2, _⟩ => ⟨S512x7168, .i8⟩
  | .local _ .vmem, ⟨3, _⟩ => ⟨S512x7168, .i8⟩
  | .local _ .vmem, ⟨4, _⟩ => ⟨S512x896, .i16⟩
  | .local _ .vmem, ⟨5, _⟩ => ⟨S512x896, .i16⟩
  | .local _ .vmem, ⟨6, _⟩ => ⟨S1x512, .f32⟩
  | .local _ .vmem, ⟨7, _⟩ => ⟨S1x512, .f32⟩
  | .local _ .vmem, ⟨8, _⟩ => ⟨S96x512, .f32⟩
  | .local _ .vmem, ⟨9, _⟩ => ⟨S96x512, .f32⟩
  | .local _ .vmem, ⟨10, _⟩ => ⟨S96x512, .bf16⟩
  | .local _ .vmem, ⟨11, _⟩ => ⟨S96x512, .bf16⟩
  | _, _ => ⟨S96x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  v1
def k0_off1 (k0_t1 : Fin k0_t1_loop.trips) (c0_i32_11 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v39 : BitVec 32 := Scalar.addi v2 c0_i32_11
  let v40 : Index := Scalar.indexCast v39
  let c0 : Index := 0#32
  ![v40.toNat, 0]
def k0_off2 (k0_t1 : Fin k0_t1_loop.trips) (c0_i32_77 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v225 : BitVec 32 := Scalar.addi v2 c0_i32_77
  let v226 : Index := Scalar.indexCast v225
  let c0_78 : Index := 0#32
  ![v226.toNat, 0]
def k0_off3 (k0_t1 : Fin k0_t1_loop.trips) (c0_i32_77 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v225 : BitVec 32 := Scalar.addi v2 c0_i32_77
  let v237 : Index := Scalar.indexCast v225
  let c128 : Index := 128#32
  ![v237.toNat, 128]
def k0_off4 (k0_t1 : Fin k0_t1_loop.trips) (c0_i32_243 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v827 : BitVec 32 := Scalar.addi v2 c0_i32_243
  let v828 : Index := Scalar.indexCast v827
  let c256 : Index := 256#32
  ![v828.toNat, 256]
def k0_off5 (k0_t1 : Fin k0_t1_loop.trips) (c0_i32_243 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v827 : BitVec 32 := Scalar.addi v2 c0_i32_243
  let v839 : Index := Scalar.indexCast v827
  let c384 : Index := 384#32
  ![v839.toNat, 384]
def k0_off6 (k0_t1 : Fin k0_t1_loop.trips) (c0_i32_418 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v1453 : BitVec 32 := Scalar.addi v2 c0_i32_418
  let v1454 : Index := Scalar.indexCast v1453
  let c512 : Index := 512#32
  ![v1454.toNat, 512]
def k0_off7 (k0_t1 : Fin k0_t1_loop.trips) (c0_i32_418 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v1453 : BitVec 32 := Scalar.addi v2 c0_i32_418
  let v1465 : Index := Scalar.indexCast v1453
  let c640 : Index := 640#32
  ![v1465.toNat, 640]
def k0_off8 (k0_t1 : Fin k0_t1_loop.trips) (c0_i32_585 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2055 : BitVec 32 := Scalar.addi v2 c0_i32_585
  let v2056 : Index := Scalar.indexCast v2055
  let c768 : Index := 768#32
  ![v2056.toNat, 768]
def k0_off9 (k0_t1 : Fin k0_t1_loop.trips) (c0_i32_585 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2055 : BitVec 32 := Scalar.addi v2 c0_i32_585
  let v2067 : Index := Scalar.indexCast v2055
  let c896 : Index := 896#32
  ![v2067.toNat, 896]
def k0_off10 (k0_t1 : Fin k0_t1_loop.trips) (c0_i32_760 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2683 : BitVec 32 := Scalar.addi v2 c0_i32_760
  let v2684 : Index := Scalar.indexCast v2683
  let c128_761 : Index := 128#32
  ![v2684.toNat, 128]
def k0_off11 (k0_t1 : Fin k0_t1_loop.trips) (c0_i32_833 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2869 : BitVec 32 := Scalar.addi v2 c0_i32_833
  let v2870 : Index := Scalar.indexCast v2869
  let c1024 : Index := 1024#32
  ![v2870.toNat, 1024]
def k0_off12 (k0_t1 : Fin k0_t1_loop.trips) (c0_i32_833 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2869 : BitVec 32 := Scalar.addi v2 c0_i32_833
  let v2881 : Index := Scalar.indexCast v2869
  let c1152 : Index := 1152#32
  ![v2881.toNat, 1152]
def k0_off13 (k0_t1 : Fin k0_t1_loop.trips) (c0_i32_1000 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v3471 : BitVec 32 := Scalar.addi v2 c0_i32_1000
  let v3472 : Index := Scalar.indexCast v3471
  let c1280 : Index := 1280#32
  ![v3472.toNat, 1280]
def k0_off14 (k0_t1 : Fin k0_t1_loop.trips) (c0_i32_1000 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v3471 : BitVec 32 := Scalar.addi v2 c0_i32_1000
  let v3483 : Index := Scalar.indexCast v3471
  let c1408 : Index := 1408#32
  ![v3483.toNat, 1408]
def k0_off15 (k0_t1 : Fin k0_t1_loop.trips) (c0_i32_1176 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v4101 : BitVec 32 := Scalar.addi v2 c0_i32_1176
  let v4102 : Index := Scalar.indexCast v4101
  let c1536 : Index := 1536#32
  ![v4102.toNat, 1536]
def k0_off16 (k0_t1 : Fin k0_t1_loop.trips) (c0_i32_1176 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v4101 : BitVec 32 := Scalar.addi v2 c0_i32_1176
  let v4113 : Index := Scalar.indexCast v4101
  let c1664 : Index := 1664#32
  ![v4113.toNat, 1664]
def k0_off17 (k0_t1 : Fin k0_t1_loop.trips) (c0_i32_1343 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v4703 : BitVec 32 := Scalar.addi v2 c0_i32_1343
  let v4704 : Index := Scalar.indexCast v4703
  let c1792 : Index := 1792#32
  ![v4704.toNat, 1792]
def k0_off18 (k0_t1 : Fin k0_t1_loop.trips) (c0_i32_1343 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v4703 : BitVec 32 := Scalar.addi v2 c0_i32_1343
  let v4715 : Index := Scalar.indexCast v4703
  let c1920 : Index := 1920#32
  ![v4715.toNat, 1920]
def k0_off19 (k0_t1 : Fin k0_t1_loop.trips) (c0_i32_1518 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v5331 : BitVec 32 := Scalar.addi v2 c0_i32_1518
  let v5332 : Index := Scalar.indexCast v5331
  let c256_1519 : Index := 256#32
  ![v5332.toNat, 256]
def k0_off20 (k0_t1 : Fin k0_t1_loop.trips) (c0_i32_1591 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v5517 : BitVec 32 := Scalar.addi v2 c0_i32_1591
  let v5518 : Index := Scalar.indexCast v5517
  let c2048 : Index := 2048#32
  ![v5518.toNat, 2048]
def k0_off21 (k0_t1 : Fin k0_t1_loop.trips) (c0_i32_1591 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v5517 : BitVec 32 := Scalar.addi v2 c0_i32_1591
  let v5529 : Index := Scalar.indexCast v5517
  let c2176 : Index := 2176#32
  ![v5529.toNat, 2176]
def k0_off22 (k0_t1 : Fin k0_t1_loop.trips) (c0_i32_1758 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v6119 : BitVec 32 := Scalar.addi v2 c0_i32_1758
  let v6120 : Index := Scalar.indexCast v6119
  let c2304 : Index := 2304#32
  ![v6120.toNat, 2304]
def k0_off23 (k0_t1 : Fin k0_t1_loop.trips) (c0_i32_1758 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v6119 : BitVec 32 := Scalar.addi v2 c0_i32_1758
  let v6131 : Index := Scalar.indexCast v6119
  let c2432 : Index := 2432#32
  ![v6131.toNat, 2432]
def k0_off24 (k0_t1 : Fin k0_t1_loop.trips) (c0_i32_1934 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v6749 : BitVec 32 := Scalar.addi v2 c0_i32_1934
  let v6750 : Index := Scalar.indexCast v6749
  let c2560 : Index := 2560#32
  ![v6750.toNat, 2560]
def k0_off25 (k0_t1 : Fin k0_t1_loop.trips) (c0_i32_1934 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v6749 : BitVec 32 := Scalar.addi v2 c0_i32_1934
  let v6761 : Index := Scalar.indexCast v6749
  let c2688 : Index := 2688#32
  ![v6761.toNat, 2688]
def k0_off26 (k0_t1 : Fin k0_t1_loop.trips) (c0_i32_2101 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v7351 : BitVec 32 := Scalar.addi v2 c0_i32_2101
  let v7352 : Index := Scalar.indexCast v7351
  let c2816 : Index := 2816#32
  ![v7352.toNat, 2816]
def k0_off27 (k0_t1 : Fin k0_t1_loop.trips) (c0_i32_2101 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v7351 : BitVec 32 := Scalar.addi v2 c0_i32_2101
  let v7363 : Index := Scalar.indexCast v7351
  let c2944 : Index := 2944#32
  ![v7363.toNat, 2944]
def k0_off28 (k0_t1 : Fin k0_t1_loop.trips) (c0_i32_2276 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v7979 : BitVec 32 := Scalar.addi v2 c0_i32_2276
  let v7980 : Index := Scalar.indexCast v7979
  let c384_2277 : Index := 384#32
  ![v7980.toNat, 384]
def k0_off29 (k0_t1 : Fin k0_t1_loop.trips) (c0_i32_2349 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v8165 : BitVec 32 := Scalar.addi v2 c0_i32_2349
  let v8166 : Index := Scalar.indexCast v8165
  let c3072 : Index := 3072#32
  ![v8166.toNat, 3072]
def k0_off30 (k0_t1 : Fin k0_t1_loop.trips) (c0_i32_2349 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v8165 : BitVec 32 := Scalar.addi v2 c0_i32_2349
  let v8177 : Index := Scalar.indexCast v8165
  let c3200 : Index := 3200#32
  ![v8177.toNat, 3200]
def k0_off31 (k0_t1 : Fin k0_t1_loop.trips) (c0_i32_2516 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v8767 : BitVec 32 := Scalar.addi v2 c0_i32_2516
  let v8768 : Index := Scalar.indexCast v8767
  let c3328 : Index := 3328#32
  ![v8768.toNat, 3328]
def k0_off32 (k0_t1 : Fin k0_t1_loop.trips) (c0_i32_2516 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v8767 : BitVec 32 := Scalar.addi v2 c0_i32_2516
  let v8779 : Index := Scalar.indexCast v8767
  let c3456 : Index := 3456#32
  ![v8779.toNat, 3456]
def k0_off33 (k0_t1 : Fin k0_t1_loop.trips) (c0_i32_2692 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v9397 : BitVec 32 := Scalar.addi v2 c0_i32_2692
  let v9398 : Index := Scalar.indexCast v9397
  let c3584_2693 : Index := 3584#32
  ![v9398.toNat, 3584]
def k0_off34 (k0_t1 : Fin k0_t1_loop.trips) (c0_i32_2692 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v9397 : BitVec 32 := Scalar.addi v2 c0_i32_2692
  let v9409 : Index := Scalar.indexCast v9397
  let c3712 : Index := 3712#32
  ![v9409.toNat, 3712]
def k0_off35 (k0_t1 : Fin k0_t1_loop.trips) (c0_i32_2860 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v9999 : BitVec 32 := Scalar.addi v2 c0_i32_2860
  let v10000 : Index := Scalar.indexCast v9999
  let c3840_2861 : Index := 3840#32
  ![v10000.toNat, 3840]
def k0_off36 (k0_t1 : Fin k0_t1_loop.trips) (c0_i32_2860 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v9999 : BitVec 32 := Scalar.addi v2 c0_i32_2860
  let v10011 : Index := Scalar.indexCast v9999
  let c3968 : Index := 3968#32
  ![v10011.toNat, 3968]
def k0_off37 (k0_t1 : Fin k0_t1_loop.trips) (c0_i32_3036 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v10627 : BitVec 32 := Scalar.addi v2 c0_i32_3036
  let v10628 : Index := Scalar.indexCast v10627
  let c512_3037 : Index := 512#32
  ![v10628.toNat, 512]
def k0_off38 (k0_t1 : Fin k0_t1_loop.trips) (c0_i32_3109 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v10813 : BitVec 32 := Scalar.addi v2 c0_i32_3109
  let v10814 : Index := Scalar.indexCast v10813
  let c4096_3110 : Index := 4096#32
  ![v10814.toNat, 4096]
def k0_off39 (k0_t1 : Fin k0_t1_loop.trips) (c0_i32_3109 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v10813 : BitVec 32 := Scalar.addi v2 c0_i32_3109
  let v10825 : Index := Scalar.indexCast v10813
  let c4224 : Index := 4224#32
  ![v10825.toNat, 4224]
def k0_off40 (k0_t1 : Fin k0_t1_loop.trips) (c0_i32_3277 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v11415 : BitVec 32 := Scalar.addi v2 c0_i32_3277
  let v11416 : Index := Scalar.indexCast v11415
  let c4352_3278 : Index := 4352#32
  ![v11416.toNat, 4352]
def k0_off41 (k0_t1 : Fin k0_t1_loop.trips) (c0_i32_3277 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v11415 : BitVec 32 := Scalar.addi v2 c0_i32_3277
  let v11427 : Index := Scalar.indexCast v11415
  let c4480 : Index := 4480#32
  ![v11427.toNat, 4480]
def k0_off42 (k0_t1 : Fin k0_t1_loop.trips) (c0_i32_3454 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v12045 : BitVec 32 := Scalar.addi v2 c0_i32_3454
  let v12046 : Index := Scalar.indexCast v12045
  let c4608_3455 : Index := 4608#32
  ![v12046.toNat, 4608]
def k0_off43 (k0_t1 : Fin k0_t1_loop.trips) (c0_i32_3454 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v12045 : BitVec 32 := Scalar.addi v2 c0_i32_3454
  let v12057 : Index := Scalar.indexCast v12045
  let c4736 : Index := 4736#32
  ![v12057.toNat, 4736]
def k0_off44 (k0_t1 : Fin k0_t1_loop.trips) (c0_i32_3622 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v12647 : BitVec 32 := Scalar.addi v2 c0_i32_3622
  let v12648 : Index := Scalar.indexCast v12647
  let c4864_3623 : Index := 4864#32
  ![v12648.toNat, 4864]
def k0_off45 (k0_t1 : Fin k0_t1_loop.trips) (c0_i32_3622 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v12647 : BitVec 32 := Scalar.addi v2 c0_i32_3622
  let v12659 : Index := Scalar.indexCast v12647
  let c4992 : Index := 4992#32
  ![v12659.toNat, 4992]
def k0_off46 (k0_t1 : Fin k0_t1_loop.trips) (c0_i32_3798 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v13275 : BitVec 32 := Scalar.addi v2 c0_i32_3798
  let v13276 : Index := Scalar.indexCast v13275
  let c640_3799 : Index := 640#32
  ![v13276.toNat, 640]
def k0_off47 (k0_t1 : Fin k0_t1_loop.trips) (c0_i32_3871 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v13461 : BitVec 32 := Scalar.addi v2 c0_i32_3871
  let v13462 : Index := Scalar.indexCast v13461
  let c5120_3872 : Index := 5120#32
  ![v13462.toNat, 5120]
def k0_off48 (k0_t1 : Fin k0_t1_loop.trips) (c0_i32_3871 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v13461 : BitVec 32 := Scalar.addi v2 c0_i32_3871
  let v13473 : Index := Scalar.indexCast v13461
  let c5248 : Index := 5248#32
  ![v13473.toNat, 5248]
def k0_off49 (k0_t1 : Fin k0_t1_loop.trips) (c0_i32_4039 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v14063 : BitVec 32 := Scalar.addi v2 c0_i32_4039
  let v14064 : Index := Scalar.indexCast v14063
  let c5376_4040 : Index := 5376#32
  ![v14064.toNat, 5376]
def k0_off50 (k0_t1 : Fin k0_t1_loop.trips) (c0_i32_4039 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v14063 : BitVec 32 := Scalar.addi v2 c0_i32_4039
  let v14075 : Index := Scalar.indexCast v14063
  let c5504 : Index := 5504#32
  ![v14075.toNat, 5504]
def k0_off51 (k0_t1 : Fin k0_t1_loop.trips) (c0_i32_4216 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v14693 : BitVec 32 := Scalar.addi v2 c0_i32_4216
  let v14694 : Index := Scalar.indexCast v14693
  let c5632_4217 : Index := 5632#32
  ![v14694.toNat, 5632]
def k0_off52 (k0_t1 : Fin k0_t1_loop.trips) (c0_i32_4216 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v14693 : BitVec 32 := Scalar.addi v2 c0_i32_4216
  let v14705 : Index := Scalar.indexCast v14693
  let c5760 : Index := 5760#32
  ![v14705.toNat, 5760]
def k0_off53 (k0_t1 : Fin k0_t1_loop.trips) (c0_i32_4384 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v15295 : BitVec 32 := Scalar.addi v2 c0_i32_4384
  let v15296 : Index := Scalar.indexCast v15295
  let c5888_4385 : Index := 5888#32
  ![v15296.toNat, 5888]
def k0_off54 (k0_t1 : Fin k0_t1_loop.trips) (c0_i32_4384 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v15295 : BitVec 32 := Scalar.addi v2 c0_i32_4384
  let v15307 : Index := Scalar.indexCast v15295
  let c6016 : Index := 6016#32
  ![v15307.toNat, 6016]
def k0_off55 (k0_t1 : Fin k0_t1_loop.trips) (c0_i32_4560 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v15923 : BitVec 32 := Scalar.addi v2 c0_i32_4560
  let v15924 : Index := Scalar.indexCast v15923
  let c768_4561 : Index := 768#32
  ![v15924.toNat, 768]
def k0_off56 (k0_t1 : Fin k0_t1_loop.trips) (c0_i32_4633 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v16109 : BitVec 32 := Scalar.addi v2 c0_i32_4633
  let v16110 : Index := Scalar.indexCast v16109
  let c6144_4634 : Index := 6144#32
  ![v16110.toNat, 6144]
def k0_off57 (k0_t1 : Fin k0_t1_loop.trips) (c0_i32_4633 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v16109 : BitVec 32 := Scalar.addi v2 c0_i32_4633
  let v16121 : Index := Scalar.indexCast v16109
  let c6272 : Index := 6272#32
  ![v16121.toNat, 6272]
def k0_off58 (k0_t1 : Fin k0_t1_loop.trips) (c0_i32_4801 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v16711 : BitVec 32 := Scalar.addi v2 c0_i32_4801
  let v16712 : Index := Scalar.indexCast v16711
  let c6400_4802 : Index := 6400#32
  ![v16712.toNat, 6400]
def k0_off59 (k0_t1 : Fin k0_t1_loop.trips) (c0_i32_4801 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v16711 : BitVec 32 := Scalar.addi v2 c0_i32_4801
  let v16723 : Index := Scalar.indexCast v16711
  let c6528 : Index := 6528#32
  ![v16723.toNat, 6528]
def k0_off60 (k0_t1 : Fin k0_t1_loop.trips) (c0_i32_4978 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v17341 : BitVec 32 := Scalar.addi v2 c0_i32_4978
  let v17342 : Index := Scalar.indexCast v17341
  let c6656_4979 : Index := 6656#32
  ![v17342.toNat, 6656]
def k0_off61 (k0_t1 : Fin k0_t1_loop.trips) (c0_i32_4978 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v17341 : BitVec 32 := Scalar.addi v2 c0_i32_4978
  let v17353 : Index := Scalar.indexCast v17341
  let c6784 : Index := 6784#32
  ![v17353.toNat, 6784]
def k0_off62 (k0_t1 : Fin k0_t1_loop.trips) (c0_i32_5146 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v17943 : BitVec 32 := Scalar.addi v2 c0_i32_5146
  let v17944 : Index := Scalar.indexCast v17943
  let c6912 : Index := 6912#32
  ![v17944.toNat, 6912]
def k0_off63 (k0_t1 : Fin k0_t1_loop.trips) (c0_i32_5146 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v17943 : BitVec 32 := Scalar.addi v2 c0_i32_5146
  let v17955 : Index := Scalar.indexCast v17943
  let c7040 : Index := 7040#32
  ![v17955.toNat, 7040]
def k0_off64 (k0_t1 : Fin k0_t1_loop.trips) : Fin 2 → Nat :=
  let c0_5322 : Index := 0#32
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v18574 : Index := Scalar.indexCast v2
  ![0, v18574.toNat]
def k0_off65 (k0_t1 : Fin k0_t1_loop.trips) : Fin 2 → Nat :=
  let c0_5325 : Index := 0#32
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v18579 : Index := Scalar.indexCast v2
  ![0, v18579.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x896 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownReferenceIdeal.lean ====
abbrev S96x14336 : Shape := ⟨2, ![96, 14336]⟩
abbrev S96x1 : Shape := ⟨2, ![96, 1]⟩
abbrev S4096x7168 : Shape := ⟨2, ![4096, 7168]⟩
abbrev S4096x896 : Shape := ⟨2, ![4096, 896]⟩
abbrev S4096 : Shape := ⟨1, ![4096]⟩
abbrev S96x4096 : Shape := ⟨2, ![96, 4096]⟩
abbrev S4096x3584 : Shape := ⟨2, ![4096, 3584]⟩
abbrev S4096x896x4 : Shape := ⟨3, ![4096, 896, 4]⟩
abbrev S3584 : Shape := ⟨1, ![3584]⟩
abbrev S_ : Shape := ⟨0, ![]⟩
abbrev S1x3584 : Shape := ⟨2, ![1, 3584]⟩
abbrev S96x3584 : Shape := ⟨2, ![96, 3584]⟩
abbrev S1x4096 : Shape := ⟨2, ![1, 4096]⟩

abbrev nBuf : Space → Nat
  | .hbm => 95
  | .vmem => 12
  | .smem => 0
  | _ => 0

abbrev bufTy : (tb : Table) → Fin (tcTables nBuf tb) → BufTy
  | .hbm, ⟨0, _⟩ => ⟨S96x14336, .fp8e4m3⟩
  | .hbm, ⟨1, _⟩ => ⟨S96x1, .f32⟩
  | .hbm, ⟨2, _⟩ => ⟨S4096x7168, .i8⟩
  | .hbm, ⟨3, _⟩ => ⟨S4096x896, .i16⟩
  | .hbm, ⟨4, _⟩ => ⟨S4096, .f32⟩
  | .hbm, ⟨5, _⟩ => ⟨S96x4096, .f32⟩
  | .hbm, ⟨6, _⟩ => ⟨S4096x3584, .i8⟩
  | .hbm, ⟨7, _⟩ => ⟨S4096x3584, .i8⟩
  | .hbm, ⟨8, _⟩ => ⟨S4096x896, .i32⟩
  | .hbm, ⟨9, _⟩ => ⟨S4096x896x4, .i32⟩
  | .hbm, ⟨10, _⟩ => ⟨S4096x3584, .i32⟩
  | .hbm, ⟨11, _⟩ => ⟨S3584, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S3584, .i32⟩
  | .hbm, ⟨19, _⟩ => ⟨S3584, .i32⟩
  | .hbm, ⟨20, _⟩ => ⟨S_, .i32⟩
  | .hbm, ⟨21, _⟩ => ⟨S3584, .i32⟩
  | .hbm, ⟨22, _⟩ => ⟨S3584, .i1⟩
  | .hbm, ⟨23, _⟩ => ⟨S_, .i32⟩
  | .hbm, ⟨24, _⟩ => ⟨S3584, .i32⟩
  | .hbm, ⟨25, _⟩ => ⟨S3584, .i1⟩
  | .hbm, ⟨26, _⟩ => ⟨S_, .i32⟩
  | .hbm, ⟨27, _⟩ => ⟨S_, .i1⟩
  | .hbm, ⟨28, _⟩ => ⟨S3584, .i1⟩
  | .hbm, ⟨29, _⟩ => ⟨S3584, .i1⟩
  | .hbm, ⟨30, _⟩ => ⟨S3584, .i1⟩
  | .hbm, ⟨31, _⟩ => ⟨S3584, .i32⟩
  | .hbm, ⟨32, _⟩ => ⟨S3584, .i32⟩
  | .hbm, ⟨33, _⟩ => ⟨S3584, .i32⟩
  | .hbm, ⟨34, _⟩ => ⟨S_, .i32⟩
  | .hbm, ⟨35, _⟩ => ⟨S3584, .i32⟩
  | .hbm, ⟨36, _⟩ => ⟨S3584, .i32⟩
  | .hbm, ⟨37, _⟩ => ⟨S1x3584, .i32⟩
  | .hbm, ⟨38, _⟩ => ⟨S4096x3584, .i32⟩
  | .hbm, ⟨39, _⟩ => ⟨S4096x3584, .i32⟩
  | .hbm, ⟨40, _⟩ => ⟨S_, .i32⟩
  | .hbm, ⟨41, _⟩ => ⟨S4096x3584, .i32⟩
  | .hbm, ⟨42, _⟩ => ⟨S4096x3584, .i32⟩
  | .hbm, ⟨43, _⟩ => ⟨S_, .i32⟩
  | .hbm, ⟨44, _⟩ => ⟨S4096x3584, .i32⟩
  | .hbm, ⟨45, _⟩ => ⟨S4096x3584, .i32⟩
  | .hbm, ⟨46, _⟩ => ⟨S_, .i32⟩
  | .hbm, ⟨47, _⟩ => ⟨S4096x3584, .i32⟩
  | .hbm, ⟨48, _⟩ => ⟨S4096x3584, .i32⟩
  | .hbm, ⟨49, _⟩ => ⟨S_, .i32⟩
  | .hbm, ⟨50, _⟩ => ⟨S4096x3584, .i32⟩
  | .hbm, ⟨51, _⟩ => ⟨S4096x3584, .i1⟩
  | .hbm, ⟨52, _⟩ => ⟨S_, .i32⟩
  | .hbm, ⟨53, _⟩ => ⟨S4096x3584, .i32⟩
  | .hbm, ⟨54, _⟩ => ⟨S4096x3584, .i1⟩
  | .hbm, ⟨55, _⟩ => ⟨S_, .i8⟩
  | .hbm, ⟨56, _⟩ => ⟨S4096x3584, .i8⟩
  | .hbm, ⟨57, _⟩ => ⟨S4096x3584, .i8⟩
  | .hbm, ⟨58, _⟩ => ⟨S4096x3584, .i8⟩
  | .hbm, ⟨59, _⟩ => ⟨S_, .i32⟩
  | .hbm, ⟨60, _⟩ => ⟨S4096x3584, .i32⟩
  | .hbm, ⟨61, _⟩ => ⟨S4096x3584, .i1⟩
  | .hbm, ⟨62, _⟩ => ⟨S_, .i32⟩
  | .hbm, ⟨63, _⟩ => ⟨S4096x3584, .i32⟩
  | .hbm, ⟨64, _⟩ => ⟨S4096x3584, .i1⟩
  | .hbm, ⟨65, _⟩ => ⟨S_, .i8⟩
  | .hbm, ⟨66, _⟩ => ⟨S4096x3584, .i8⟩
  | .hbm, ⟨67, _⟩ => ⟨S4096x3584, .i8⟩
  | .hbm, ⟨68, _⟩ => ⟨S4096x3584, .i8⟩
  | .hbm, ⟨69, _⟩ => ⟨S_, .i32⟩
  | .hbm, ⟨70, _⟩ => ⟨S4096x3584, .i32⟩
  | .hbm, ⟨71, _⟩ => ⟨S4096x3584, .i1⟩
  | .hbm, ⟨72, _⟩ => ⟨S_, .i32⟩
  | .hbm, ⟨73, _⟩ => ⟨S4096x3584, .i32⟩
  | .hbm, ⟨74, _⟩ => ⟨S4096x3584, .i1⟩
  | .hbm, ⟨75, _⟩ => ⟨S_, .i8⟩
  | .hbm, ⟨76, _⟩ => ⟨S4096x3584, .i8⟩
  | .hbm, ⟨77, _⟩ => ⟨S4096x3584, .i8⟩
  | .hbm, ⟨78, _⟩ => ⟨S4096x3584, .i8⟩
  | .hbm, ⟨79, _⟩ => ⟨S_, .i32⟩
  | .hbm, ⟨80, _⟩ => ⟨S4096x3584, .i32⟩
  | .hbm, ⟨81, _⟩ => ⟨S4096x3584, .i1⟩
  | .hbm, ⟨82, _⟩ => ⟨S_, .i32⟩
  | .hbm, ⟨83, _⟩ => ⟨S4096x3584, .i32⟩
  | .hbm, ⟨84, _⟩ => ⟨S4096x3584, .i1⟩
  | .hbm, ⟨85, _⟩ => ⟨S_, .i8⟩
  | .hbm, ⟨86, _⟩ => ⟨S4096x3584, .i8⟩
  | .hbm, ⟨87, _⟩ => ⟨S4096x3584, .i8⟩
  | .hbm, ⟨88, _⟩ => ⟨S4096x3584, .i8⟩
  | .hbm, ⟨89, _⟩ => ⟨S96x3584, .fp8e4m3⟩
  | .hbm, ⟨90, _⟩ => ⟨S96x3584, .fp8e4m3⟩
  | .hbm, ⟨91, _⟩ => ⟨S96x3584, .fp8e4m3⟩
  | .hbm, ⟨92, _⟩ => ⟨S96x3584, .fp8e4m3⟩
  | .hbm, ⟨93, _⟩ => ⟨S1x4096, .f32⟩
  | .hbm, ⟨94, _⟩ => ⟨S96x4096, .bf16⟩
  | .local _ .vmem, ⟨0, _⟩ => ⟨S96x3584, .fp8e4m3⟩
  | .local _ .vmem, ⟨1, _⟩ => ⟨S96x3584, .fp8e4m3⟩
  | .local _ .vmem, ⟨2, _⟩ => ⟨S96x3584, .fp8e4m3⟩
  | .local _ .vmem, ⟨3, _⟩ => ⟨S96x3584, .fp8e4m3⟩
  | .local _ .vmem, ⟨4, _⟩ => ⟨S4096x3584, .i8⟩
  | .local _ .vmem, ⟨5, _⟩ => ⟨S4096x3584, .i8⟩
  | .local _ .vmem, ⟨6, _⟩ => ⟨S4096x3584, .i8⟩
  | .local _ .vmem, ⟨7, _⟩ => ⟨S4096x3584, .i8⟩
  | .local _ .vmem, ⟨8, _⟩ => ⟨S96x1, .f32⟩
  | .local _ .vmem, ⟨9, _⟩ => ⟨S1x4096, .f32⟩
  | .local _ .vmem, ⟨10, _⟩ => ⟨S96x4096, .f32⟩
  | .local _ .vmem, ⟨11, _⟩ => ⟨S96x4096, .bf16⟩
  | _, _ => ⟨S96x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_c_3 : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_c_5 : Ref sig .tc := ⟨.hbm, 52, rfl⟩
abbrev main_v20 : Ref sig .tc := ⟨.hbm, 53, rfl⟩
abbrev main_v21 : Ref sig .tc := ⟨.hbm, 54, rfl⟩
abbrev main_c_6 : Ref sig .tc := ⟨.hbm, 55, rfl⟩
abbrev main_call1_v0 : Ref sig .tc := ⟨.hbm, 56, rfl⟩
abbrev main_v22 : Ref sig .tc := ⟨.hbm, 57, rfl⟩
abbrev main_v23 : Ref sig .tc := ⟨.hbm, 58, rfl⟩
abbrev main_c_7 : Ref sig .tc := ⟨.hbm, 59, rfl⟩
abbrev main_v24 : Ref sig .tc := ⟨.hbm, 60, rfl⟩
abbrev main_v25 : Ref sig .tc := ⟨.hbm, 61, rfl⟩
abbrev main_c_8 : Ref sig .tc := ⟨.hbm, 62, rfl⟩
abbrev main_v26 : Ref sig .tc := ⟨.hbm, 63, rfl⟩
abbrev main_v27 : Ref sig .tc := ⟨.hbm, 64, rfl⟩
abbrev main_c_9 : Ref sig .tc := ⟨.hbm, 65, rfl⟩
abbrev main_call3_v0 : Ref sig .tc := ⟨.hbm, 66, rfl⟩
abbrev main_v28 : Ref sig .tc := ⟨.hbm, 67, rfl⟩
abbrev main_v29 : Ref sig .tc := ⟨.hbm, 68, rfl⟩
abbrev main_c_10 : Ref sig .tc := ⟨.hbm, 69, rfl⟩
abbrev main_v30 : Ref sig .tc := ⟨.hbm, 70, rfl⟩
abbrev main_v31 : Ref sig .tc := ⟨.hbm, 71, rfl⟩
abbrev main_c_11 : Ref sig .tc := ⟨.hbm, 72, rfl⟩
abbrev main_v32 : Ref sig .tc := ⟨.hbm, 73, rfl⟩
abbrev main_v33 : Ref sig .tc := ⟨.hbm, 74, rfl⟩
abbrev main_c_12 : Ref sig .tc := ⟨.hbm, 75, rfl⟩
abbrev main_call5_v0 : Ref sig .tc := ⟨.hbm, 76, rfl⟩
abbrev main_v34 : Ref sig .tc := ⟨.hbm, 77, rfl⟩
abbrev main_v35 : Ref sig .tc := ⟨.hbm, 78, rfl⟩
abbrev main_c_13 : Ref sig .tc := ⟨.hbm, 79, rfl⟩
abbrev main_v36 : Ref sig .tc := ⟨.hbm, 80, rfl⟩
abbrev main_v37 : Ref sig .tc := ⟨.hbm, 81, rfl⟩
abbrev main_c_14 : Ref sig .tc := ⟨.hbm, 82, rfl⟩
abbrev main_v38 : Ref sig .tc := ⟨.hbm, 83, rfl⟩
abbrev main_v39 : Ref sig .tc := ⟨.hbm, 84, rfl⟩
abbrev main_c_15 : Ref sig .tc := ⟨.hbm, 85, rfl⟩
abbrev main_call7_v0 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S96x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3584 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x3584 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x3584 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S96x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Qkv.lean ====
abbrev S96x4096 : Shape := ⟨2, ![96, 4096]⟩
abbrev S96x1 : Shape := ⟨2, ![96, 1]⟩
abbrev S6144x2048 : Shape := ⟨2, ![6144, 2048]⟩
abbrev S6144x256 : Shape := ⟨2, ![6144, 256]⟩
abbrev S6144 : Shape := ⟨1, ![6144]⟩
abbrev S96x1024x4 : Shape := ⟨3, ![96, 1024, 4]⟩
abbrev S96x4x1024 : Shape := ⟨3, ![96, 4, 1024]⟩
abbrev S1x6144 : Shape := ⟨2, ![1, 6144]⟩
abbrev S96x6144 : Shape := ⟨2, ![96, 6144]⟩
abbrev S1024x2048 : Shape := ⟨2, ![1024, 2048]⟩
abbrev S1024x256 : Shape := ⟨2, ![1024, 256]⟩
abbrev S1x1024 : Shape := ⟨2, ![1, 1024]⟩
abbrev S96x1024 : Shape := ⟨2, ![96, 1024]⟩
abbrev S8x128 : Shape := ⟨2, ![8, 128]⟩
abbrev S32x128 : Shape := ⟨2, ![32, 128]⟩
abbrev S16x128 : Shape := ⟨2, ![16, 128]⟩
abbrev S8x128x1 : Shape := ⟨3, ![8, 128, 1]⟩
abbrev S256x128 : Shape := ⟨2, ![256, 128]⟩
abbrev S256x256 : Shape := ⟨2, ![256, 256]⟩
abbrev S96x256 : Shape := ⟨2, ![96, 256]⟩
abbrev S1x256 : Shape := ⟨2, ![1, 256]⟩

abbrev nBuf : Space → Nat
  | .hbm => 10
  | .vmem => 10
  | .smem => 0
  | _ => 0

abbrev bufTy : (tb : Table) → Fin (tcTables nBuf tb) → BufTy
  | .hbm, ⟨0, _⟩ => ⟨S96x4096, .fp8e4m3⟩
  | .hbm, ⟨1, _⟩ => ⟨S96x1, .f32⟩
  | .hbm, ⟨2, _⟩ => ⟨S6144x2048, .i8⟩
  | .hbm, ⟨3, _⟩ => ⟨S6144x256, .i16⟩
  | .hbm, ⟨4, _⟩ => ⟨S6144, .f32⟩
  | .hbm, ⟨5, _⟩ => ⟨S96x1024x4, .fp8e4m3⟩
  | .hbm, ⟨6, _⟩ => ⟨S96x4x1024, .fp8e4m3⟩
  | .hbm, ⟨7, _⟩ => ⟨S96x4096, .fp8e4m3⟩
  | .hbm, ⟨8, _⟩ => ⟨S1x6144, .f32⟩
  | .hbm, ⟨9, _⟩ => ⟨S96x6144, .f32⟩
  | .local _ .vmem, ⟨0, _⟩ => ⟨S96x4096, .fp8e4m3⟩
  | .local _ .vmem, ⟨1, _⟩ => ⟨S96x1, .f32⟩
  | .local _ .vmem, ⟨2, _⟩ => ⟨S1024x2048, .i8⟩
  | .local _ .vmem, ⟨3, _⟩ => ⟨S1024x2048, .i8⟩
  | .local _ .vmem, ⟨4, _⟩ => ⟨S1024x256, .i16⟩
  | .local _ .vmem, ⟨5, _⟩ => ⟨S1024x256, .i16⟩
  | .local _ .vmem, ⟨6, _⟩ => ⟨S1x1024, .f32⟩
  | .local _ .vmem, ⟨7, _⟩ => ⟨S1x1024, .f32⟩
  | .local _ .vmem, ⟨8, _⟩ => ⟨S96x1024, .f32⟩
  | .local _ .vmem, ⟨9, _⟩ => ⟨S96x1024, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  v1
def k0_off1 (k0_t1 : Fin k0_t1_loop.trips) (c0_i32_11 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v39 : BitVec 32 := Scalar.addi v2 c0_i32_11
  let v40 : Index := Scalar.indexCast v39
  let c0 : Index := 0#32
  ![v40.toNat, 0]
def k0_off2 (k0_t1 : Fin k0_t1_loop.trips) (c0_i32_77 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v225 : BitVec 32 := Scalar.addi v2 c0_i32_77
  let v226 : Index := Scalar.indexCast v225
  let c0_78 : Index := 0#32
  ![v226.toNat, 0]
def k0_off3 (k0_t1 : Fin k0_t1_loop.trips) (c0_i32_77 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v225 : BitVec 32 := Scalar.addi v2 c0_i32_77
  let v237 : Index := Scalar.indexCast v225
  let c128 : Index := 128#32
  ![v237.toNat, 128]
def k0_off4 (k0_t1 : Fin k0_t1_loop.trips) (c0_i32_243 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v827 : BitVec 32 := Scalar.addi v2 c0_i32_243
  let v828 : Index := Scalar.indexCast v827
  let c256 : Index := 256#32
  ![v828.toNat, 256]
def k0_off5 (k0_t1 : Fin k0_t1_loop.trips) (c0_i32_243 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v827 : BitVec 32 := Scalar.addi v2 c0_i32_243
  let v839 : Index := Scalar.indexCast v827
  let c384 : Index := 384#32
  ![v839.toNat, 384]
def k0_off6 (k0_t1 : Fin k0_t1_loop.trips) (c0_i32_418 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v1453 : BitVec 32 := Scalar.addi v2 c0_i32_418
  let v1454 : Index := Scalar.indexCast v1453
  let c512 : Index := 512#32
  ![v1454.toNat, 512]
def k0_off7 (k0_t1 : Fin k0_t1_loop.trips) (c0_i32_418 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v1453 : BitVec 32 := Scalar.addi v2 c0_i32_418
  let v1465 : Index := Scalar.indexCast v1453
  let c640 : Index := 640#32
  ![v1465.toNat, 640]
def k0_off8 (k0_t1 : Fin k0_t1_loop.trips) (c0_i32_585 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v2055 : BitVec 32 := Scalar.addi v2 c0_i32_585
  let v2056 : Index := Scalar.indexCast v2055
  let c768 : Index := 768#32
  ![v2056.toNat, 768]
def k0_off9 (k0_t1 : Fin k0_t1_loop.trips) (c0_i32_585 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v2055 : BitVec 32 := Scalar.addi v2 c0_i32_585
  let v2067 : Index := Scalar.indexCast v2055
  let c896 : Index := 896#32
  ![v2067.toNat, 896]
def k0_off10 (k0_t1 : Fin k0_t1_loop.trips) (c0_i32_760 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v2683 : BitVec 32 := Scalar.addi v2 c0_i32_760
  let v2684 : Index := Scalar.indexCast v2683
  let c128_761 : Index := 128#32
  ![v2684.toNat, 128]
def k0_off11 (k0_t1 : Fin k0_t1_loop.trips) (c0_i32_833 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v2869 : BitVec 32 := Scalar.addi v2 c0_i32_833
  let v2870 : Index := Scalar.indexCast v2869
  let c1024_834 : Index := 1024#32
  ![v2870.toNat, 1024]
def k0_off12 (k0_t1 : Fin k0_t1_loop.trips) (c0_i32_833 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v2869 : BitVec 32 := Scalar.addi v2 c0_i32_833
  let v2881 : Index := Scalar.indexCast v2869
  let c1152 : Index := 1152#32
  ![v2881.toNat, 1152]
def k0_off13 (k0_t1 : Fin k0_t1_loop.trips) (c0_i32_1001 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v3471 : BitVec 32 := Scalar.addi v2 c0_i32_1001
  let v3472 : Index := Scalar.indexCast v3471
  let c1280_1002 : Index := 1280#32
  ![v3472.toNat, 1280]
def k0_off14 (k0_t1 : Fin k0_t1_loop.trips) (c0_i32_1001 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v3471 : BitVec 32 := Scalar.addi v2 c0_i32_1001
  let v3483 : Index := Scalar.indexCast v3471
  let c1408 : Index := 1408#32
  ![v3483.toNat, 1408]
def k0_off15 (k0_t1 : Fin k0_t1_loop.trips) (c0_i32_1178 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v4101 : BitVec 32 := Scalar.addi v2 c0_i32_1178
  let v4102 : Index := Scalar.indexCast v4101
  let c1536_1179 : Index := 1536#32
  ![v4102.toNat, 1536]
def k0_off16 (k0_t1 : Fin k0_t1_loop.trips) (c0_i32_1178 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v4101 : BitVec 32 := Scalar.addi v2 c0_i32_1178
  let v4113 : Index := Scalar.indexCast v4101
  let c1664 : Index := 1664#32
  ![v4113.toNat, 1664]
def k0_off17 (k0_t1 : Fin k0_t1_loop.trips) (c0_i32_1346 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v4703 : BitVec 32 := Scalar.addi v2 c0_i32_1346
  let v4704 : Index := Scalar.indexCast v4703
  let c1792 : Index := 1792#32
  ![v4704.toNat, 1792]
def k0_off18 (k0_t1 : Fin k0_t1_loop.trips) (c0_i32_1346 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v4703 : BitVec 32 := Scalar.addi v2 c0_i32_1346
  let v4715 : Index := Scalar.indexCast v4703
  let c1920 : Index := 1920#32
  ![v4715.toNat, 1920]
def k0_off19 (k0_t1 : Fin k0_t1_loop.trips) : Fin 2 → Nat :=
  let c0_1524 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v5337 : Index := Scalar.indexCast v2
  ![0, v5337.toNat]
def k0_off20 (k0_t1 : Fin k0_t1_loop.trips) : Fin 2 → Nat :=
  let c0_1525 : Index := 0#32
  let c0_i32 : BitVec 32 := 0#32
  let c1_i32 : BitVec 32 := 1#32
  let arg7 : BitVec 32 := Scf.iv c0_i32 c1_i32 k0_t1
  let c256_i32 : BitVec 32 := 256#32
  let v1 : BitVec 32 := Scalar.muli arg7 c256_i32
  let v2 : BitVec 32 := v1
  let v5342 : Index := Scalar.indexCast v2
  ![0, v5342.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvReferenceIdeal.lean ====
abbrev S96x4096 : Shape := ⟨2, ![96, 4096]⟩
abbrev S96x1 : Shape := ⟨2, ![96, 1]⟩
abbrev S6144x2048 : Shape := ⟨2, ![6144, 2048]⟩
abbrev S6144x256 : Shape := ⟨2, ![6144, 256]⟩
abbrev S6144 : Shape := ⟨1, ![6144]⟩
abbrev S6144x1024 : Shape := ⟨2, ![6144, 1024]⟩
abbrev S6144x256x4 : Shape := ⟨3, ![6144, 256, 4]⟩
abbrev S1024 : Shape := ⟨1, ![1024]⟩
abbrev S_ : Shape := ⟨0, ![]⟩
abbrev S1x1024 : Shape := ⟨2, ![1, 1024]⟩
abbrev S96x1024 : Shape := ⟨2, ![96, 1024]⟩
abbrev S1x6144 : Shape := ⟨2, ![1, 6144]⟩
abbrev S96x6144 : Shape := ⟨2, ![96, 6144]⟩

abbrev nBuf : Space → Nat
  | .hbm => 94
  | .vmem => 11
  | .smem => 0
  | _ => 0

abbrev bufTy : (tb : Table) → Fin (tcTables nBuf tb) → BufTy
  | .hbm, ⟨0, _⟩ => ⟨S96x4096, .fp8e4m3⟩
  | .hbm, ⟨1, _⟩ => ⟨S96x1, .f32⟩
  | .hbm, ⟨2, _⟩ => ⟨S6144x2048, .i8⟩
  | .hbm, ⟨3, _⟩ => ⟨S6144x256, .i16⟩
  | .hbm, ⟨4, _⟩ => ⟨S6144, .f32⟩
  | .hbm, ⟨5, _⟩ => ⟨S6144x1024, .i8⟩
  | .hbm, ⟨6, _⟩ => ⟨S6144x1024, .i8⟩
  | .hbm, ⟨7, _⟩ => ⟨S6144x256, .i32⟩
  | .hbm, ⟨8, _⟩ => ⟨S6144x256x4, .i32⟩
  | .hbm, ⟨9, _⟩ => ⟨S6144x1024, .i32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S_, .i1⟩
  | .hbm, ⟨27, _⟩ => ⟨S1024, .i1⟩
  | .hbm, ⟨28, _⟩ => ⟨S1024, .i1⟩
  | .hbm, ⟨29, _⟩ => ⟨S1024, .i1⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1x1024, .i32⟩
  | .hbm, ⟨37, _⟩ => ⟨S6144x1024, .i32⟩
  | .hbm, ⟨38, _⟩ => ⟨S6144x1024, .i32⟩
  | .hbm, ⟨39, _⟩ => ⟨S_, .i32⟩
  | .hbm, ⟨40, _⟩ => ⟨S6144x1024, .i32⟩
  | .hbm, ⟨41, _⟩ => ⟨S6144x1024, .i32⟩
  | .hbm, ⟨42, _⟩ => ⟨S_, .i32⟩
  | .hbm, ⟨43, _⟩ => ⟨S6144x1024, .i32⟩
  | .hbm, ⟨44, _⟩ => ⟨S6144x1024, .i32⟩
  | .hbm, ⟨45, _⟩ => ⟨S_, .i32⟩
  | .hbm, ⟨46, _⟩ => ⟨S6144x1024, .i32⟩
  | .hbm, ⟨47, _⟩ => ⟨S6144x1024, .i32⟩
  | .hbm, ⟨48, _⟩ => ⟨S_, .i32⟩
  | .hbm, ⟨49, _⟩ => ⟨S6144x1024, .i32⟩
  | .hbm, ⟨50, _⟩ => ⟨S6144x1024, .i1⟩
  | .hbm, ⟨51, _⟩ => ⟨S_, .i32⟩
  | .hbm, ⟨52, _⟩ => ⟨S6144x1024, .i32⟩
  | .hbm, ⟨53, _⟩ => ⟨S6144x1024, .i1⟩
  | .hbm, ⟨54, _⟩ => ⟨S_, .i8⟩
  | .hbm, ⟨55, _⟩ => ⟨S6144x1024, .i8⟩
  | .hbm, ⟨56, _⟩ => ⟨S6144x1024, .i8⟩
  | .hbm, ⟨57, _⟩ => ⟨S6144x1024, .i8⟩
  | .hbm, ⟨58, _⟩ => ⟨S_, .i32⟩
  | .hbm, ⟨59, _⟩ => ⟨S6144x1024, .i32⟩
  | .hbm, ⟨60, _⟩ => ⟨S6144x1024, .i1⟩
  | .hbm, ⟨61, _⟩ => ⟨S_, .i32⟩
  | .hbm, ⟨62, _⟩ => ⟨S6144x1024, .i32⟩
  | .hbm, ⟨63, _⟩ => ⟨S6144x1024, .i1⟩
  | .hbm, ⟨64, _⟩ => ⟨S_, .i8⟩
  | .hbm, ⟨65, _⟩ => ⟨S6144x1024, .i8⟩
  | .hbm, ⟨66, _⟩ => ⟨S6144x1024, .i8⟩
  | .hbm, ⟨67, _⟩ => ⟨S6144x1024, .i8⟩
  | .hbm, ⟨68, _⟩ => ⟨S_, .i32⟩
  | .hbm, ⟨69, _⟩ => ⟨S6144x1024, .i32⟩
  | .hbm, ⟨70, _⟩ => ⟨S6144x1024, .i1⟩
  | .hbm, ⟨71, _⟩ => ⟨S_, .i32⟩
  | .hbm, ⟨72, _⟩ => ⟨S6144x1024, .i32⟩
  | .hbm, ⟨73, _⟩ => ⟨S6144x1024, .i1⟩
  | .hbm, ⟨74, _⟩ => ⟨S_, .i8⟩
  | .hbm, ⟨75, _⟩ => ⟨S6144x1024, .i8⟩
  | .hbm, ⟨76, _⟩ => ⟨S6144x1024, .i8⟩
  | .hbm, ⟨77, _⟩ => ⟨S6144x1024, .i8⟩
  | .hbm, ⟨78, _⟩ => ⟨S_, .i32⟩
  | .hbm, ⟨79, _⟩ => ⟨S6144x1024, .i32⟩
  | .hbm, ⟨80, _⟩ => ⟨S6144x1024, .i1⟩
  | .hbm, ⟨81, _⟩ => ⟨S_, .i32⟩
  | .hbm, ⟨82, _⟩ => ⟨S6144x1024, .i32⟩
  | .hbm, ⟨83, _⟩ => ⟨S6144x1024, .i1⟩
  | .hbm, ⟨84, _⟩ => ⟨S_, .i8⟩
  | .hbm, ⟨85, _⟩ => ⟨S6144x1024, .i8⟩
  | .hbm, ⟨86, _⟩ => ⟨S6144x1024, .i8⟩
  | .hbm, ⟨87, _⟩ => ⟨S6144x1024, .i8⟩
  | .hbm, ⟨88, _⟩ => ⟨S96x1024, .fp8e4m3⟩
  | .hbm, ⟨89, _⟩ => ⟨S96x1024, .fp8e4m3⟩
  | .hbm, ⟨90, _⟩ => ⟨S96x1024, .fp8e4m3⟩
  | .hbm, ⟨91, _⟩ => ⟨S96x1024, .fp8e4m3⟩
  | .hbm, ⟨92, _⟩ => ⟨S1x6144, .f32⟩
  | .hbm, ⟨93, _⟩ => ⟨S96x6144, .f32⟩
  | .local _ .vmem, ⟨0, _⟩ => ⟨S96x1024, .fp8e4m3⟩
  | .local _ .vmem, ⟨1, _⟩ => ⟨S96x1024, .fp8e4m3⟩
  | .local _ .vmem, ⟨2, _⟩ => ⟨S96x1024, .fp8e4m3⟩
  | .local _ .vmem, ⟨3, _⟩ => ⟨S96x1024, .fp8e4m3⟩
  | .local _ .vmem, ⟨4, _⟩ => ⟨S6144x1024, .i8⟩
  | .local _ .vmem, ⟨5, _⟩ => ⟨S6144x1024, .i8⟩
  | .local _ .vmem, ⟨6, _⟩ => ⟨S6144x1024, .i8⟩
  | .local _ .vmem, ⟨7, _⟩ => ⟨S6144x1024, .i8⟩
  | .local _ .vmem, ⟨8, _⟩ => ⟨S96x1, .f32⟩
  | .local _ .vmem, ⟨9, _⟩ => ⟨S1x6144, .f32⟩
  | .local _ .vmem, ⟨10, _⟩ => ⟨S96x6144, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_1 : Ref sig .tc := ⟨.hbm, 39, rfl⟩
abbrev main_v12 : Ref sig .tc := ⟨.hbm, 40, rfl⟩
abbrev main_v13 : Ref sig .tc := ⟨.hbm, 41, rfl⟩
abbrev main_c_2 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_c_5 : Ref sig .tc := ⟨.hbm, 51, rfl⟩
abbrev main_v20 : Ref sig .tc := ⟨.hbm, 52, rfl⟩
abbrev main_v21 : Ref sig .tc := ⟨.hbm, 53, rfl⟩
abbrev main_c_6 : Ref sig .tc := ⟨.hbm, 54, rfl⟩
abbrev main_call1_v0 : Ref sig .tc := ⟨.hbm, 55, rfl⟩
abbrev main_v22 : Ref sig .tc := ⟨.hbm, 56, rfl⟩
abbrev main_v23 : Ref sig .tc := ⟨.hbm, 57, rfl⟩
abbrev main_c_7 : Ref sig .tc := ⟨.hbm, 58, rfl⟩
abbrev main_v24 : Ref sig .tc := ⟨.hbm, 59, rfl⟩
abbrev main_v25 : Ref sig .tc := ⟨.hbm, 60, rfl⟩
abbrev main_c_8 : Ref sig .tc := ⟨.hbm, 61, rfl⟩
abbrev main_v26 : Ref sig .tc := ⟨.hbm, 62, rfl⟩
abbrev main_v27 : Ref sig .tc := ⟨.hbm, 63, rfl⟩
abbrev main_c_9 : Ref sig .tc := ⟨.hbm, 64, rfl⟩
abbrev main_call3_v0 : Ref sig .tc := ⟨.hbm, 65, rfl⟩
abbrev main_v28 : Ref sig .tc := ⟨.hbm, 66, rfl⟩
abbrev main_v29 : Ref sig .tc := ⟨.hbm, 67, rfl⟩
abbrev main_c_10 : Ref sig .tc := ⟨.hbm, 68, rfl⟩
abbrev main_v30 : Ref sig .tc := ⟨.hbm, 69, rfl⟩
abbrev main_v31 : Ref sig .tc := ⟨.hbm, 70, rfl⟩
abbrev main_c_11 : Ref sig .tc := ⟨.hbm, 71, rfl⟩
abbrev main_v32 : Ref sig .tc := ⟨.hbm, 72, rfl⟩
abbrev main_v33 : Ref sig .tc := ⟨.hbm, 73, rfl⟩
abbrev main_c_12 : Ref sig .tc := ⟨.hbm, 74, rfl⟩
abbrev main_call5_v0 : Ref sig .tc := ⟨.hbm, 75, rfl⟩
abbrev main_v34 : Ref sig .tc := ⟨.hbm, 76, rfl⟩
abbrev main_v35 : Ref sig .tc := ⟨.hbm, 77, rfl⟩
abbrev main_c_13 : Ref sig .tc := ⟨.hbm, 78, rfl⟩
abbrev main_v36 : Ref sig .tc := ⟨.hbm, 79, rfl⟩
abbrev main_v37 : Ref sig .tc := ⟨.hbm, 80, rfl⟩
abbrev main_c_14 : Ref sig .tc := ⟨.hbm, 81, rfl⟩
abbrev main_v38 : Ref sig .tc := ⟨.hbm, 82, rfl⟩
abbrev main_v39 : Ref sig .tc := ⟨.hbm, 83, rfl⟩
abbrev main_c_15 : Ref sig .tc := ⟨.hbm, 84, rfl⟩
abbrev main_call7_v0 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S96x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1024 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x1024 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Wo.lean ====
abbrev S96x4096 : Shape := ⟨2, ![96, 4096]⟩
abbrev S96x1 : Shape := ⟨2, ![96, 1]⟩
abbrev S4096x2048 : Shape := ⟨2, ![4096, 2048]⟩
abbrev S4096x256 : Shape := ⟨2, ![4096, 256]⟩
abbrev S4096 : Shape := ⟨1, ![4096]⟩
abbrev S96x1024x4 : Shape := ⟨3, ![96, 1024, 4]⟩
abbrev S96x4x1024 : Shape := ⟨3, ![96, 4, 1024]⟩
abbrev S1x4096 : Shape := ⟨2, ![1, 4096]⟩
abbrev S1024x2048 : Shape := ⟨2, ![1024, 2048]⟩
abbrev S1024x256 : Shape := ⟨2, ![1024, 256]⟩
abbrev S1x1024 : Shape := ⟨2, ![1, 1024]⟩
abbrev S96x1024 : Shape := ⟨2, ![96, 1024]⟩
abbrev S8x128 : Shape := ⟨2, ![8, 128]⟩
abbrev S32x128 : Shape := ⟨2, ![32, 128]⟩
abbrev S16x128 : Shape := ⟨2, ![16, 128]⟩
abbrev S8x128x1 : Shape := ⟨3, ![8, 128, 1]⟩
abbrev S256x128 : Shape := ⟨2, ![256, 128]⟩
abbrev S256x256 : Shape := ⟨2, ![256, 256]⟩
abbrev S96x256 : Shape := ⟨2, ![96, 256]⟩
abbrev S1x256 : Shape := ⟨2, ![1, 256]⟩

abbrev nBuf : Space → Nat
  | .hbm => 11
  | .vmem => 12
  | .smem => 0
  | _ => 0

abbrev bufTy : (tb : Table) → Fin (tcTables nBuf tb) → BufTy
  | .hbm, ⟨0, _⟩ => ⟨S96x4096, .fp8e4m3⟩
  | .hbm, ⟨1, _⟩ => ⟨S96x1, .f32⟩
  | .hbm, ⟨2, _⟩ => ⟨S4096x2048, .i8⟩
  | .hbm, ⟨3, _⟩ => ⟨S4096x256, .i16⟩
  | .hbm, ⟨4, _⟩ => ⟨S4096, .f32⟩
  | .hbm, ⟨5, _⟩ => ⟨S96x4096, .bf16⟩
  | .hbm, ⟨6, _⟩ => ⟨S96x1024x4, .fp8e4m3⟩
  | .hbm, ⟨7, _⟩ => ⟨S96x4x1024, .fp8e4m3⟩
  | .hbm, ⟨8, _⟩ => ⟨S96x4096, .fp8e4m3⟩
  | .hbm, ⟨9, _⟩ => ⟨S1x4096, .f32⟩
  | .hbm, ⟨10, _⟩ => ⟨S96x4096, .f32⟩
  | .local _ .vmem, ⟨0, _⟩ => ⟨S96x4096, .fp8e4m3⟩
  | .local _ .vmem, ⟨1, _⟩ => ⟨S96x1, .f32⟩
  | .local _ .vmem, ⟨2, _⟩ => ⟨S1024x2048, .i8⟩
  | .local _ .vmem, ⟨3, _⟩ => ⟨S1024x2048, .i8⟩
  | .local _ .vmem, ⟨4, _⟩ => ⟨S1024x256, .i16⟩
  | .local _ .vmem, ⟨5, _⟩ => ⟨S1024x256, .i16⟩
  | .local _ .vmem, ⟨6, _⟩ => ⟨S1x1024, .f32⟩
  | .local _ .vmem, ⟨7, _⟩ => ⟨S1x1024, .f32⟩
  | .local _ .vmem, ⟨8, _⟩ => ⟨S96x1024, .bf16⟩
  | .local _ .vmem, ⟨9, _⟩ => ⟨S96x1024, .bf16⟩
  | .local _ .vmem, ⟨10, _⟩ => ⟨S96x1024, .f32⟩
  | .local _ .vmem, ⟨11, _⟩ => ⟨S96x1024, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  v1
def k0_off1 (k0_t1 : Fin k0_t1_loop.trips) (c0_i32_11 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v39 : BitVec 32 := Scalar.addi v2 c0_i32_11
  let v40 : Index := Scalar.indexCast v39
  let c0 : Index := 0#32
  ![v40.toNat, 0]
def k0_off2 (k0_t1 : Fin k0_t1_loop.trips) (c0_i32_77 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v225 : BitVec 32 := Scalar.addi v2 c0_i32_77
  let v226 : Index := Scalar.indexCast v225
  let c0_78 : Index := 0#32
  ![v226.toNat, 0]
def k0_off3 (k0_t1 : Fin k0_t1_loop.trips) (c0_i32_77 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v225 : BitVec 32 := Scalar.addi v2 c0_i32_77
  let v237 : Index := Scalar.indexCast v225
  let c128 : Index := 128#32
  ![v237.toNat, 128]
def k0_off4 (k0_t1 : Fin k0_t1_loop.trips) (c0_i32_243 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v827 : BitVec 32 := Scalar.addi v2 c0_i32_243
  let v828 : Index := Scalar.indexCast v827
  let c256 : Index := 256#32
  ![v828.toNat, 256]
def k0_off5 (k0_t1 : Fin k0_t1_loop.trips) (c0_i32_243 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v827 : BitVec 32 := Scalar.addi v2 c0_i32_243
  let v839 : Index := Scalar.indexCast v827
  let c384 : Index := 384#32
  ![v839.toNat, 384]
def k0_off6 (k0_t1 : Fin k0_t1_loop.trips) (c0_i32_418 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v1453 : BitVec 32 := Scalar.addi v2 c0_i32_418
  let v1454 : Index := Scalar.indexCast v1453
  let c512 : Index := 512#32
  ![v1454.toNat, 512]
def k0_off7 (k0_t1 : Fin k0_t1_loop.trips) (c0_i32_418 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v1453 : BitVec 32 := Scalar.addi v2 c0_i32_418
  let v1465 : Index := Scalar.indexCast v1453
  let c640 : Index := 640#32
  ![v1465.toNat, 640]
def k0_off8 (k0_t1 : Fin k0_t1_loop.trips) (c0_i32_585 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2055 : BitVec 32 := Scalar.addi v2 c0_i32_585
  let v2056 : Index := Scalar.indexCast v2055
  let c768 : Index := 768#32
  ![v2056.toNat, 768]
def k0_off9 (k0_t1 : Fin k0_t1_loop.trips) (c0_i32_585 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2055 : BitVec 32 := Scalar.addi v2 c0_i32_585
  let v2067 : Index := Scalar.indexCast v2055
  let c896 : Index := 896#32
  ![v2067.toNat, 896]
def k0_off10 (k0_t1 : Fin k0_t1_loop.trips) (c0_i32_760 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2683 : BitVec 32 := Scalar.addi v2 c0_i32_760
  let v2684 : Index := Scalar.indexCast v2683
  let c128_761 : Index := 128#32
  ![v2684.toNat, 128]
def k0_off11 (k0_t1 : Fin k0_t1_loop.trips) (c0_i32_833 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2869 : BitVec 32 := Scalar.addi v2 c0_i32_833
  let v2870 : Index := Scalar.indexCast v2869
  let c1024_834 : Index := 1024#32
  ![v2870.toNat, 1024]
def k0_off12 (k0_t1 : Fin k0_t1_loop.trips) (c0_i32_833 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v2869 : BitVec 32 := Scalar.addi v2 c0_i32_833
  let v2881 : Index := Scalar.indexCast v2869
  let c1152 : Index := 1152#32
  ![v2881.toNat, 1152]
def k0_off13 (k0_t1 : Fin k0_t1_loop.trips) (c0_i32_1001 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v3471 : BitVec 32 := Scalar.addi v2 c0_i32_1001
  let v3472 : Index := Scalar.indexCast v3471
  let c1280_1002 : Index := 1280#32
  ![v3472.toNat, 1280]
def k0_off14 (k0_t1 : Fin k0_t1_loop.trips) (c0_i32_1001 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v3471 : BitVec 32 := Scalar.addi v2 c0_i32_1001
  let v3483 : Index := Scalar.indexCast v3471
  let c1408 : Index := 1408#32
  ![v3483.toNat, 1408]
def k0_off15 (k0_t1 : Fin k0_t1_loop.trips) (c0_i32_1178 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v4101 : BitVec 32 := Scalar.addi v2 c0_i32_1178
  let v4102 : Index := Scalar.indexCast v4101
  let c1536_1179 : Index := 1536#32
  ![v4102.toNat, 1536]
def k0_off16 (k0_t1 : Fin k0_t1_loop.trips) (c0_i32_1178 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v4101 : BitVec 32 := Scalar.addi v2 c0_i32_1178
  let v4113 : Index := Scalar.indexCast v4101
  let c1664 : Index := 1664#32
  ![v4113.toNat, 1664]
def k0_off17 (k0_t1 : Fin k0_t1_loop.trips) (c0_i32_1346 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v4703 : BitVec 32 := Scalar.addi v2 c0_i32_1346
  let v4704 : Index := Scalar.indexCast v4703
  let c1792 : Index := 1792#32
  ![v4704.toNat, 1792]
def k0_off18 (k0_t1 : Fin k0_t1_loop.trips) (c0_i32_1346 : BitVec 32) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v4703 : BitVec 32 := Scalar.addi v2 c0_i32_1346
  let v4715 : Index := Scalar.indexCast v4703
  let c1920 : Index := 1920#32
  ![v4715.toNat, 1920]
def k0_off19 (k0_t1 : Fin k0_t1_loop.trips) : Fin 2 → Nat :=
  let c0_1522 : Index := 0#32
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v5334 : Index := Scalar.indexCast v2
  ![0, v5334.toNat]
def k0_off20 (k0_t1 : Fin k0_t1_loop.trips) : Fin 2 → Nat :=
  let c0_1525 : Index := 0#32
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v5340 : Index := Scalar.indexCast v2
  ![0, v5340.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WoReferenceIdeal.lean ====
abbrev S96x4096 : Shape := ⟨2, ![96, 4096]⟩
abbrev S96x1 : Shape := ⟨2, ![96, 1]⟩
abbrev S4096x2048 : Shape := ⟨2, ![4096, 2048]⟩
abbrev S4096x256 : Shape := ⟨2, ![4096, 256]⟩
abbrev S4096 : Shape := ⟨1, ![4096]⟩
abbrev S4096x1024 : Shape := ⟨2, ![4096, 1024]⟩
abbrev S4096x256x4 : Shape := ⟨3, ![4096, 256, 4]⟩
abbrev S1024 : Shape := ⟨1, ![1024]⟩
abbrev S_ : Shape := ⟨0, ![]⟩
abbrev S1x1024 : Shape := ⟨2, ![1, 1024]⟩
abbrev S96x1024 : Shape := ⟨2, ![96, 1024]⟩
abbrev S1x4096 : Shape := ⟨2, ![1, 4096]⟩

abbrev nBuf : Space → Nat
  | .hbm => 95
  | .vmem => 12
  | .smem => 0
  | _ => 0

abbrev bufTy : (tb : Table) → Fin (tcTables nBuf tb) → BufTy
  | .hbm, ⟨0, _⟩ => ⟨S96x4096, .fp8e4m3⟩
  | .hbm, ⟨1, _⟩ => ⟨S96x1, .f32⟩
  | .hbm, ⟨2, _⟩ => ⟨S4096x2048, .i8⟩
  | .hbm, ⟨3, _⟩ => ⟨S4096x256, .i16⟩
  | .hbm, ⟨4, _⟩ => ⟨S4096, .f32⟩
  | .hbm, ⟨5, _⟩ => ⟨S96x4096, .bf16⟩
  | .hbm, ⟨6, _⟩ => ⟨S4096x1024, .i8⟩
  | .hbm, ⟨7, _⟩ => ⟨S4096x1024, .i8⟩
  | .hbm, ⟨8, _⟩ => ⟨S4096x256, .i32⟩
  | .hbm, ⟨9, _⟩ => ⟨S4096x256x4, .i32⟩
  | .hbm, ⟨10, _⟩ => ⟨S4096x1024, .i32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S_, .i1⟩
  | .hbm, ⟨28, _⟩ => ⟨S1024, .i1⟩
  | .hbm, ⟨29, _⟩ => ⟨S1024, .i1⟩
  | .hbm, ⟨30, _⟩ => ⟨S1024, .i1⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1x1024, .i32⟩
  | .hbm, ⟨38, _⟩ => ⟨S4096x1024, .i32⟩
  | .hbm, ⟨39, _⟩ => ⟨S4096x1024, .i32⟩
  | .hbm, ⟨40, _⟩ => ⟨S_, .i32⟩
  | .hbm, ⟨41, _⟩ => ⟨S4096x1024, .i32⟩
  | .hbm, ⟨42, _⟩ => ⟨S4096x1024, .i32⟩
  | .hbm, ⟨43, _⟩ => ⟨S_, .i32⟩
  | .hbm, ⟨44, _⟩ => ⟨S4096x1024, .i32⟩
  | .hbm, ⟨45, _⟩ => ⟨S4096x1024, .i32⟩
  | .hbm, ⟨46, _⟩ => ⟨S_, .i32⟩
  | .hbm, ⟨47, _⟩ => ⟨S4096x1024, .i32⟩
  | .hbm, ⟨48, _⟩ => ⟨S4096x1024, .i32⟩
  | .hbm, ⟨49, _⟩ => ⟨S_, .i32⟩
  | .hbm, ⟨50, _⟩ => ⟨S4096x1024, .i32⟩
  | .hbm, ⟨51, _⟩ => ⟨S4096x1024, .i1⟩
  | .hbm, ⟨52, _⟩ => ⟨S_, .i32⟩
  | .hbm, ⟨53, _⟩ => ⟨S4096x1024, .i32⟩
  | .hbm, ⟨54, _⟩ => ⟨S4096x1024, .i1⟩
  | .hbm, ⟨55, _⟩ => ⟨S_, .i8⟩
  | .hbm, ⟨56, _⟩ => ⟨S4096x1024, .i8⟩
  | .hbm, ⟨57, _⟩ => ⟨S4096x1024, .i8⟩
  | .hbm, ⟨58, _⟩ => ⟨S4096x1024, .i8⟩
  | .hbm, ⟨59, _⟩ => ⟨S_, .i32⟩
  | .hbm, ⟨60, _⟩ => ⟨S4096x1024, .i32⟩
  | .hbm, ⟨61, _⟩ => ⟨S4096x1024, .i1⟩
  | .hbm, ⟨62, _⟩ => ⟨S_, .i32⟩
  | .hbm, ⟨63, _⟩ => ⟨S4096x1024, .i32⟩
  | .hbm, ⟨64, _⟩ => ⟨S4096x1024, .i1⟩
  | .hbm, ⟨65, _⟩ => ⟨S_, .i8⟩
  | .hbm, ⟨66, _⟩ => ⟨S4096x1024, .i8⟩
  | .hbm, ⟨67, _⟩ => ⟨S4096x1024, .i8⟩
  | .hbm, ⟨68, _⟩ => ⟨S4096x1024, .i8⟩
  | .hbm, ⟨69, _⟩ => ⟨S_, .i32⟩
  | .hbm, ⟨70, _⟩ => ⟨S4096x1024, .i32⟩
  | .hbm, ⟨71, _⟩ => ⟨S4096x1024, .i1⟩
  | .hbm, ⟨72, _⟩ => ⟨S_, .i32⟩
  | .hbm, ⟨73, _⟩ => ⟨S4096x1024, .i32⟩
  | .hbm, ⟨74, _⟩ => ⟨S4096x1024, .i1⟩
  | .hbm, ⟨75, _⟩ => ⟨S_, .i8⟩
  | .hbm, ⟨76, _⟩ => ⟨S4096x1024, .i8⟩
  | .hbm, ⟨77, _⟩ => ⟨S4096x1024, .i8⟩
  | .hbm, ⟨78, _⟩ => ⟨S4096x1024, .i8⟩
  | .hbm, ⟨79, _⟩ => ⟨S_, .i32⟩
  | .hbm, ⟨80, _⟩ => ⟨S4096x1024, .i32⟩
  | .hbm, ⟨81, _⟩ => ⟨S4096x1024, .i1⟩
  | .hbm, ⟨82, _⟩ => ⟨S_, .i32⟩
  | .hbm, ⟨83, _⟩ => ⟨S4096x1024, .i32⟩
  | .hbm, ⟨84, _⟩ => ⟨S4096x1024, .i1⟩
  | .hbm, ⟨85, _⟩ => ⟨S_, .i8⟩
  | .hbm, ⟨86, _⟩ => ⟨S4096x1024, .i8⟩
  | .hbm, ⟨87, _⟩ => ⟨S4096x1024, .i8⟩
  | .hbm, ⟨88, _⟩ => ⟨S4096x1024, .i8⟩
  | .hbm, ⟨89, _⟩ => ⟨S96x1024, .fp8e4m3⟩
  | .hbm, ⟨90, _⟩ => ⟨S96x1024, .fp8e4m3⟩
  | .hbm, ⟨91, _⟩ => ⟨S96x1024, .fp8e4m3⟩
  | .hbm, ⟨92, _⟩ => ⟨S96x1024, .fp8e4m3⟩
  | .hbm, ⟨93, _⟩ => ⟨S1x4096, .f32⟩
  | .hbm, ⟨94, _⟩ => ⟨S96x4096, .f32⟩
  | .local _ .vmem, ⟨0, _⟩ => ⟨S96x1024, .fp8e4m3⟩
  | .local _ .vmem, ⟨1, _⟩ => ⟨S96x1024, .fp8e4m3⟩
  | .local _ .vmem, ⟨2, _⟩ => ⟨S96x1024, .fp8e4m3⟩
  | .local _ .vmem, ⟨3, _⟩ => ⟨S96x1024, .fp8e4m3⟩
  | .local _ .vmem, ⟨4, _⟩ => ⟨S4096x1024, .i8⟩
  | .local _ .vmem, ⟨5, _⟩ => ⟨S4096x1024, .i8⟩
  | .local _ .vmem, ⟨6, _⟩ => ⟨S4096x1024, .i8⟩
  | .local _ .vmem, ⟨7, _⟩ => ⟨S4096x1024, .i8⟩
  | .local _ .vmem, ⟨8, _⟩ => ⟨S96x1, .f32⟩
  | .local _ .vmem, ⟨9, _⟩ => ⟨S1x4096, .f32⟩
  | .local _ .vmem, ⟨10, _⟩ => ⟨S96x4096, .bf16⟩
  | .local _ .vmem, ⟨11, _⟩ => ⟨S96x4096, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_c_3 : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_c_5 : Ref sig .tc := ⟨.hbm, 52, rfl⟩
abbrev main_v20 : Ref sig .tc := ⟨.hbm, 53, rfl⟩
abbrev main_v21 : Ref sig .tc := ⟨.hbm, 54, rfl⟩
abbrev main_c_6 : Ref sig .tc := ⟨.hbm, 55, rfl⟩
abbrev main_call1_v0 : Ref sig .tc := ⟨.hbm, 56, rfl⟩
abbrev main_v22 : Ref sig .tc := ⟨.hbm, 57, rfl⟩
abbrev main_v23 : Ref sig .tc := ⟨.hbm, 58, rfl⟩
abbrev main_c_7 : Ref sig .tc := ⟨.hbm, 59, rfl⟩
abbrev main_v24 : Ref sig .tc := ⟨.hbm, 60, rfl⟩
abbrev main_v25 : Ref sig .tc := ⟨.hbm, 61, rfl⟩
abbrev main_c_8 : Ref sig .tc := ⟨.hbm, 62, rfl⟩
abbrev main_v26 : Ref sig .tc := ⟨.hbm, 63, rfl⟩
abbrev main_v27 : Ref sig .tc := ⟨.hbm, 64, rfl⟩
abbrev main_c_9 : Ref sig .tc := ⟨.hbm, 65, rfl⟩
abbrev main_call3_v0 : Ref sig .tc := ⟨.hbm, 66, rfl⟩
abbrev main_v28 : Ref sig .tc := ⟨.hbm, 67, rfl⟩
abbrev main_v29 : Ref sig .tc := ⟨.hbm, 68, rfl⟩
abbrev main_c_10 : Ref sig .tc := ⟨.hbm, 69, rfl⟩
abbrev main_v30 : Ref sig .tc := ⟨.hbm, 70, rfl⟩
abbrev main_v31 : Ref sig .tc := ⟨.hbm, 71, rfl⟩
abbrev main_c_11 : Ref sig .tc := ⟨.hbm, 72, rfl⟩
abbrev main_v32 : Ref sig .tc := ⟨.hbm, 73, rfl⟩
abbrev main_v33 : Ref sig .tc := ⟨.hbm, 74, rfl⟩
abbrev main_c_12 : Ref sig .tc := ⟨.hbm, 75, rfl⟩
abbrev main_call5_v0 : Ref sig .tc := ⟨.hbm, 76, rfl⟩
abbrev main_v34 : Ref sig .tc := ⟨.hbm, 77, rfl⟩
abbrev main_v35 : Ref sig .tc := ⟨.hbm, 78, rfl⟩
abbrev main_c_13 : Ref sig .tc := ⟨.hbm, 79, rfl⟩
abbrev main_v36 : Ref sig .tc := ⟨.hbm, 80, rfl⟩
abbrev main_v37 : Ref sig .tc := ⟨.hbm, 81, rfl⟩
abbrev main_c_14 : Ref sig .tc := ⟨.hbm, 82, rfl⟩
abbrev main_v38 : Ref sig .tc := ⟨.hbm, 83, rfl⟩
abbrev main_v39 : Ref sig .tc := ⟨.hbm, 84, rfl⟩
abbrev main_c_15 : Ref sig .tc := ⟨.hbm, 85, rfl⟩
abbrev main_call7_v0 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S96x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1024 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1024 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S96x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== NormX.lean ====
abbrev S96x4096 : Shape := ⟨2, ![96, 4096]⟩
abbrev S4096 : Shape := ⟨1, ![4096]⟩
abbrev S1x4096 : Shape := ⟨2, ![1, 4096]⟩
abbrev S96x1 : Shape := ⟨2, ![96, 1]⟩
abbrev S96 : Shape := ⟨1, ![96]⟩

abbrev nBuf : Space → Nat
  | .hbm => 5
  | .vmem => 4
  | .smem => 0
  | _ => 0

abbrev bufTy : (tb : Table) → Fin (tcTables nBuf tb) → BufTy
  | .hbm, ⟨0, _⟩ => ⟨S96x4096, .bf16⟩
  | .hbm, ⟨1, _⟩ => ⟨S4096, .f32⟩
  | .hbm, ⟨2, _⟩ => ⟨S1x4096, .f32⟩
  | .hbm, ⟨3, _⟩ => ⟨S96x4096, .fp8e4m3⟩
  | .hbm, ⟨4, _⟩ => ⟨S96x1, .f32⟩
  | .local _ .vmem, ⟨0, _⟩ => ⟨S96x4096, .bf16⟩
  | .local _ .vmem, ⟨1, _⟩ => ⟨S1x4096, .f32⟩
  | .local _ .vmem, ⟨2, _⟩ => ⟨S96x4096, .fp8e4m3⟩
  | .local _ .vmem, ⟨3, _⟩ => ⟨S96x1, .f32⟩
  | _, _ => ⟨S96x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== NormXIdeal.lean ====
abbrev S96x4096 : Shape := ⟨2, ![96, 4096]⟩
abbrev S4096 : Shape := ⟨1, ![4096]⟩
abbrev S1x4096 : Shape := ⟨2, ![1, 4096]⟩
abbrev S96x1 : Shape := ⟨2, ![96, 1]⟩
abbrev S96 : Shape := ⟨1, ![96]⟩

abbrev nBuf : Space → Nat
  | .hbm => 5
  | .vmem => 4
  | .smem => 0
  | _ => 0

abbrev bufTy : (tb : Table) → Fin (tcTables nBuf tb) → BufTy
  | .hbm, ⟨0, _⟩ => ⟨S96x4096, .bf16⟩
  | .hbm, ⟨1, _⟩ => ⟨S4096, .f32⟩
  | .hbm, ⟨2, _⟩ => ⟨S1x4096, .f32⟩
  | .hbm, ⟨3, _⟩ => ⟨S96x4096, .fp8e4m3⟩
  | .hbm, ⟨4, _⟩ => ⟨S96x1, .f32⟩
  | .local _ .vmem, ⟨0, _⟩ => ⟨S96x4096, .bf16⟩
  | .local _ .vmem, ⟨1, _⟩ => ⟨S1x4096, .f32⟩
  | .local _ .vmem, ⟨2, _⟩ => ⟨S96x4096, .fp8e4m3⟩
  | .local _ .vmem, ⟨3, _⟩ => ⟨S96x1, .f32⟩
  | _, _ => ⟨S96x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== NormXReferenceIdeal.lean ====
abbrev S96x4096 : Shape := ⟨2, ![96, 4096]⟩
abbrev S4096 : Shape := ⟨1, ![4096]⟩
abbrev S1x4096 : Shape := ⟨2, ![1, 4096]⟩
abbrev S96x1 : Shape := ⟨2, ![96, 1]⟩
abbrev S96 : Shape := ⟨1, ![96]⟩

abbrev nBuf : Space → Nat
  | .hbm => 5
  | .vmem => 4
  | .smem => 0
  | _ => 0

abbrev bufTy : (tb : Table) → Fin (tcTables nBuf tb) → BufTy
  | .hbm, ⟨0, _⟩ => ⟨S96x4096, .bf16⟩
  | .hbm, ⟨1, _⟩ => ⟨S4096, .f32⟩
  | .hbm, ⟨2, _⟩ => ⟨S1x4096, .f32⟩
  | .hbm, ⟨3, _⟩ => ⟨S96x4096, .fp8e4m3⟩
  | .hbm, ⟨4, _⟩ => ⟨S96x1, .f32⟩
  | .local _ .vmem, ⟨0, _⟩ => ⟨S96x4096, .bf16⟩
  | .local _ .vmem, ⟨1, _⟩ => ⟨S1x4096, .f32⟩
  | .local _ .vmem, ⟨2, _⟩ => ⟨S96x4096, .fp8e4m3⟩
  | .local _ .vmem, ⟨3, _⟩ => ⟨S96x1, .f32⟩
  | _, _ => ⟨S96x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== NormH.lean ====
abbrev S96x4096 : Shape := ⟨2, ![96, 4096]⟩
abbrev S4096 : Shape := ⟨1, ![4096]⟩
abbrev S1x4096 : Shape := ⟨2, ![1, 4096]⟩
abbrev S96x1 : Shape := ⟨2, ![96, 1]⟩
abbrev S96 : Shape := ⟨1, ![96]⟩

abbrev nBuf : Space → Nat
  | .hbm => 5
  | .vmem => 4
  | .smem => 0
  | _ => 0

abbrev bufTy : (tb : Table) → Fin (tcTables nBuf tb) → BufTy
  | .hbm, ⟨0, _⟩ => ⟨S96x4096, .f32⟩
  | .hbm, ⟨1, _⟩ => ⟨S4096, .f32⟩
  | .hbm, ⟨2, _⟩ => ⟨S1x4096, .f32⟩
  | .hbm, ⟨3, _⟩ => ⟨S96x4096, .fp8e4m3⟩
  | .hbm, ⟨4, _⟩ => ⟨S96x1, .f32⟩
  | .local _ .vmem, ⟨0, _⟩ => ⟨S96x4096, .f32⟩
  | .local _ .vmem, ⟨1, _⟩ => ⟨S1x4096, .f32⟩
  | .local _ .vmem, ⟨2, _⟩ => ⟨S96x4096, .fp8e4m3⟩
  | .local _ .vmem, ⟨3, _⟩ => ⟨S96x1, .f32⟩
  | _, _ => ⟨S96x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S96x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== NormHReferenceIdeal.lean ====
abbrev S96x4096 : Shape := ⟨2, ![96, 4096]⟩
abbrev S4096 : Shape := ⟨1, ![4096]⟩
abbrev S1x4096 : Shape := ⟨2, ![1, 4096]⟩
abbrev S96x1 : Shape := ⟨2, ![96, 1]⟩
abbrev S96 : Shape := ⟨1, ![96]⟩

abbrev nBuf : Space → Nat
  | .hbm => 5
  | .vmem => 4
  | .smem => 0
  | _ => 0

abbrev bufTy : (tb : Table) → Fin (tcTables nBuf tb) → BufTy
  | .hbm, ⟨0, _⟩ => ⟨S96x4096, .f32⟩
  | .hbm, ⟨1, _⟩ => ⟨S4096, .f32⟩
  | .hbm, ⟨2, _⟩ => ⟨S1x4096, .f32⟩
  | .hbm, ⟨3, _⟩ => ⟨S96x4096, .fp8e4m3⟩
  | .hbm, ⟨4, _⟩ => ⟨S96x1, .f32⟩
  | .local _ .vmem, ⟨0, _⟩ => ⟨S96x4096, .f32⟩
  | .local _ .vmem, ⟨1, _⟩ => ⟨S1x4096, .f32⟩
  | .local _ .vmem, ⟨2, _⟩ => ⟨S96x4096, .fp8e4m3⟩
  | .local _ .vmem, ⟨3, _⟩ => ⟨S96x1, .f32⟩
  | _, _ => ⟨S96x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S96x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== QuantAttn.lean ====
abbrev S96x4096 : Shape := ⟨2, ![96, 4096]⟩
abbrev S96x1 : Shape := ⟨2, ![96, 1]⟩
abbrev S96 : Shape := ⟨1, ![96]⟩

abbrev nBuf : Space → Nat
  | .hbm => 3
  | .vmem => 3
  | .smem => 0
  | _ => 0

abbrev bufTy : (tb : Table) → Fin (tcTables nBuf tb) → BufTy
  | .hbm, ⟨0, _⟩ => ⟨S96x4096, .f32⟩
  | .hbm, ⟨1, _⟩ => ⟨S96x4096, .fp8e4m3⟩
  | .hbm, ⟨2, _⟩ => ⟨S96x1, .f32⟩
  | .local _ .vmem, ⟨0, _⟩ => ⟨S96x4096, .f32⟩
  | .local _ .vmem, ⟨1, _⟩ => ⟨S96x4096, .fp8e4m3⟩
  | .local _ .vmem, ⟨2, _⟩ => ⟨S96x1, .f32⟩
  | _, _ => ⟨S96x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S96x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QuantAttnIdeal.lean ====
abbrev S96x4096 : Shape := ⟨2, ![96, 4096]⟩
abbrev S96x1 : Shape := ⟨2, ![96, 1]⟩
abbrev S96 : Shape := ⟨1, ![96]⟩

abbrev nBuf : Space → Nat
  | .hbm => 3
  | .vmem => 3
  | .smem => 0
  | _ => 0

abbrev bufTy : (tb : Table) → Fin (tcTables nBuf tb) → BufTy
  | .hbm, ⟨0, _⟩ => ⟨S96x4096, .f32⟩
  | .hbm, ⟨1, _⟩ => ⟨S96x4096, .fp8e4m3⟩
  | .hbm, ⟨2, _⟩ => ⟨S96x1, .f32⟩
  | .local _ .vmem, ⟨0, _⟩ => ⟨S96x4096, .f32⟩
  | .local _ .vmem, ⟨1, _⟩ => ⟨S96x4096, .fp8e4m3⟩
  | .local _ .vmem, ⟨2, _⟩ => ⟨S96x1, .f32⟩
  | _, _ => ⟨S96x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S96x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QuantAttnReferenceIdeal.lean ====
abbrev S96x4096 : Shape := ⟨2, ![96, 4096]⟩
abbrev S96x1 : Shape := ⟨2, ![96, 1]⟩
abbrev S96 : Shape := ⟨1, ![96]⟩

abbrev nBuf : Space → Nat
  | .hbm => 3
  | .vmem => 3
  | .smem => 0
  | _ => 0

abbrev bufTy : (tb : Table) → Fin (tcTables nBuf tb) → BufTy
  | .hbm, ⟨0, _⟩ => ⟨S96x4096, .f32⟩
  | .hbm, ⟨1, _⟩ => ⟨S96x4096, .fp8e4m3⟩
  | .hbm, ⟨2, _⟩ => ⟨S96x1, .f32⟩
  | .local _ .vmem, ⟨0, _⟩ => ⟨S96x4096, .f32⟩
  | .local _ .vmem, ⟨1, _⟩ => ⟨S96x4096, .fp8e4m3⟩
  | .local _ .vmem, ⟨2, _⟩ => ⟨S96x1, .f32⟩
  | _, _ => ⟨S96x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S96x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QuantAct.lean ====
abbrev S96x14336 : Shape := ⟨2, ![96, 14336]⟩
abbrev S96x1 : Shape := ⟨2, ![96, 1]⟩
abbrev S96 : Shape := ⟨1, ![96]⟩

abbrev nBuf : Space → Nat
  | .hbm => 3
  | .vmem => 3
  | .smem => 0
  | _ => 0

abbrev bufTy : (tb : Table) → Fin (tcTables nBuf tb) → BufTy
  | .hbm, ⟨0, _⟩ => ⟨S96x14336, .f32⟩
  | .hbm, ⟨1, _⟩ => ⟨S96x14336, .fp8e4m3⟩
  | .hbm, ⟨2, _⟩ => ⟨S96x1, .f32⟩
  | .local _ .vmem, ⟨0, _⟩ => ⟨S96x14336, .f32⟩
  | .local _ .vmem, ⟨1, _⟩ => ⟨S96x14336, .fp8e4m3⟩
  | .local _ .vmem, ⟨2, _⟩ => ⟨S96x1, .f32⟩
  | _, _ => ⟨S96x14336, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S96x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QuantActReferenceIdeal.lean ====
abbrev S96x14336 : Shape := ⟨2, ![96, 14336]⟩
abbrev S96x1 : Shape := ⟨2, ![96, 1]⟩
abbrev S96 : Shape := ⟨1, ![96]⟩

abbrev nBuf : Space → Nat
  | .hbm => 3
  | .vmem => 3
  | .smem => 0
  | _ => 0

abbrev bufTy : (tb : Table) → Fin (tcTables nBuf tb) → BufTy
  | .hbm, ⟨0, _⟩ => ⟨S96x14336, .f32⟩
  | .hbm, ⟨1, _⟩ => ⟨S96x14336, .fp8e4m3⟩
  | .hbm, ⟨2, _⟩ => ⟨S96x1, .f32⟩
  | .local _ .vmem, ⟨0, _⟩ => ⟨S96x14336, .f32⟩
  | .local _ .vmem, ⟨1, _⟩ => ⟨S96x14336, .fp8e4m3⟩
  | .local _ .vmem, ⟨2, _⟩ => ⟨S96x1, .f32⟩
  | _, _ => ⟨S96x14336, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S96x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Expand.lean ====
/-
  The weight expansion of the kernel, written once over arbitrary tiles: from the bytes of the kept codes and the
  16-bit metadata words, the four code planes of a 256-row tile, and the four running products with the activations.
  The definitions follow the kernel's own operations one by one, so that the printed kernel equals them by unfolding.
-/
module

public import Idealize.ShloMosaic.Lib.Pipeline
public import Idealize.ShloMosaic.Lib.BitcastFour
public import Idealize.ShloMosaic.PureOps

@[expose] public section

noncomputable section

namespace Cert.Expand

open Idealize.ShloMosaic

abbrev S8x128 : Shape := ⟨2, ![8, 128]⟩
abbrev S8x128x1 : Shape := ⟨3, ![8, 128, 1]⟩
abbrev S16x128 : Shape := ⟨2, ![16, 128]⟩
abbrev S32x128 : Shape := ⟨2, ![32, 128]⟩
abbrev S256x128 : Shape := ⟨2, ![256, 128]⟩
abbrev S256x256 : Shape := ⟨2, ![256, 256]⟩
abbrev S96x256 : Shape := ⟨2, ![96, 256]⟩

/-- The lane number of each word. -/
def lane : IVec S8x128 32 := iota .tc S8x128 32 [1] (by decide)

/-- Whether the lane is in the lower half. -/
def low : IVec S8x128 1 := cmpi .slt lane (broadcast S8x128 64#32)

/-- The even columns of a pair of tiles, lower half from the first. -/
def splitA : IVec S8x128 32 :=
  select low (muli (broadcast S8x128 2#32) lane) (subi (muli (broadcast S8x128 2#32) lane) (broadcast S8x128 127#32))

/-- The odd columns, lower half from the second tile. -/
def splitB : IVec S8x128 32 :=
  select low (addi (muli (broadcast S8x128 2#32) lane) (broadcast S8x128 1#32))
    (subi (muli (broadcast S8x128 2#32) lane) (broadcast S8x128 128#32))

/-- The parity of the 32-lane block. -/
def oddBlock : IVec S8x128 32 := andi (shrsi lane (broadcast S8x128 5#32)) (broadcast S8x128 1#32)

/-- The lane holding the metadata byte of each lane's group, before the half is chosen. -/
def base : IVec S8x128 32 :=
  addi (shrsi lane (broadcast S8x128 2#32))
    (muli (broadcast S8x128 32#32) (andi (shrsi lane (broadcast S8x128 1#32)) (broadcast S8x128 1#32)))

/-- Which nibble of the byte is the lane's. -/
def nibShift : IVec S8x128 32 := muli (broadcast S8x128 4#32) (andi lane (broadcast S8x128 1#32))

/-- The gather along lanes as it is printed: a negative index wrapped once, the index array reshaped there and back. -/
def take (x idx : IVec S8x128 32) : IVec S8x128 32 :=
  dynamicGather 1 x (shapeCast S8x128 (shapeCast S8x128x1
    (select (cmpi .slt idx (broadcast S8x128 0#32)) (addi idx (broadcast S8x128 128#32)) idx) (by decide)) (by decide))

/-- Four rows of bytes as words. -/
def words (v : IVec S32x128 8) : IVec S8x128 32 := bitcast S8x128 32 v (by decide)

/-- The low bytes of the metadata words, the upper index's bits complemented. -/
def metaLo (m : IVec S32x128 16) : IVec S8x128 32 :=
  xori (words (trunci 8 m (by decide))) (broadcast S8x128 3435973836#32)

/-- The high bytes, likewise. -/
def metaHi (m : IVec S32x128 16) : IVec S8x128 32 :=
  xori (words (trunci 8 (bitcast S32x128 16 (shrui (bitcast S16x128 32 m (by decide)) (broadcast S16x128 8#32)) (by decide))
    (by decide))) (broadcast S8x128 3435973836#32)

/-- Low and high bytes of the even 32-lane blocks side by side. -/
def metaEven (m : IVec S32x128 16) : IVec S8x128 32 :=
  select (cmpi .eq oddBlock (broadcast S8x128 0#32)) (metaLo m) (dynamicRotate 1 32#32 none (metaHi m) (by decide))

/-- Low and high bytes of the odd 32-lane blocks side by side. -/
def metaOdd (m : IVec S32x128 16) : IVec S8x128 32 :=
  select (cmpi .eq oddBlock (broadcast S8x128 1#32)) (metaHi m) (dynamicRotate 1 96#32 none (metaLo m) (by decide))

/-- The metadata bytes the quarter `t` of a tile reads. -/
def metaOf (t : Nat) (m : IVec S32x128 16) : IVec S8x128 32 :=
  match t % 2 with
  | 0 => metaEven m
  | _ => metaOdd m

/-- The nibble of each lane's group, at the bottom of each byte. -/
def nibs (t : Nat) (m : IVec S32x128 16) : IVec S8x128 32 :=
  shrui (take (metaOf t m) (addi (broadcast S8x128 (BitVec.ofNat 32 (t / 2 * 64))) base)) nibShift

/-- The even kept codes. -/
def even (va vb : IVec S32x128 8) : IVec S8x128 32 :=
  select low (take (words va) splitA) (take (words vb) splitB)

/-- The odd kept codes. -/
def odd (va vb : IVec S32x128 8) : IVec S8x128 32 :=
  dynamicRotate 1 64#32 none (select low (take (words vb) splitB) (take (words va) splitA)) (by decide)

/-- The lowest bit of each byte spread over the byte. -/
def spread (x : IVec S8x128 32) : IVec S8x128 32 :=
  subi (shli (andi x (broadcast S8x128 16843009#32)) (broadcast S8x128 8#32)) (andi x (broadcast S8x128 16843009#32))

/-- Bit `b` of each byte's low half spread over the byte. -/
def maskAt (x : IVec S8x128 32) (b : BitVec 32) : IVec S8x128 32 := spread (shrui x (broadcast S8x128 b))

/-- The four planes of a group, as words. -/
def planeWords (j : Nat) (b0 b1 x : IVec S8x128 32) : IVec S8x128 32 :=
  match j with
  | 0 => xori (xori b0 (andi b0 (spread x))) (andi b0 (maskAt x 1#32))
  | 1 => ori (andi b0 (spread x)) (andi b1 (maskAt x 3#32))
  | 2 => ori (andi b0 (maskAt x 1#32)) (andi b1 (maskAt x 2#32))
  | _ => xori (xori b1 (andi b1 (maskAt x 3#32))) (andi b1 (maskAt x 2#32))

theorem concatenates_rows :
    Shape.Concatenates [S32x128, S32x128, S32x128, S32x128, S32x128, S32x128, S32x128, S32x128] S256x128 0 := by decide

theorem concatenates_cols : Shape.Concatenates [S256x128, S256x128] S256x256 1 := by decide

variable {F : FTy → Type} [FloatOps F]

/-- A plane of 32 rows by 128 groups. -/
def unit (j t : Nat) (va vb : IVec S32x128 8) (m : IVec S32x128 16) : FVec F S32x128 .fp8e4m3 :=
  bitcastToFloat .fp8e4m3 (bitcast S32x128 8 (planeWords j (even va vb) (odd va vb) (nibs t m)) (by decide))

/-- Eight blocks of 32 rows under one another. -/
def column (u : Fin 8 → FVec F S32x128 .fp8e4m3) : FVec F S256x128 .fp8e4m3 :=
  concatenate S256x128 0 [⟨S32x128, u 0⟩, ⟨S32x128, u 1⟩, ⟨S32x128, u 2⟩, ⟨S32x128, u 3⟩, ⟨S32x128, u 4⟩, ⟨S32x128, u 5⟩,
    ⟨S32x128, u 6⟩, ⟨S32x128, u 7⟩] concatenates_rows

/-- A 256-row tile of a plane: chunk `n` of 256 groups. -/
def tile (LV : Nat → Fin 8 → IVec S32x128 8) (LM : Nat → Fin 8 → IVec S32x128 16) (j n : Nat) : FVec F S256x256 .fp8e4m3 :=
  concatenate S256x256 1
    [⟨S256x128, column fun rg => unit j (n % 2 * 2) (LV (n * 4) rg) (LV (n * 4 + 1) rg) (LM (n / 2) rg)⟩,
     ⟨S256x128, column fun rg => unit j (n % 2 * 2 + 1) (LV (n * 4 + 2) rg) (LV (n * 4 + 3) rg) (LM (n / 2) rg)⟩] concatenates_cols

/-- The contraction of the last axes. -/
def dims : DotDims S96x256 S256x256 S96x256 where
  lhsContracting := [1]
  rhsContracting := [1]
  lhsNonContracting := [0]
  rhsNonContracting := [0]
  lhsBatch := []
  rhsBatch := []
  wf := by decide

/-- One chunk's product. -/
def chunk (LA : Nat → Nat → FVec F S96x256 .fp8e4m3) (LV : Nat → Fin 8 → IVec S32x128 8) (LM : Nat → Fin 8 → IVec S32x128 16)
    (j n : Nat) : FVec F S96x256 .f32 :=
  matmul dims none (shapeCast S96x256 (LA j n) (by decide)) (tile LV LM j n) (constant S96x256 .f32 0x00000000#32)

/-- The running product of a plane over the chunks `0 … n`. -/
def acc (LA : Nat → Nat → FVec F S96x256 .fp8e4m3) (LV : Nat → Fin 8 → IVec S32x128 8) (LM : Nat → Fin 8 → IVec S32x128 16)
    (j : Nat) : Nat → FVec F S96x256 .f32
  | 0 => chunk LA LV LM j 0
  | n + 1 => addf (acc LA LV LM j n) (chunk LA LV LM j (n + 1))

/-- The four planes' products added. -/
def expandDot (LA : Nat → Nat → FVec F S96x256 .fp8e4m3) (LV : Nat → Fin 8 → IVec S32x128 8) (LM : Nat → Fin 8 → IVec S32x128 16)
    (n : Nat) : FVec F S96x256 .f32 :=
  addf (addf (addf (acc LA LV LM 0 n) (acc LA LV LM 1 n)) (acc LA LV LM 2 n)) (acc LA LV LM 3 n)

end Cert.Expand

end
-- ==== Proof.GateUpTrip.lean ====
module

public import proofs.«01_k».proof.Proof.Expand
public import proofs.«01_k».proof.Proof.Gen.GateUpIdeal.Value

/-! # One trip of the gate and up kernel, read as an expansion

The loads and the written block of one loop trip of the kernel, with the byte tiles, the metadata tiles and
the activation tiles named by their numbers, so that the program-free facts on the expansion apply. -/

@[expose] public section

set_option maxRecDepth 65536
noncomputable section
namespace Cert.GateUpIdeal.Gen
open Idealize.ShloMosaic Idealize.ShloMosaic.TcCoe Idealize.ShloMosaic.Tactic
open Idealize.SL Idealize.SL.RA Idealize.SL.BI

/-- Where the bytes of column tile `ct` are loaded. -/
def offV (k : Fin k0_t1_loop.trips) (ct : Nat) (b : BitVec 32) : Fin 2 → Nat :=
  match ct with
  | 0 => k0_off2 k b | 1 => k0_off3 k b | 2 => k0_off4 k b | 3 => k0_off5 k b
  | 4 => k0_off6 k b | 5 => k0_off7 k b | 6 => k0_off8 k b | 7 => k0_off9 k b
  | 8 => k0_off11 k b | 9 => k0_off12 k b | 10 => k0_off13 k b | 11 => k0_off14 k b
  | 12 => k0_off15 k b | 13 => k0_off16 k b | 14 => k0_off17 k b | _ => k0_off18 k b

theorem offV_inb (k : Fin k0_t1_loop.trips) (ct : Nat) (r : Fin 8) :
    ∀ a, (offV k ct (BitVec.ofNat 32 (32 * r.val))) a + S32x128.size a ≤ S1024x2048.size a := by
  unfold offV
  split
  exacts [k0_off2_inb k r, k0_off3_inb k r, k0_off4_inb k r, k0_off5_inb k r, k0_off6_inb k r, k0_off7_inb k r,
    k0_off8_inb k r, k0_off9_inb k r, k0_off11_inb k r, k0_off12_inb k r, k0_off13_inb k r, k0_off14_inb k r,
    k0_off15_inb k r, k0_off16_inb k r, k0_off17_inb k r, k0_off18_inb k r]

/-- Where the metadata of column tile `mt` is loaded. -/
def offM (k : Fin k0_t1_loop.trips) (mt : Nat) (b : BitVec 32) : Fin 2 → Nat :=
  match mt with
  | 0 => k0_off1 k b | _ => k0_off10 k b

theorem offM_inb (k : Fin k0_t1_loop.trips) (mt : Nat) (r : Fin 8) :
    ∀ a, (offM k mt (BitVec.ofNat 32 (32 * r.val))) a + S32x128.size a ≤ S1024x256.size a := by
  unfold offM
  split
  exacts [k0_off1_inb k r, k0_off10_inb k r]

variable {F : FTy → Type} [FloatOps F]

def ldV (arg : Memref sig .tc .vmem S1024x2048 .i8) (X : BufTy.Contents (Elt F) arg.view.ty) (k : Fin k0_t1_loop.trips)
    (ct : Nat) (rg : Fin 8) : IVec S32x128 8 :=
  View.readAt (Elt F) arg.view (Rect.unit (s := S1024x2048) (offV k ct (BitVec.ofNat 32 (32 * rg.val))) S32x128.size (offV_inb k ct rg)).toLoadRect X

def ldM (arg : Memref sig .tc .vmem S1024x256 .i16) (X : BufTy.Contents (Elt F) arg.view.ty) (k : Fin k0_t1_loop.trips)
    (mt : Nat) (rg : Fin 8) : IVec S32x128 16 :=
  View.readAt (Elt F) arg.view (Rect.unit (s := S1024x256) (offM k mt (BitVec.ofNat 32 (32 * rg.val))) S32x128.size (offM_inb k mt rg)).toLoadRect X

theorem offA_inb (j n : Nat) : ∀ a, (![0, j % 4 * 1024 + n % 4 * 256] : Fin 2 → Nat) a + S96x256.size a ≤ S96x4096.size a := by
  intro a
  match a with
  | ⟨0, _⟩ => exact Nat.le_refl 96
  | ⟨1, _⟩ => show j % 4 * 1024 + n % 4 * 256 + 256 ≤ 4096; omega

def ldA (arg : Memref sig .tc .vmem S96x4096 .fp8e4m3) (X : BufTy.Contents (Elt F) arg.view.ty) (j n : Nat) :
    FVec F S96x256 .fp8e4m3 :=
  View.readAt (Elt F) arg.view (Rect.unit (s := S96x4096) ![0, j % 4 * 1024 + n % 4 * 256] S96x256.size (offA_inb j n)).toLoadRect X

/-- Where the scales of the tile are loaded. -/
def ldS (arg : Memref sig .tc .vmem S1x1024 .f32) (X : BufTy.Contents (Elt F) arg.view.ty) (k : Fin k0_t1_loop.trips) : FVec F S1x256 .f32 :=
  View.readAt (Elt F) arg.view (Rect.unit (s := S1x1024) (k0_off19 k) S1x256.size (k0_off19_inb k)).toLoadRect X

def ldR (arg : Memref sig .tc .vmem S96x1 .f32) (X : BufTy.Contents (Elt F) arg.view.ty) : FVec F S96x1 .f32 :=
  View.readAt (Elt F) arg.view (Rect.unit (s := S96x1) ![0, 0] S96x1.size inb_S96x1_S96x1_0_0).toLoadRect X

/-- A product scaled by its row and its column. -/
def scaled (d : FVec F S96x256 .f32) (sa : FVec F S96x1 .f32) (sc : FVec F S1x256 .f32) : FVec F S96x256 .f32 :=
  mulf (mulf d (broadcastTo S96x256 sa broadcasts_S96x1_S96x256))
    (broadcastTo S96x256 (shapeCast S1x256 sc shapeCasts_S1x256_S1x256) broadcasts_S1x256_S96x256)

theorem trip_pieces (𝒱 : Variants) (c : Dev nD) (bd : Option 𝒱.V) (i : grid0.Coords) (arg1 : Memref sig .tc .vmem S96x4096 .fp8e4m3) (harg1 : arg1.IsWhole) (arg2 : Memref sig .tc .vmem S96x1 .f32) (harg2 : arg2.IsWhole) (arg3 : Memref sig .tc .vmem S1024x2048 .i8) (harg3 : arg3.IsWhole) (arg4 : Memref sig .tc .vmem S1024x256 .i16) (harg4 : arg4.IsWhole) (arg5 : Memref sig .tc .vmem S1x1024 .f32) (harg5 : arg5.IsWhole) (arg6 : Memref sig .tc .vmem S1024x2048 .i8) (harg6 : arg6.IsWhole) (arg7 : Memref sig .tc .vmem S1024x256 .i16) (harg7 : arg7.IsWhole) (arg8 : Memref sig .tc .vmem S1x1024 .f32) (harg8 : arg8.IsWhole) (arg9 : Memref sig .tc .vmem S96x1024 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) :
    (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 X_arg7 X_arg8 k).1
      = [⟨Rect.unit (s := S96x1024) (k0_off20 k) S96x256.size (k0_off20_inb k),
          mulf (mulf (scaled (Cert.Expand.expandDot (ldA arg1 X_arg1) (ldV arg3 X_arg3 k) (ldM arg4 X_arg4 k) 3) (ldR arg2 X_arg2) (ldS arg5 X_arg5 k))
            (logistic (scaled (Cert.Expand.expandDot (ldA arg1 X_arg1) (ldV arg3 X_arg3 k) (ldM arg4 X_arg4 k) 3) (ldR arg2 X_arg2) (ldS arg5 X_arg5 k))))
            (scaled (Cert.Expand.expandDot (ldA arg1 X_arg1) (ldV arg6 X_arg6 k) (ldM arg7 X_arg7 k) 3) (ldR arg2 X_arg2) (ldS arg8 X_arg8 k))⟩] := by
  unfold trip_k0_t1
  rfl

end Cert.GateUpIdeal.Gen
end
-- ==== Proof.ExpandValue.lean ====
/-
  The values of the weight expansion: every operation of `Expand` read at an element, ending in the code plane of a
  group written with its two indices, and the four running products as one sum over the groups.
-/
module

public import proofs.«01_k».proof.Proof.Expand
public import Idealize.ShloMosaic.Lib.MatmulPlain
public import Idealize.ShloMosaic.Lib.ValueIdx
public import Idealize.ShloMosaic.Lib.Pipeline.Value
public import Idealize.ShloMosaic.PureOps.Ideal

@[expose] public section

noncomputable section

namespace Cert.Expand

open Idealize.ShloMosaic Idealize.ShloMosaic.ValueIdx
open scoped BigOperators

/-! ### Lanes -/

theorem lane_ix (s : Fin 8) (l : Fin 128) : lane (ix2 s l) = BitVec.ofNat 32 l.val :=
  iota_single_apply .tc S8x128 32 1 _ _

/-- An index wrapped once and reduced to a lane. -/
def wrap (i : BitVec 32) : Nat :=
  (Scalar.select (IntOp.cmpi .slt i 0#32) (IntOp.addi i 128#32) i).toNat % 128

theorem take_ix (x idx : IVec S8x128 32) (s : Fin 8) (l l' : Fin 128) (h : wrap (idx (ix2 s l)) = l'.val) :
    take x idx (ix2 s l) = x (ix2 s l') := by
  unfold take
  rw [shapeCast_shapeCast]
  unfold dynamicGather
  refine congrArg x (funext fun a => ?_)
  match a with
  | ⟨0, _⟩ => rfl
  | ⟨1, _⟩ => exact Fin.ext h

theorem rotate_ix (n : BitVec 32) (x : IVec S8x128 32) (h : S8x128.Rotates 1 none) (s : Fin 8) (l l' : Fin 128)
    (hl : (l.val + 128 - n.toNat % 128) % 128 = l'.val) : dynamicRotate 1 n none x h (ix2 s l) = x (ix2 s l') := by
  unfold dynamicRotate
  refine congrArg x (funext fun a => ?_)
  match a with
  | ⟨0, _⟩ => rfl
  | ⟨1, _⟩ => exact Fin.ext hl

theorem low_ix (s : Fin 8) (l : Fin 128) : low (ix2 s l) = if l.val < 64 then 1#1 else 0#1 := by
  show IntOp.cmpi .slt (lane (ix2 s l)) 64#32 = _
  rw [lane_ix]
  revert l; decide

theorem splitA_ix (s : Fin 8) (l : Fin 128) :
    wrap (splitA (ix2 s l)) = if l.val < 64 then 2 * l.val else 2 * l.val - 127 := by
  show wrap (Scalar.select (low (ix2 s l)) (IntOp.muli 2#32 (lane (ix2 s l)))
    (IntOp.subi (IntOp.muli 2#32 (lane (ix2 s l))) 127#32)) = _
  rw [low_ix, lane_ix]
  revert l; decide

theorem splitB_ix (s : Fin 8) (l : Fin 128) :
    wrap (splitB (ix2 s l)) = if l.val < 64 then 2 * l.val + 1 else 2 * l.val - 128 := by
  show wrap (Scalar.select (low (ix2 s l)) (IntOp.addi (IntOp.muli 2#32 (lane (ix2 s l))) 1#32)
    (IntOp.subi (IntOp.muli 2#32 (lane (ix2 s l))) 128#32)) = _
  rw [low_ix, lane_ix]
  revert l; decide

theorem oddBlock_ix (s : Fin 8) (l : Fin 128) : oddBlock (ix2 s l) = BitVec.ofNat 32 (l.val / 32 % 2) := by
  show IntOp.andi (IntOp.shrsi .vector (lane (ix2 s l)) 5#32) 1#32 = _
  rw [lane_ix]
  revert l; decide

theorem base_ix (h : Fin 2) (s : Fin 8) (l : Fin 128) :
    wrap (IntOp.addi (BitVec.ofNat 32 (h.val * 64)) (base (ix2 s l))) = h.val * 64 + l.val / 4 + 32 * (l.val / 2 % 2) := by
  show wrap (IntOp.addi (BitVec.ofNat 32 (h.val * 64)) (IntOp.addi (IntOp.shrsi .vector (lane (ix2 s l)) 2#32)
    (IntOp.muli 32#32 (IntOp.andi (IntOp.shrsi .vector (lane (ix2 s l)) 1#32) 1#32)))) = _
  rw [lane_ix]
  revert h l; decide

theorem nibShift_ix (s : Fin 8) (l : Fin 128) : nibShift (ix2 s l) = BitVec.ofNat 32 (4 * (l.val % 2)) := by
  show IntOp.muli 4#32 (IntOp.andi (lane (ix2 s l)) 1#32) = _
  rw [lane_ix]
  revert l; decide

/-! ### Bytes -/

/-- The word row of a byte row. -/
abbrev wrow (p : Fin 32) : Fin 8 := ⟨p.val / 4, by omega⟩

/-- Byte `b` of a word. -/
def byte (b : Nat) (w : BitVec 32) : BitVec 8 := w.extractLsb' (8 * b) 8

theorem words_byte (v : IVec S32x128 8) (p : Fin 32) (l : Fin 128) :
    byte (p.val % 4) (words v (ix2 (wrow p) l)) = v (ix2 p l) := by
  apply BitVec.eq_of_getLsbD_eq
  intro i hi
  unfold byte words
  rw [BitVec.getLsbD_extractLsb', bitcast_8_32_getLsbD_ix2 v _ (wrow p) l (8 * (p.val % 4) + i) (by omega) p
    (by show p.val = 4 * (p.val / 4) + _; omega)]
  have e : (8 * (p.val % 4) + i) % 8 = i := by omega
  simp [e, hi]

theorem words_bit (v : IVec S32x128 8) (p : Fin 32) (l : Fin 128) (i : Nat) (hi : i < 8) :
    (words v (ix2 (wrow p) l)).getLsbD (8 * (p.val % 4) + i) = (v (ix2 p l)).getLsbD i := by
  rw [← words_byte v p l]
  simp [byte, BitVec.getLsbD_extractLsb', hi]

theorem unwords_ix (w : IVec S8x128 32) (h : S8x128.Bitcasts 32 S32x128 8) (p : Fin 32) (l : Fin 128) :
    bitcast S32x128 8 w h (ix2 p l) = byte (p.val % 4) (w (ix2 (wrow p) l)) := by
  apply BitVec.eq_of_getLsbD_eq
  intro i hi
  rw [bitcast_getLsbD w h (ix2 p l) i hi (by decide)]
  have hrow : S32x128.row (ix2 p l) = p.val := rfl
  unfold byte
  rw [BitVec.getLsbD_extractLsb']
  have e2 : (S32x128.row (ix2 p l) * 8 + i) % 32 = 8 * (p.val % 4) + i := by rw [hrow]; omega
  rw [e2]
  simp only [hi, decide_true, Bool.true_and]
  congr 2
  funext a
  match a with
  | ⟨0, _⟩ =>
    refine Fin.ext ((h.srcIdx_row _ _ _ ⟨0, Nat.zero_lt_two⟩ rfl).trans ?_)
    rw [hrow]; show (p.val * 8 + i) / 32 = p.val / 4; omega
  | ⟨1, _⟩ => exact Fin.ext (h.srcIdx_other _ _ _ ⟨1, Nat.one_lt_two⟩ (by show ¬ 1 + 2 = 2; omega))

/-! ### The metadata -/

theorem flip_bit : ∀ (b : Fin 4) (i : Fin 8),
    (3435973836#32).getLsbD (8 * b.val + i.val) = decide (2 ≤ i.val % 4) := by decide

theorem metaLo_bit (m : IVec S32x128 16) (p : Fin 32) (l : Fin 128) (i : Nat) (hi : i < 8) :
    (metaLo m (ix2 (wrow p) l)).getLsbD (8 * (p.val % 4) + i)
      = ((m (ix2 p l)).getLsbD i ^^ decide (2 ≤ i % 4)) := by
  show (words (trunci 8 m (by decide)) (ix2 (wrow p) l) ^^^ 3435973836#32).getLsbD _ = _
  rw [BitVec.getLsbD_xor, words_bit _ p l i hi, flip_bit ⟨p.val % 4, by omega⟩ ⟨i, hi⟩]
  show (((m (ix2 p l)).setWidth 8).getLsbD i ^^ _) = _
  simp [hi]

theorem shr8_bit (m : IVec S32x128 16) (h₁ : S32x128.Bitcasts 16 S16x128 32) (h₂ : S16x128.Bitcasts 32 S32x128 16)
    (p : Fin 32) (l : Fin 128) (i : Nat) (hi : i < 8) :
    (bitcast S32x128 16 (shrui (bitcast S16x128 32 m h₁) (broadcast S16x128 8#32)) h₂ (ix2 p l)).getLsbD i
      = (m (ix2 p l)).getLsbD (8 + i) := by
  rw [bitcast_getLsbD _ h₂ (ix2 p l) i (by omega) (by decide)]
  have hrow : S32x128.row (ix2 p l) = p.val := rfl
  have hidx : ∀ hp, h₂.srcIdx (ix2 p l) ((S32x128.row (ix2 p l) * 16 + i) / 32) hp
      = ix2 (⟨p.val / 2, by omega⟩ : Fin 16) l := by
    intro hp
    funext a
    match a with
    | ⟨0, _⟩ =>
      refine Fin.ext ((h₂.srcIdx_row _ _ _ ⟨0, Nat.zero_lt_two⟩ rfl).trans ?_)
      rw [hrow]; show (p.val * 16 + i) / 32 = p.val / 2; omega
    | ⟨1, _⟩ => exact Fin.ext (h₂.srcIdx_other _ _ _ ⟨1, Nat.one_lt_two⟩ (by show ¬ 1 + 2 = 2; omega))
  rw [hidx]
  show (bitcast S16x128 32 m h₁ (ix2 (⟨p.val / 2, by omega⟩ : Fin 16) l) >>> 8#32).getLsbD _ = _
  rw [show (8#32 : BitVec 32) = BitVec.ofNat 32 8 from rfl, BitVec.ushiftRight_eq', BitVec.getLsbD_ushiftRight]
  have e : (8#32).toNat + (S32x128.row (ix2 p l) * 16 + i) % 32 = 16 * (p.val % 2) + 8 + i := by
    rw [hrow]; show 8 + (p.val * 16 + i) % 32 = _; omega
  rw [e, bitcast_getLsbD m h₁ _ _ (by omega) (by decide)]
  have hrow' : S16x128.row (ix2 (⟨p.val / 2, by omega⟩ : Fin 16) l) = p.val / 2 := rfl
  have hm : (S16x128.row (ix2 (⟨p.val / 2, by omega⟩ : Fin 16) l) * 32 + (16 * (p.val % 2) + 8 + i)) % 16 = 8 + i := by
    rw [hrow']; omega
  rw [hm]
  congr 2
  funext a
  match a with
  | ⟨0, _⟩ =>
    refine Fin.ext ((h₁.srcIdx_row _ _ _ ⟨0, Nat.zero_lt_two⟩ rfl).trans ?_)
    rw [hrow']; show (p.val / 2 * 32 + (16 * (p.val % 2) + 8 + i)) / 16 = p.val; omega
  | ⟨1, _⟩ => exact Fin.ext (h₁.srcIdx_other _ _ _ ⟨1, Nat.one_lt_two⟩ (by show ¬ 1 + 2 = 2; omega))

theorem metaHi_bit (m : IVec S32x128 16) (p : Fin 32) (l : Fin 128) (i : Nat) (hi : i < 8) :
    (metaHi m (ix2 (wrow p) l)).getLsbD (8 * (p.val % 4) + i)
      = ((m (ix2 p l)).getLsbD (8 + i) ^^ decide (2 ≤ i % 4)) := by
  show (words _ (ix2 (wrow p) l) ^^^ 3435973836#32).getLsbD _ = _
  rw [BitVec.getLsbD_xor, words_bit _ p l i hi, flip_bit ⟨p.val % 4, by omega⟩ ⟨i, hi⟩]
  show (((bitcast S32x128 16 _ _ (ix2 p l)).setWidth 8).getLsbD i ^^ _) = _
  rw [BitVec.getLsbD_setWidth, shr8_bit m _ _ p l i hi]
  simp [hi]

end Cert.Expand

end
-- ==== Proof.ExpandSum.lean ====
/-
  The code planes of the weight expansion read at a group, and the running products as one sum over the groups.
-/
module

public import proofs.«01_k».proof.Proof.ExpandValue

@[expose] public section

noncomputable section

namespace Cert.Expand

open Idealize.ShloMosaic Idealize.ShloMosaic.ValueIdx
open scoped BigOperators

/-! ### The nibble of a group -/

theorem metaEven_ix (m : IVec S32x128 16) (s : Fin 8) (l l' : Fin 128) (hodd : l.val / 32 % 2 = 1 → l'.val = l.val - 32)
    (heven : l.val / 32 % 2 = 0 → l'.val = l.val) :
    metaEven m (ix2 s l) = if l.val / 32 % 2 = 0 then metaLo m (ix2 s l') else metaHi m (ix2 s l') := by
  have e : metaEven m (ix2 s l) = Scalar.select (IntOp.cmpi .eq (oddBlock (ix2 s l)) 0#32) (metaLo m (ix2 s l))
    (dynamicRotate 1 32#32 none (metaHi m) (by decide) (ix2 s l)) := rfl
  rw [e, oddBlock_ix]
  rcases Nat.mod_two_eq_zero_or_one (l.val / 32) with h | h
  · rw [h, if_pos rfl, show l' = l from Fin.ext (heven h)]; rfl
  · rw [h, if_neg (by omega), rotate_ix 32#32 _ _ s l l' (by
      have := hodd h; show (l.val + 128 - 32) % 128 = _; omega)]; rfl

theorem metaOdd_ix (m : IVec S32x128 16) (s : Fin 8) (l l' : Fin 128) (hodd : l.val / 32 % 2 = 1 → l'.val = l.val)
    (heven : l.val / 32 % 2 = 0 → l'.val = l.val + 32) :
    metaOdd m (ix2 s l) = if l.val / 32 % 2 = 0 then metaLo m (ix2 s l') else metaHi m (ix2 s l') := by
  have e : metaOdd m (ix2 s l) = Scalar.select (IntOp.cmpi .eq (oddBlock (ix2 s l)) 1#32) (metaHi m (ix2 s l))
    (dynamicRotate 1 96#32 none (metaLo m) (by decide) (ix2 s l)) := rfl
  rw [e, oddBlock_ix]
  rcases Nat.mod_two_eq_zero_or_one (l.val / 32) with h | h
  · rw [h, if_pos rfl, rotate_ix 96#32 _ _ s l l' (by
      have := heven h; show (l.val + 128 - 96) % 128 = _; omega)]; rfl
  · rw [h, if_neg (by omega), show l' = l from Fin.ext (hodd h)]; rfl

theorem base_ix' (h : Nat) (hh : h < 2) (s : Fin 8) (l : Fin 128) :
    wrap ((addi (broadcast S8x128 (BitVec.ofNat 32 (h * 64))) base) (ix2 s l))
      = h * 64 + l.val / 4 + 32 * (l.val / 2 % 2) := by
  have e : (addi (broadcast S8x128 (BitVec.ofNat 32 (h * 64))) base) (ix2 s l)
    = IntOp.addi (BitVec.ofNat 32 (h * 64)) (base (ix2 s l)) := rfl
  rw [e]
  exact base_ix ⟨h, hh⟩ s l

theorem half_block (a q d : Nat) (hq : q < 32) (hd : d < 2) : (a * 64 + q + 32 * d) / 32 % 2 = d := by omega

theorem metaTake (t : Fin 4) (m : IVec S32x128 16) (s : Fin 8) (l : Fin 128) :
    take (metaOf t.val m) (addi (broadcast S8x128 (BitVec.ofNat 32 (t.val / 2 * 64))) base) (ix2 s l)
      = if l.val / 2 % 2 = 0 then metaLo m (ix2 s (⟨32 * t.val + l.val / 4, by omega⟩ : Fin 128))
        else metaHi m (ix2 s (⟨32 * t.val + l.val / 4, by omega⟩ : Fin 128)) := by
  rw [take_ix (metaOf t.val m) _ s l (⟨t.val / 2 * 64 + l.val / 4 + 32 * (l.val / 2 % 2), by omega⟩ : Fin 128)
    (base_ix' (t.val / 2) (by omega) s l)]
  have e : (t.val / 2 * 64 + l.val / 4 + 32 * (l.val / 2 % 2)) / 32 % 2 = l.val / 2 % 2 :=
    half_block _ _ _ (by omega) (by omega)
  have hd : l.val / 2 % 2 < 2 := by omega
  rcases Nat.mod_two_eq_zero_or_one t.val with ht | ht
  · have : metaOf t.val m = metaEven m := by unfold metaOf; rw [ht]; rfl
    rw [this, metaEven_ix m s _ (⟨32 * t.val + l.val / 4, by omega⟩ : Fin 128) (by intro h; dsimp only at h ⊢; rw [e] at h; omega)
      (by intro h; dsimp only at h ⊢; rw [e] at h; omega)]
    simp only [e]
  · have : metaOf t.val m = metaOdd m := by unfold metaOf; rw [ht]; rfl
    rw [this, metaOdd_ix m s _ (⟨32 * t.val + l.val / 4, by omega⟩ : Fin 128) (by intro h; dsimp only at h ⊢; rw [e] at h; omega)
      (by intro h; dsimp only at h ⊢; rw [e] at h; omega)]
    simp only [e]

theorem nibs_bit (t : Fin 4) (m : IVec S32x128 16) (p : Fin 32) (l : Fin 128) (i : Nat) (hi : i < 4) :
    (nibs t.val m (ix2 (wrow p) l)).getLsbD (8 * (p.val % 4) + i)
      = ((m (ix2 p (⟨32 * t.val + l.val / 4, by omega⟩ : Fin 128))).getLsbD (4 * (l.val % 4) + i) ^^ decide (2 ≤ i)) := by
  have e : nibs t.val m (ix2 (wrow p) l) = IntOp.shrui .vector
    (take (metaOf t.val m) (addi (broadcast S8x128 (BitVec.ofNat 32 (t.val / 2 * 64))) base) (ix2 (wrow p) l))
    (nibShift (ix2 (wrow p) l)) := rfl
  rw [e, metaTake, nibShift_ix]
  have hs : (BitVec.ofNat 32 (4 * (l.val % 2))).toNat = 4 * (l.val % 2) := by rw [BitVec.toNat_ofNat]; omega
  have hsh : ∀ x : BitVec 32, IntOp.shrui .vector x (BitVec.ofNat 32 (4 * (l.val % 2))) = x >>> (4 * (l.val % 2)) := by
    intro x; unfold IntOp.shrui; rw [hs, if_pos (by omega), BitVec.ushiftRight_eq', hs]
  rw [hsh, BitVec.getLsbD_ushiftRight, show 4 * (l.val % 2) + (8 * (p.val % 4) + i) = 8 * (p.val % 4) + (4 * (l.val % 2) + i) by omega]
  rcases Nat.mod_two_eq_zero_or_one (l.val / 2) with h | h
  · rw [if_pos h, metaLo_bit m p _ _ (by omega)]
    rw [show 4 * (l.val % 2) + i = 4 * (l.val % 4) + i by omega, show (4 * (l.val % 4) + i) % 4 = i by omega]
  · rw [if_neg (by omega), metaHi_bit m p _ _ (by omega)]
    rw [show 8 + (4 * (l.val % 2) + i) = 4 * (l.val % 4) + i by omega, show (4 * (l.val % 2) + i) % 4 = i by omega]

/-! ### The kept codes of a group -/

/-- A column of two neighbouring tiles. -/
def pairAt (va vb : IVec S32x128 8) (p : Fin 32) (c : Nat) : BitVec 8 :=
  if h : c < 128 then va (ix2 p (⟨c, h⟩ : Fin 128)) else vb (ix2 p (⟨(c - 128) % 128, Nat.mod_lt _ (by decide)⟩ : Fin 128))

theorem even_byte (va vb : IVec S32x128 8) (p : Fin 32) (l : Fin 128) :
    byte (p.val % 4) (even va vb (ix2 (wrow p) l)) = pairAt va vb p (2 * l.val) := by
  have e : even va vb (ix2 (wrow p) l) = Scalar.select (low (ix2 (wrow p) l)) (take (words va) splitA (ix2 (wrow p) l))
    (take (words vb) splitB (ix2 (wrow p) l)) := rfl
  rw [e, low_ix]
  by_cases h : l.val < 64
  · rw [if_pos h, take_ix (words va) splitA _ l (⟨2 * l.val, by omega⟩ : Fin 128) (by rw [splitA_ix, if_pos h])]
    show byte _ (words va _) = _
    rw [words_byte]; unfold pairAt; rw [dif_pos (by omega)]
  · rw [if_neg h, take_ix (words vb) splitB _ l (⟨2 * l.val - 128, by omega⟩ : Fin 128) (by rw [splitB_ix, if_neg h])]
    show byte _ (words vb _) = _
    rw [words_byte]; unfold pairAt; rw [dif_neg (by omega)]
    congr 2; exact Fin.ext (by dsimp only; omega)

theorem odd_byte (va vb : IVec S32x128 8) (p : Fin 32) (l : Fin 128) :
    byte (p.val % 4) (odd va vb (ix2 (wrow p) l)) = pairAt va vb p (2 * l.val + 1) := by
  have e : ∀ l' : Fin 128, select low (take (words vb) splitB) (take (words va) splitA) (ix2 (wrow p) l')
    = Scalar.select (low (ix2 (wrow p) l')) (take (words vb) splitB (ix2 (wrow p) l'))
        (take (words va) splitA (ix2 (wrow p) l')) := fun _ => rfl
  unfold odd
  rw [rotate_ix 64#32 _ _ (wrow p) l (⟨(l.val + 64) % 128, by omega⟩ : Fin 128) (by
    show (l.val + 128 - 64) % 128 = (l.val + 64) % 128; omega), e, low_ix]
  by_cases h : l.val < 64
  · rw [if_neg (by dsimp only; omega), take_ix (words va) splitA _ _ (⟨2 * l.val + 1, by omega⟩ : Fin 128) (by
      rw [splitA_ix, if_neg (by dsimp only; omega)]; dsimp only; omega)]
    show byte _ (words va _) = _
    rw [words_byte]; unfold pairAt; rw [dif_pos (by omega)]
  · rw [if_pos (by dsimp only; omega), take_ix (words vb) splitB _ _ (⟨2 * l.val - 127, by omega⟩ : Fin 128) (by
      rw [splitB_ix, if_pos (by dsimp only; omega)]; dsimp only; omega)]
    show byte _ (words vb _) = _
    rw [words_byte]; unfold pairAt; rw [dif_neg (by omega)]
    congr 2; exact Fin.ext (by dsimp only; omega)

/-! ### The masks -/

/-- The word with the lowest bit of each byte as given. -/
def four (a : Fin 4 → Bool) : BitVec 32 :=
  BitVec.ofNat 32 ((a 0).toNat + (a 1).toNat * 256 + (a 2).toNat * 65536 + (a 3).toNat * 16777216)

def mk4 (a b c d : Bool) : Fin 4 → Bool
  | 0 => a | 1 => b | 2 => c | 3 => d

theorem four_bit : ∀ (a b c d : Bool) (i : Fin 32),
    (four (mk4 a b c d)).getLsbD i.val = (decide (i.val % 8 = 0) && mk4 a b c d ⟨i.val / 8, by omega⟩) := by decide

theorem ones_bit : ∀ i : Fin 32, (16843009#32).getLsbD i.val = decide (i.val % 8 = 0) := by decide

theorem four_byte : ∀ (a b c d : Bool) (i : Fin 4),
    byte i.val (IntOp.subi (IntOp.shli .vector (four (mk4 a b c d)) 8#32) (four (mk4 a b c d)))
      = if mk4 a b c d i then 255#8 else 0#8 := by decide

theorem and_ones (x : BitVec 32) :
    IntOp.andi x 16843009#32 = four (mk4 (x.getLsbD 0) (x.getLsbD 8) (x.getLsbD 16) (x.getLsbD 24)) := by
  apply BitVec.eq_of_getLsbD_eq
  intro i hi
  rw [four_bit _ _ _ _ ⟨i, hi⟩]
  show (x &&& 16843009#32).getLsbD i = _
  rw [BitVec.getLsbD_and, ones_bit ⟨i, hi⟩, Bool.and_comm]
  by_cases h : i % 8 = 0
  · simp only [h, decide_true, Bool.true_and]
    obtain rfl | rfl | rfl | rfl : i = 0 ∨ i = 8 ∨ i = 16 ∨ i = 24 := by omega
    all_goals rfl
  · simp only [h, decide_false, Bool.false_and]

theorem spread_byte (x : BitVec 32) (b : Fin 4) :
    byte b.val (IntOp.subi (IntOp.shli .vector (IntOp.andi x 16843009#32) 8#32) (IntOp.andi x 16843009#32))
      = if x.getLsbD (8 * b.val) then 255#8 else 0#8 := by
  rw [and_ones, four_byte]
  congr 1
  match b with
  | 0 => rfl
  | 1 => rfl
  | 2 => rfl
  | 3 => rfl

theorem spread_ix (x : IVec S8x128 32) (k : S8x128.Idx) (b : Nat) (hb : b < 4) :
    byte b (spread x k) = if (x k).getLsbD (8 * b) then 255#8 else 0#8 := spread_byte (x k) ⟨b, hb⟩

theorem maskAt_ix (x : IVec S8x128 32) (s : Fin 4) (k : S8x128.Idx) (b : Nat) (hb : b < 4) :
    byte b (maskAt x (BitVec.ofNat 32 s.val) k) = if (x k).getLsbD (8 * b + s.val) then 255#8 else 0#8 := by
  unfold maskAt
  rw [spread_ix _ _ _ hb]
  have e : (shrui x (broadcast S8x128 (BitVec.ofNat 32 s.val))) k = x k >>> s.val := by
    show IntOp.shrui .vector (x k) (BitVec.ofNat 32 s.val) = _
    have hs : (BitVec.ofNat 32 s.val).toNat = s.val := by rw [BitVec.toNat_ofNat]; omega
    unfold IntOp.shrui; rw [hs, if_pos (by omega), BitVec.ushiftRight_eq', hs]
  rw [e, BitVec.getLsbD_ushiftRight, Nat.add_comm]

theorem byte_and (b : Nat) (x y : BitVec 32) : byte b (x &&& y) = byte b x &&& byte b y := by
  unfold byte; apply BitVec.eq_of_getLsbD_eq; intro i hi; simp [BitVec.getLsbD_extractLsb', hi]
theorem byte_or (b : Nat) (x y : BitVec 32) : byte b (x ||| y) = byte b x ||| byte b y := by
  unfold byte; apply BitVec.eq_of_getLsbD_eq; intro i hi; simp [BitVec.getLsbD_extractLsb', hi]
theorem byte_xor (b : Nat) (x y : BitVec 32) : byte b (x ^^^ y) = byte b x ^^^ byte b y := by
  unfold byte; apply BitVec.eq_of_getLsbD_eq; intro i hi; simp [BitVec.getLsbD_extractLsb', hi]

/-! ### A group's code in a plane -/

/-- Two bits of a metadata word, an index into the group. -/
def idx (w : BitVec 16) (b : Nat) : BitVec 2 := w.extractLsb' b 2

/-- The code of a group in plane `j`: the first kept code at the first index, the second at the second. -/
def plane (j : Nat) (i0 i1 : BitVec 2) (b0 b1 : BitVec 8) : BitVec 8 :=
  if i0.toNat = j then b0 else if i1.toNat = j then b1 else 0#8

/-- The kernel's four planes of a byte pair, from the four mask bits. -/
def mixed (j : Nat) (c0 c1 m0 m1 m2 m3 : BitVec 8) : BitVec 8 :=
  match j with
  | 0 => (c0 ^^^ (c0 &&& m0)) ^^^ (c0 &&& m1)
  | 1 => (c0 &&& m0) ||| (c1 &&& m3)
  | 2 => (c0 &&& m1) ||| (c1 &&& m2)
  | _ => (c1 ^^^ (c1 &&& m3)) ^^^ (c1 &&& m2)

theorem planeWords_byte (j : Fin 4) (b0 b1 x : IVec S8x128 32) (k : S8x128.Idx) (b : Nat) (hb : b < 4) :
    byte b (planeWords j.val b0 b1 x k) = mixed j.val (byte b (b0 k)) (byte b (b1 k))
      (if (x k).getLsbD (8 * b) then 255#8 else 0#8) (if (x k).getLsbD (8 * b + 1) then 255#8 else 0#8)
      (if (x k).getLsbD (8 * b + 2) then 255#8 else 0#8) (if (x k).getLsbD (8 * b + 3) then 255#8 else 0#8) := by
  have h0 := spread_ix x k b hb
  have h1 := maskAt_ix x 1 k b hb
  have h2 := maskAt_ix x 2 k b hb
  have h3 := maskAt_ix x 3 k b hb
  rw [← h0]
  match j with
  | 0 =>
    show byte b ((b0 k ^^^ (b0 k &&& spread x k)) ^^^ (b0 k &&& maskAt x 1#32 k)) = _
    rw [byte_xor, byte_xor, byte_and, byte_and]
    exact congrArg (fun y => (byte b (b0 k) ^^^ (byte b (b0 k) &&& byte b (spread x k))) ^^^ (byte b (b0 k) &&& y)) h1
  | 1 =>
    show byte b ((b0 k &&& spread x k) ||| (b1 k &&& maskAt x 3#32 k)) = _
    rw [byte_or, byte_and, byte_and]
    exact congrArg (fun y => (byte b (b0 k) &&& byte b (spread x k)) ||| (byte b (b1 k) &&& y)) h3
  | 2 =>
    show byte b ((b0 k &&& maskAt x 1#32 k) ||| (b1 k &&& maskAt x 2#32 k)) = _
    rw [byte_or, byte_and, byte_and]
    exact congrArg₂ (fun y z => (byte b (b0 k) &&& y) ||| (byte b (b1 k) &&& z)) h1 h2
  | 3 =>
    show byte b ((b1 k ^^^ (b1 k &&& maskAt x 3#32 k)) ^^^ (b1 k &&& maskAt x 2#32 k)) = _
    rw [byte_xor, byte_xor, byte_and, byte_and]
    exact congrArg₂ (fun y z => (byte b (b1 k) ^^^ (byte b (b1 k) &&& y)) ^^^ (byte b (b1 k) &&& z)) h3 h2

theorem bits2 : ∀ i : BitVec 2, i = BitVec.ofNat 2 ((i.getLsbD 0).toNat + 2 * (i.getLsbD 1).toNat) := by decide

/-- With the first index below the second, the masks select exactly the group's codes. -/
theorem mixed_eq (j : Fin 4) (i0 i1 : BitVec 2) (hlt : i0.toNat < i1.toNat) (b0 b1 : BitVec 8) :
    mixed j.val b0 b1 (if i0.getLsbD 0 then 255#8 else 0#8) (if i0.getLsbD 1 then 255#8 else 0#8)
      (if i1.getLsbD 0 ^^ true then 255#8 else 0#8) (if i1.getLsbD 1 ^^ true then 255#8 else 0#8)
      = plane j.val i0 i1 b0 b1 := by
  have hall : ∀ x : BitVec 8, x &&& 255#8 = x := fun x => by
    rw [show (255#8 : BitVec 8) = BitVec.allOnes 8 from rfl, BitVec.and_allOnes]
  have h4 : ∀ i : BitVec 2, i = 0#2 ∨ i = 1#2 ∨ i = 2#2 ∨ i = 3#2 := by decide
  rcases h4 i0 with rfl | rfl | rfl | rfl <;> rcases h4 i1 with rfl | rfl | rfl | rfl <;>
    first
    | exact absurd hlt (by decide)
    | (match j with
       | 0 => simp [mixed, plane, hall]
       | 1 => simp [mixed, plane, hall]
       | 2 => simp [mixed, plane, hall]
       | 3 => simp [mixed, plane, hall])

theorem idx_bit (w : BitVec 16) (b i : Nat) (hi : i < 2) : (idx w b).getLsbD i = w.getLsbD (b + i) := by
  unfold idx; rw [BitVec.getLsbD_extractLsb']; simp [hi]

variable {F : FTy → Type} [FloatOps F]

/-- A plane's element, as the code of its group. -/
theorem unit_ix (j t : Fin 4) (va vb : IVec S32x128 8) (m : IVec S32x128 16) (p : Fin 32) (l : Fin 128)
    (w : BitVec 16) (hw : m (ix2 p (⟨32 * t.val + l.val / 4, by omega⟩ : Fin 128)) = w)
    (hlt : (idx w (4 * (l.val % 4))).toNat < (idx w (4 * (l.val % 4) + 2)).toNat) :
    unit (F := F) j.val t.val va vb m (ix2 p l) = FloatOps.ofBits .fp8e4m3
      (plane j.val (idx w (4 * (l.val % 4))) (idx w (4 * (l.val % 4) + 2)) (pairAt va vb p (2 * l.val))
        (pairAt va vb p (2 * l.val + 1))) := by
  unfold unit
  show FloatOps.ofBits .fp8e4m3 (bitcast S32x128 8 _ _ (ix2 p l)) = _
  rw [unwords_ix, planeWords_byte _ _ _ _ _ _ (by omega), even_byte, odd_byte]
  have h0 := nibs_bit t m p l 0 (by decide)
  have h1 := nibs_bit t m p l 1 (by decide)
  have h2 := nibs_bit t m p l 2 (by decide)
  have h3 := nibs_bit t m p l 3 (by decide)
  rw [hw] at h0 h1 h2 h3
  rw [← mixed_eq j _ _ hlt, idx_bit _ _ _ (by decide), idx_bit _ _ _ (by decide), idx_bit _ _ _ (by decide),
    idx_bit _ _ _ (by decide)]
  rw [show 8 * (p.val % 4) = 8 * (p.val % 4) + 0 from rfl, h0, Nat.add_zero, h1, h2, h3]
  simp

/-- A column of eight blocks, at a row. -/
theorem column_ix (u : Fin 8 → FVec F S32x128 .fp8e4m3) (c : Fin 256) (l : Fin 128) :
    column u (ix2 c l) = u ⟨c.val / 32, by omega⟩ (ix2 (⟨c.val % 32, by omega⟩ : Fin 32) l) := by
  refine concatenate_ofFn_apply (t := S256x128) (s₁ := S32x128) 0 u concatenates_rows rfl 32 rfl (ix2 c l)
    ⟨c.val / 32, by omega⟩ rfl _ rfl ?_
  intro b hb
  match b with
  | ⟨0, _⟩ => exact absurd rfl hb
  | ⟨1, _⟩ => rfl

/-- The weights by row and column: kept codes, metadata words. -/
def code (j : Nat) (V : Nat → BitVec 8) (M : Nat → BitVec 16) (g : Nat) : BitVec 8 :=
  plane j (idx (M (g / 4)) (4 * (g % 4))) (idx (M (g / 4)) (4 * (g % 4) + 2)) (V (2 * g)) (V (2 * g + 1))

/-- Every group's first index is below its second. -/
def Valid (M : Nat → BitVec 16) (g : Nat) : Prop :=
  (idx (M (g / 4)) (4 * (g % 4))).toNat < (idx (M (g / 4)) (4 * (g % 4) + 2)).toNat

section
variable (LV : Nat → Fin 8 → IVec S32x128 8) (LM : Nat → Fin 8 → IVec S32x128 16) (V : Nat → Nat → BitVec 8)
  (M : Nat → Nat → BitVec 16) (N : Nat)

/-- The loaded tiles are the weights' blocks, for the chunks `0 … N`. -/
structure Loads : Prop where
  hV : ∀ (ct : Nat) (rg : Fin 8) (p : Fin 32) (l : Fin 128), ct < 4 * (N + 1) →
    LV ct rg (ix2 p l) = V (32 * rg.val + p.val) (128 * ct + l.val)
  hM : ∀ (mt : Nat) (rg : Fin 8) (p : Fin 32) (l : Fin 128), mt ≤ N / 2 →
    LM mt rg (ix2 p l) = M (32 * rg.val + p.val) (128 * mt + l.val)
  valid : ∀ (c g : Nat), c < 256 → g < 256 * (N + 1) → Valid (M c) g

variable {LV LM V M N}

theorem pairAt_loads (h : Loads LV LM V M N) (ct : Nat) (hct : ct + 1 < 4 * (N + 1)) (rg : Fin 8) (p : Fin 32) (c : Nat) (hc : c < 256) :
    pairAt (LV ct rg) (LV (ct + 1) rg) p c = V (32 * rg.val + p.val) (128 * ct + c) := by
  unfold pairAt
  split
  · rename_i h'; rw [h.hV _ _ _ _ (by omega)]
  · rw [h.hV _ _ _ _ hct]; congr 1; dsimp only; omega

theorem unit_loads (h : Loads LV LM V M N) (j : Fin 4) (n : Nat) (hn : n ≤ N) (b : Fin 2) (c : Fin 256) (l : Fin 128) :
    unit (F := F) j.val (n % 2 * 2 + b.val) (LV (n * 4 + 2 * b.val) ⟨c.val / 32, by omega⟩)
      (LV (n * 4 + 2 * b.val + 1) ⟨c.val / 32, by omega⟩) (LM (n / 2) ⟨c.val / 32, by omega⟩)
      (ix2 (⟨c.val % 32, by omega⟩ : Fin 32) l)
      = FloatOps.ofBits .fp8e4m3 (code j.val (V c.val) (M c.val) (256 * n + (128 * b.val + l.val))) := by
  have hrow : 32 * (c.val / 32) + c.val % 32 = c.val := by omega
  have hval := h.valid c.val (256 * n + (128 * b.val + l.val)) c.isLt (by omega)
  unfold Valid at hval
  unfold code
  have e1 : (256 * n + (128 * b.val + l.val)) % 4 = l.val % 4 := by omega
  rw [e1] at hval ⊢
  rw [unit_ix j ⟨n % 2 * 2 + b.val, by omega⟩ _ _ _ _ l (M c.val ((256 * n + (128 * b.val + l.val)) / 4)) (by
    rw [h.hM _ _ _ _ (by omega)]; dsimp only; rw [hrow]; congr 1; omega) hval,
    pairAt_loads h _ (by omega) _ _ _ (by omega), pairAt_loads h _ (by omega) _ _ _ (by omega)]
  dsimp only
  rw [hrow, show 128 * (n * 4 + 2 * b.val) + 2 * l.val = 2 * (256 * n + (128 * b.val + l.val)) by omega,
    show 128 * (n * 4 + 2 * b.val) + (2 * l.val + 1) = 2 * (256 * n + (128 * b.val + l.val)) + 1 by omega]

/-- A tile's element is the code of its group. -/
theorem tile_ix (h : Loads LV LM V M N) (j : Fin 4) (n : Nat) (hn : n ≤ N) (c q : Fin 256) :
    tile (F := F) LV LM j.val n (ix2 c q) = FloatOps.ofBits .fp8e4m3 (code j.val (V c.val) (M c.val) (256 * n + q.val)) := by
  unfold tile
  by_cases hq : q.val < 128
  · rw [concatenate_pair_apply_left (t := S256x256) (s₁ := S256x128) (s₂ := S256x128) 1 _ _ concatenates_cols (ix2 c q) rfl
      (ix2 c (⟨q.val, hq⟩ : Fin 128)) (by intro b; match b with | ⟨0, _⟩ => rfl | ⟨1, _⟩ => rfl), column_ix]
    have := unit_loads (F := F) h j n hn 0 c ⟨q.val, hq⟩
    simpa using this
  · rw [concatenate_pair_apply_right (t := S256x256) (s₁ := S256x128) (s₂ := S256x128) 1 _ _ concatenates_cols (ix2 c q) rfl rfl
      (ix2 c (⟨q.val - 128, by omega⟩ : Fin 128)) (by
        intro b hb; match b with | ⟨0, _⟩ => rfl | ⟨1, _⟩ => exact absurd rfl hb) (by
        show q.val - 128 + 128 = q.val; omega), column_ix]
    have := unit_loads (F := F) h j n hn 1 c ⟨q.val - 128, by omega⟩
    rw [show 128 * (1 : Fin 2).val + (q.val - 128) = q.val by show 128 * 1 + _ = _; omega] at this
    exact this

end

/-! ### The products, over the extended reals -/

section
variable {LA : Nat → Nat → FVec Ideal S96x256 .fp8e4m3} {LV : Nat → Fin 8 → IVec S32x128 8} {LM : Nat → Fin 8 → IVec S32x128 16}
  {A : Nat → Nat → Nat → EReal} {V : Nat → Nat → BitVec 8} {M : Nat → Nat → BitVec 16} {N : Nat}

/-- One group's product in a plane. -/
def term (A : Nat → Nat → Nat → EReal) (V : Nat → Nat → BitVec 8) (M : Nat → Nat → BitVec 16) (j r c g : Nat) : EReal :=
  A j r g * Ideal.ofBits .fp8e4m3 (code j (V c) (M c) g)

theorem dims_eq : dims = DotDims.transposedRhs 96 256 256 := rfl

theorem chunk_ix (h : Loads LV LM V M N)
    (hA : ∀ (j : Fin 4) (n : Nat) (r : Fin 96) (q : Fin 256), n ≤ N → LA j.val n (ix2 r q) = A j.val r.val (256 * n + q.val))
    (j : Fin 4) (n : Nat) (hn : n ≤ N) (r : Fin 96) (c : Fin 256) :
    chunk LA LV LM j.val n (ix2 r c) = ∑ q ∈ Finset.range 256, term A V M j.val r.val c.val (256 * n + q) := by
  unfold chunk
  rw [shapeCast_self]
  show FloatOps.matmul dims none (LA j.val n) _ _ (ix2 r c) = _
  rw [dims_eq, Ideal.matmul_transposedRhs_apply, Finset.sum_range]
  show Ideal.ofBits .f32 0x00000000#32 + _ = _
  rw [Ideal.ofBits_zero_f32, zero_add]
  refine Finset.sum_congr rfl fun q _ => ?_
  rw [hA j n r q hn, tile_ix h j n hn c q]
  rfl

theorem acc_ix (h : Loads LV LM V M N)
    (hA : ∀ (j : Fin 4) (n : Nat) (r : Fin 96) (q : Fin 256), n ≤ N → LA j.val n (ix2 r q) = A j.val r.val (256 * n + q.val))
    (j : Fin 4) (r : Fin 96) (c : Fin 256) : ∀ n, n ≤ N →
    acc LA LV LM j.val n (ix2 r c) = ∑ g ∈ Finset.range (256 * (n + 1)), term A V M j.val r.val c.val g
  | 0, hn => by
    unfold acc; rw [chunk_ix h hA j 0 hn]
    refine Finset.sum_congr rfl fun q _ => by rw [Nat.mul_zero, Nat.zero_add]
  | n + 1, hn => by
    unfold acc
    rw [addf_apply]
    show acc LA LV LM j.val n (ix2 r c) + chunk LA LV LM j.val (n + 1) (ix2 r c) = _
    rw [acc_ix h hA j r c n (by omega), chunk_ix h hA j (n + 1) hn,
      show 256 * (n + 1 + 1) = 256 * (n + 1) + 256 by omega, Finset.sum_range_add]

/-- The expansion's product at an element: the four planes' sums over all groups. -/
theorem expandDot_ix (h : Loads LV LM V M N)
    (hA : ∀ (j : Fin 4) (n : Nat) (r : Fin 96) (q : Fin 256), n ≤ N → LA j.val n (ix2 r q) = A j.val r.val (256 * n + q.val))
    (r : Fin 96) (c : Fin 256) :
    expandDot LA LV LM N (ix2 r c)
      = ((∑ g ∈ Finset.range (256 * (N + 1)), term A V M 0 r.val c.val g)
        + (∑ g ∈ Finset.range (256 * (N + 1)), term A V M 1 r.val c.val g)
        + (∑ g ∈ Finset.range (256 * (N + 1)), term A V M 2 r.val c.val g)
        + (∑ g ∈ Finset.range (256 * (N + 1)), term A V M 3 r.val c.val g)) := by
  show ((acc LA LV LM 0 N (ix2 r c) + acc LA LV LM 1 N (ix2 r c)) + acc LA LV LM 2 N (ix2 r c)) + acc LA LV LM 3 N (ix2 r c) = _
  have e := fun j : Fin 4 => acc_ix h hA j r c N le_rfl
  have e0 := e 0; have e1 := e 1; have e2 := e 2; have e3 := e 3
  exact congrArg₂ _ (congrArg₂ _ (congrArg₂ _ e0 e1) e2) e3

end

end Cert.Expand

end
-- ==== Proof.ExpandNat.lean ====
/-
  Arrays read at natural numbers, and the whole product of a row of activations with a row of expanded weights: the
  vocabulary the kernel's value and the reference's value are both stated in.
-/
module

public import proofs.«01_k».proof.Proof.ExpandSum

@[expose] public section

noncomputable section

namespace Cert.Expand

open Idealize.ShloMosaic
open Idealize.ShloMosaic.ValueIdx (ix3)
open scoped BigOperators

/-- An array of two axes read at two numbers, `d` outside. -/
def natAt {α : Type} {M N : Nat} (d : α) (x : (⟨2, ![M, N]⟩ : Shape).Idx → α) (i j : Nat) : α :=
  if h : i < M ∧ j < N then x (ValueIdx.ix2 (⟨i, h.1⟩ : Fin M) (⟨j, h.2⟩ : Fin N)) else d

theorem natAt_of {α : Type} {M N : Nat} (d : α) (x : (⟨2, ![M, N]⟩ : Shape).Idx → α) (i j : Nat)
    (y : (⟨2, ![M, N]⟩ : Shape).Idx) (hi : (y 0).val = i) (hj : (y 1).val = j) : natAt d x i j = x y := by
  subst hi; subst hj
  unfold natAt
  rw [dif_pos ⟨(y 0).isLt, (y 1).isLt⟩]
  refine congrArg x (funext fun a => ?_)
  match a with
  | ⟨0, _⟩ => rfl
  | ⟨1, _⟩ => rfl

theorem natAt_ix {α : Type} {M N : Nat} (d : α) (x : (⟨2, ![M, N]⟩ : Shape).Idx → α) (i j : Nat) (hi : i < M) (hj : j < N) :
    natAt d x i j = x (ValueIdx.ix2 (⟨i, hi⟩ : Fin M) (⟨j, hj⟩ : Fin N)) := natAt_of d x i j _ rfl rfl

theorem natAt_at {α : Type} {M N : Nat} (d : α) (x : (⟨2, ![M, N]⟩ : Shape).Idx → α) (i j : Nat) (z : α) (hi : i < M) (hj : j < N)
    (h : ∀ y : (⟨2, ![M, N]⟩ : Shape).Idx, (y 0).val = i → (y 1).val = j → x y = z) : natAt d x i j = z :=
  (natAt_ix d x i j hi hj).trans (h _ rfl rfl)

/-- The kernel's permutation of the activations: groups split off, planes first, flattened again. -/
theorem permuted_at {α : Type} (d : α) {R G K : Nat} (hK : K = 4 * G) (a : (⟨2, ![R, K]⟩ : Shape).Idx → α)
    (h₁ : (⟨2, ![R, K]⟩ : Shape).ShapeCasts ⟨3, ![R, G, 4]⟩)
    (h₂ : (⟨3, ![R, G, 4]⟩ : Shape).Transposes [0, 2, 1] ⟨3, ![R, 4, G]⟩)
    (h₃ : (⟨3, ![R, 4, G]⟩ : Shape).ShapeCasts ⟨2, ![R, K]⟩) (r j g : Nat) (hr : r < R) (hj : j < 4) (hg : g < G) :
    natAt d (shapeCast ⟨2, ![R, K]⟩ (transpose ⟨3, ![R, 4, G]⟩ [0, 2, 1] (shapeCast ⟨3, ![R, G, 4]⟩ a h₁) h₂) h₃) r (G * j + g)
      = natAt d a r (4 * g + j) := by
  have hc : G * j + g < K := by
    subst hK
    calc G * j + g < G * j + G := by omega
      _ = G * (j + 1) := by ring
      _ ≤ G * 4 := Nat.mul_le_mul_left _ (by omega)
      _ = 4 * G := by ring
  rw [natAt_ix d _ r (G * j + g) hr hc, natAt_ix d a r (4 * g + j) hr (by omega)]
  rw [shapeCast_apply _ h₃ _ (ix3 (⟨r, hr⟩ : Fin R) (⟨j, hj⟩ : Fin 4) (⟨g, hg⟩ : Fin G)) (by
      rw [Shape.rowMajor_val_three, Shape.rowMajor_val_two]
      show (r * 4 + j) * G + g = r * K + (G * j + g)
      subst hK; ring)]
  rw [transpose_apply _ _ h₂ _ (ix3 (⟨r, hr⟩ : Fin R) (⟨g, hg⟩ : Fin G) (⟨j, hj⟩ : Fin 4)) (by
      intro b; match b with | ⟨0, _⟩ => rfl | ⟨1, _⟩ => rfl | ⟨2, _⟩ => rfl)]
  rw [shapeCast_apply _ h₁ _ (ValueIdx.ix2 (⟨r, hr⟩ : Fin R) (⟨4 * g + j, by omega⟩ : Fin K)) (by
      rw [Shape.rowMajor_val_three, Shape.rowMajor_val_two]
      show r * K + (4 * g + j) = (r * G + g) * 4 + j
      subst hK; ring)]

/-- The four planes' sums over `K` groups: the product of a row of activations with an expanded row of weights. -/
def dotSum (K : Nat) (A : Nat → Nat → Nat → EReal) (V : Nat → Nat → BitVec 8) (M : Nat → Nat → BitVec 16) (r c : Nat) : EReal :=
  (∑ g ∈ Finset.range K, term A V M 0 r c g) + (∑ g ∈ Finset.range K, term A V M 1 r c g)
    + (∑ g ∈ Finset.range K, term A V M 2 r c g) + (∑ g ∈ Finset.range K, term A V M 3 r c g)

theorem dotSum_congr (K : Nat) {A A' : Nat → Nat → Nat → EReal} {V V' : Nat → Nat → BitVec 8} {M M' : Nat → Nat → BitVec 16}
    {r r' c c' : Nat} (hA : ∀ j g, j < 4 → g < K → A j r g = A' j r' g) (hV : ∀ x, x < 2 * K → V c x = V' c' x)
    (hM : ∀ x, x < (K + 3) / 4 → M c x = M' c' x) : dotSum K A V M r c = dotSum K A' V' M' r' c' := by
  have ht : ∀ j, j < 4 → ∑ g ∈ Finset.range K, term A V M j r c g = ∑ g ∈ Finset.range K, term A' V' M' j r' c' g := by
    intro j hj
    refine Finset.sum_congr rfl fun g hg => ?_
    have hg' := Finset.mem_range.mp hg
    unfold term code
    rw [hA j g hj hg', hV _ (by omega), hV _ (by omega), hM _ (by omega)]
  unfold dotSum
  rw [ht 0 (by decide), ht 1 (by decide), ht 2 (by decide), ht 3 (by decide)]

/-- The expansion's product of the tiles loaded for one trip, as `dotSum`. -/
theorem expandDot_eq {LA : Nat → Nat → FVec Ideal S96x256 .fp8e4m3} {LV : Nat → Fin 8 → IVec S32x128 8}
    {LM : Nat → Fin 8 → IVec S32x128 16} {A : Nat → Nat → Nat → EReal} {V : Nat → Nat → BitVec 8} {M : Nat → Nat → BitVec 16}
    {N : Nat} (h : Loads LV LM V M N)
    (hA : ∀ (j : Fin 4) (n : Nat) (r : Fin 96) (q : Fin 256), n ≤ N →
      LA j.val n (ValueIdx.ix2 r q) = A j.val r.val (256 * n + q.val))
    (r : Fin 96) (c : Fin 256) :
    expandDot LA LV LM N (ValueIdx.ix2 r c) = dotSum (256 * (N + 1)) A V M r.val c.val := expandDot_ix h hA r c

/-- A list of numbers read at a number, `d` outside. -/
def natVec {α : Type} {N : Nat} (d : α) (x : (⟨1, ![N]⟩ : Shape).Idx → α) (i : Nat) : α :=
  if h : i < N then x (ValueIdx.ix1 (⟨i, h⟩ : Fin N)) else d

theorem natVec_of {α : Type} {N : Nat} (d : α) (x : (⟨1, ![N]⟩ : Shape).Idx → α) (i : Nat)
    (y : (⟨1, ![N]⟩ : Shape).Idx) (hi : (y 0).val = i) : natVec d x i = x y := by
  subst hi
  unfold natVec
  rw [dif_pos (show (y 0).val < N from (y 0).isLt)]
  refine congrArg x (funext fun a => ?_)
  match a with
  | ⟨0, _⟩ => rfl

/-- One projection's element: the product, scaled by the row's and the column's scales. -/
def proj (G : Nat) (A : Nat → Nat → Nat → EReal) (V : Nat → Nat → BitVec 8) (M : Nat → Nat → BitVec 16) (sa sc : Nat → EReal) (r c : Nat) : EReal :=
  dotSum G A V M r c * sa r * sc c

/-- The element of the output block. -/
def gated (g u : EReal) : EReal := g * Ideal.logistic g * u

theorem reshaped_at {α : Type} (d : α) {N : Nat} (x : (⟨1, ![N]⟩ : Shape).Idx → α)
    (h : (⟨1, ![N]⟩ : Shape).ShapeCasts ⟨2, ![1, N]⟩) (c : Nat) (hc : c < N) :
    natAt d (shapeCast ⟨2, ![1, N]⟩ x h) 0 c = natVec d x c := by
  rw [natAt_ix d _ 0 c (by decide) hc, natVec_of d x c (ValueIdx.ix1 (⟨c, hc⟩ : Fin N)) rfl]
  exact shapeCast_apply _ h _ _ (by
    rw [Shape.rowMajor_val_one, Shape.rowMajor_val_two]; show c = 0 * N + c; omega)

/-- A linear map's element from the whole arrays: activations, their row scales, kept codes, metadata and column scales. -/
def linearAt {R K N K2 K16 : Nat} (G : Nat) (a : (⟨2, ![R, K]⟩ : Shape).Idx → EReal) (sa : (⟨2, ![R, 1]⟩ : Shape).Idx → EReal)
    (v : (⟨2, ![N, K2]⟩ : Shape).Idx → BitVec 8) (m : (⟨2, ![N, K16]⟩ : Shape).Idx → BitVec 16)
    (sc : (⟨1, ![N]⟩ : Shape).Idx → EReal) (r c : Nat) : EReal :=
  proj G (fun j r g => natAt 0 a r (4 * g + j)) (natAt 0#8 v) (natAt 0#16 m) (natAt 0 sa · 0) (natVec 0 sc) r c

end Cert.Expand

end
-- ==== Proof.GateUpBlock.lean ====
/-
  What one grid point of the gate-and-up kernel leaves in its output block, as a function of its input blocks: each
  element the gated product of two expanded rows of weights with a row of activations.
-/
module

public import proofs.«01_k».proof.Proof.GateUpTrip
public import proofs.«01_k».proof.Proof.ExpandNat
public import Idealize.ShloMosaic.Lib.Pipeline.ValueKit

@[expose] public section

set_option maxRecDepth 65536

noncomputable section

namespace Cert.GateUpIdeal.Gen

open Idealize.ShloMosaic Idealize.ShloMosaic.TcCoe Idealize.ShloMosaic.Tactic
open Cert.Expand

theorem offV_eq : ∀ (k : Fin k0_t1_loop.trips) (ct : Fin 16) (rg : Fin 8) (a : Fin 2),
    offV k ct.val (BitVec.ofNat 32 (32 * rg.val)) a = (![256 * k.val + 32 * rg.val, 128 * ct.val] : Fin 2 → Nat) a := by
  decide +kernel

theorem offM_eq : ∀ (k : Fin k0_t1_loop.trips) (mt : Fin 2) (rg : Fin 8) (a : Fin 2),
    offM k mt.val (BitVec.ofNat 32 (32 * rg.val)) a = (![256 * k.val + 32 * rg.val, 128 * mt.val] : Fin 2 → Nat) a := by
  decide +kernel

theorem off19_eq : ∀ (k : Fin k0_t1_loop.trips) (a : Fin 2), k0_off19 k a = (![0, 256 * k.val] : Fin 2 → Nat) a := by
  decide +kernel

theorem off20_eq : ∀ (k : Fin k0_t1_loop.trips) (a : Fin 2), k0_off20 k a = (![0, 256 * k.val] : Fin 2 → Nat) a := by
  decide +kernel

theorem trips_eq : k0_t1_loop.trips = 4 := by decide +kernel

section Loads
variable {F : FTy → Type} [FloatOps F] (k : Fin k0_t1_loop.trips)

theorem ldV_ix (arg : Memref sig .tc .vmem S1024x2048 .i8) (harg : arg.IsWhole) (x : Vec F S1024x2048 .i8) (ct : Nat) (hct : ct < 16)
    (rg : Fin 8) (p : Fin 32) (l : Fin 128) :
    ldV (F := F) arg (harg.unread x) k ct rg (ValueIdx.ix2 p l)
      = natAt (α := BitVec 8) 0#8 x (256 * k.val + (32 * rg.val + p.val)) (128 * ct + l.val) := by
  unfold ldV
  rw [View.readAt_eq_ld, harg.read_unread]
  have h := offV_eq k ⟨ct, hct⟩ rg
  refine (natAt_of (α := BitVec 8) 0#8 x _ _ _ ?_ ?_).symm
  · show offV _ _ _ 0 + 1 * p.val = _; rw [h]; show 256 * k.val + 32 * rg.val + 1 * p.val = _; omega
  · show offV _ _ _ 1 + 1 * l.val = _; rw [h]; show 128 * ct + 1 * l.val = _; omega

theorem ldM_ix (arg : Memref sig .tc .vmem S1024x256 .i16) (harg : arg.IsWhole) (x : Vec F S1024x256 .i16) (mt : Nat) (hmt : mt < 2)
    (rg : Fin 8) (p : Fin 32) (l : Fin 128) :
    ldM (F := F) arg (harg.unread x) k mt rg (ValueIdx.ix2 p l)
      = natAt (α := BitVec 16) 0#16 x (256 * k.val + (32 * rg.val + p.val)) (128 * mt + l.val) := by
  unfold ldM
  rw [View.readAt_eq_ld, harg.read_unread]
  have h := offM_eq k ⟨mt, hmt⟩ rg
  refine (natAt_of (α := BitVec 16) 0#16 x _ _ _ ?_ ?_).symm
  · show offM _ _ _ 0 + 1 * p.val = _; rw [h]; show 256 * k.val + 32 * rg.val + 1 * p.val = _; omega
  · show offM _ _ _ 1 + 1 * l.val = _; rw [h]; show 128 * mt + 1 * l.val = _; omega

end Loads

variable (k : Fin k0_t1_loop.trips)

theorem ldA_ix (arg : Memref sig .tc .vmem S96x4096 .fp8e4m3) (harg : arg.IsWhole) (x : Vec Ideal S96x4096 .fp8e4m3) (j : Fin 4) (n : Nat)
    (hn : n ≤ 3) (r : Fin 96) (q : Fin 256) :
    ldA (F := Ideal) arg (harg.unread x) j.val n (ValueIdx.ix2 r q) = natAt (α := EReal) 0 x r.val (1024 * j.val + (256 * n + q.val)) := by
  unfold ldA
  rw [View.readAt_eq_ld, harg.read_unread]
  refine (natAt_of (α := EReal) 0 x _ _ _ ?_ ?_).symm
  · show 0 + 1 * r.val = _; omega
  · show j.val % 4 * 1024 + n % 4 * 256 + 1 * q.val = _; omega

theorem ldS_ix (arg : Memref sig .tc .vmem S1x1024 .f32) (harg : arg.IsWhole) (x : Vec Ideal S1x1024 .f32) (c : Fin 256) :
    ldS (F := Ideal) arg (harg.unread x) k (ValueIdx.ix2 (0 : Fin 1) c) = natAt (α := EReal) 0 x 0 (256 * k.val + c.val) := by
  unfold ldS
  rw [View.readAt_eq_ld, harg.read_unread]
  have h := off19_eq k
  refine (natAt_of (α := EReal) 0 x _ _ _ ?_ ?_).symm
  · show k0_off19 k 0 + 1 * 0 = _; rw [h]; rfl
  · show k0_off19 k 1 + 1 * c.val = _; rw [h]; show 256 * k.val + 1 * c.val = _; omega

theorem ldR_ix (arg : Memref sig .tc .vmem S96x1 .f32) (harg : arg.IsWhole) (x : Vec Ideal S96x1 .f32) (r : Fin 96) :
    ldR (F := Ideal) arg (harg.unread x) (ValueIdx.ix2 r (0 : Fin 1)) = natAt (α := EReal) 0 x r.val 0 := by
  unfold ldR
  rw [View.readAt_eq_ld, harg.read_unread]
  refine (natAt_of (α := EReal) 0 x _ _ _ ?_ ?_).symm
  · show 0 + 1 * r.val = _; omega
  · rfl

theorem scaled_ix (d : FVec Ideal S96x256 .f32) (sa : FVec Ideal S96x1 .f32) (sc : FVec Ideal S1x256 .f32) (r : Fin 96) (c : Fin 256) :
    scaled d sa sc (ValueIdx.ix2 r c)
      = (d (ValueIdx.ix2 r c) * sa (ValueIdx.ix2 r (0 : Fin 1)) * sc (ValueIdx.ix2 (0 : Fin 1) c) : EReal) := by
  unfold scaled
  rw [shapeCast_self]
  show (d (ValueIdx.ix2 r c) * broadcastTo S96x256 sa _ (ValueIdx.ix2 r c) * broadcastTo S96x256 sc _ (ValueIdx.ix2 r c) : EReal) = _
  rw [broadcastTo_apply sa _ _ (ValueIdx.ix2 r (0 : Fin 1)) (by intro a; match a with | ⟨0, _⟩ => rfl | ⟨1, _⟩ => rfl),
    broadcastTo_apply sc _ _ (ValueIdx.ix2 (0 : Fin 1) c) (by intro a; match a with | ⟨0, _⟩ => rfl | ⟨1, _⟩ => rfl)]

/-- The kernel's permuted activations by plane, row and group. -/
def blockA (x0 : Vec Ideal S96x4096 .fp8e4m3) (j r g : Nat) : EReal := natAt (α := EReal) 0 x0 r (1024 * j + g)

/-- A projection of the point's blocks. -/
def blockProj (x0 : Vec Ideal S96x4096 .fp8e4m3) (x1 : Vec Ideal S96x1 .f32) (v : Vec Ideal S1024x2048 .i8) (m : Vec Ideal S1024x256 .i16)
    (sc : Vec Ideal S1x1024 .f32) (r c : Nat) : EReal :=
  proj 1024 (blockA x0) (natAt (α := BitVec 8) 0#8 v) (natAt (α := BitVec 16) 0#16 m) (natAt (α := EReal) 0 x1 · 0)
    (natAt (α := EReal) 0 sc 0) r c

/-- Every group of every row of a metadata block is valid. -/
def BlockValid (m : Vec Ideal S1024x256 .i16) : Prop :=
  ∀ c g : Nat, c < 1024 → g < 1024 → Valid (natAt (α := BitVec 16) 0#16 m c) g

theorem expand_trip (arg1 : Memref sig .tc .vmem S96x4096 .fp8e4m3) (harg1 : arg1.IsWhole) (arg3 : Memref sig .tc .vmem S1024x2048 .i8)
    (harg3 : arg3.IsWhole) (arg4 : Memref sig .tc .vmem S1024x256 .i16) (harg4 : arg4.IsWhole)
    (x0 : Vec Ideal S96x4096 .fp8e4m3) (v : Vec Ideal S1024x2048 .i8) (m : Vec Ideal S1024x256 .i16) (hm : BlockValid m) (r : Fin 96) (c : Fin 256) :
    expandDot (F := Ideal) (ldA arg1 (harg1.unread x0)) (ldV (F := Ideal) arg3 (harg3.unread v) k) (ldM (F := Ideal) arg4 (harg4.unread m) k) 3
        (ValueIdx.ix2 r c)
      = dotSum 1024 (blockA x0) (natAt (α := BitVec 8) 0#8 v) (natAt (α := BitVec 16) 0#16 m) r.val (256 * k.val + c.val) := by
  have hk : k.val < 4 := trips_eq ▸ k.isLt
  exact expandDot_eq (A := blockA x0) (V := fun c x => natAt (α := BitVec 8) 0#8 v (256 * k.val + c) x)
    (M := fun c x => natAt (α := BitVec 16) 0#16 m (256 * k.val + c) x) (N := 3)
    ⟨fun ct rg p l h => ldV_ix k arg3 harg3 v ct h rg p l, fun mt rg p l h => ldM_ix k arg4 harg4 m mt (by omega) rg p l,
      fun c g hc hg => hm _ _ (by omega) (by omega)⟩
    (fun j n r q hn => ldA_ix arg1 harg1 x0 j n hn r q) r c

theorem scaled_trip (arg1 : Memref sig .tc .vmem S96x4096 .fp8e4m3) (harg1 : arg1.IsWhole) (arg2 : Memref sig .tc .vmem S96x1 .f32)
    (harg2 : arg2.IsWhole) (arg3 : Memref sig .tc .vmem S1024x2048 .i8)
    (harg3 : arg3.IsWhole) (arg4 : Memref sig .tc .vmem S1024x256 .i16) (harg4 : arg4.IsWhole) (arg5 : Memref sig .tc .vmem S1x1024 .f32)
    (harg5 : arg5.IsWhole) (x0 : Vec Ideal S96x4096 .fp8e4m3) (x1 : Vec Ideal S96x1 .f32) (v : Vec Ideal S1024x2048 .i8)
    (m : Vec Ideal S1024x256 .i16) (sc : Vec Ideal S1x1024 .f32) (hm : BlockValid m) (r : Fin 96) (c : Fin 256) :
    scaled (F := Ideal) (expandDot (ldA arg1 (harg1.unread x0)) (ldV (F := Ideal) arg3 (harg3.unread v) k) (ldM (F := Ideal) arg4 (harg4.unread m) k) 3)
        (ldR arg2 (harg2.unread x1)) (ldS arg5 (harg5.unread sc) k) (ValueIdx.ix2 r c)
      = blockProj x0 x1 v m sc r.val (256 * k.val + c.val) := by
  rw [scaled_ix, expand_trip k arg1 harg1 arg3 harg3 arg4 harg4 x0 v m hm r c, ldR_ix, ldS_ix]
  rfl

/-- What a grid point leaves in its block. -/
def blockG (x0 : Vec Ideal S96x4096 .fp8e4m3) (x1 : Vec Ideal S96x1 .f32) (x2 : Vec Ideal S1024x2048 .i8) (x3 : Vec Ideal S1024x256 .i16) (x4 : Vec Ideal S1x1024 .f32) (x5 : Vec Ideal S1024x2048 .i8) (x6 : Vec Ideal S1024x256 .i16) (x7 : Vec Ideal S1x1024 .f32) (y : S96x1024.Idx) : EReal :=
  gated (blockProj x0 x1 x2 x3 x4 (y 0).val (y 1).val) (blockProj x0 x1 x5 x6 x7 (y 0).val (y 1).val)

/-- A trip's store is the block's slab of 256 columns. -/
theorem piece_block (x0 : Vec Ideal S96x4096 .fp8e4m3) (x1 : Vec Ideal S96x1 .f32) (x2 : Vec Ideal S1024x2048 .i8) (x3 : Vec Ideal S1024x256 .i16) (x4 : Vec Ideal S1x1024 .f32) (x5 : Vec Ideal S1024x2048 .i8) (x6 : Vec Ideal S1024x256 .i16) (x7 : Vec Ideal S1x1024 .f32) (P : S96x256.Idx → EReal)
    (hP : ∀ (r : Fin 96) (l : Fin 256), P (ValueIdx.ix2 r l)
      = gated (blockProj x0 x1 x2 x3 x4 r.val (256 * k.val + l.val)) (blockProj x0 x1 x5 x6 x7 r.val (256 * k.val + l.val)))
    (x : S96x256.Idx) :
    P x = blockG x0 x1 x2 x3 x4 x5 x6 x7 ((Rect.unit (s := S96x1024) (k0_off20 k) S96x256.size (k0_off20_inb k)).emb x) := by
  have e := off20_eq k
  have e0 : (((Rect.unit (s := S96x1024) (k0_off20 k) S96x256.size (k0_off20_inb k)).emb x) 0).val = (x 0).val := by
    show k0_off20 k 0 + 1 * (x 0).val = _; rw [e]; show 0 + 1 * (x 0).val = _; omega
  have e1 : (((Rect.unit (s := S96x1024) (k0_off20 k) S96x256.size (k0_off20_inb k)).emb x) 1).val = 256 * k.val + (x 1).val := by
    show k0_off20 k 1 + 1 * (x 1).val = _; rw [e]; show 256 * k.val + 1 * (x 1).val = _; omega
  unfold blockG
  rw [e0, e1, ← hP (x 0) (x 1)]
  exact congrArg P (ValueIdx.eq_ix2 x)

theorem out_block (c : Dev nD) (i : grid0.Coords) (arg1 : Memref sig .tc .vmem S96x4096 .fp8e4m3) (harg1 : arg1.IsWhole) (arg2 : Memref sig .tc .vmem S96x1 .f32) (harg2 : arg2.IsWhole) (arg3 : Memref sig .tc .vmem S1024x2048 .i8) (harg3 : arg3.IsWhole) (arg4 : Memref sig .tc .vmem S1024x256 .i16) (harg4 : arg4.IsWhole) (arg5 : Memref sig .tc .vmem S1x1024 .f32) (harg5 : arg5.IsWhole) (arg6 : Memref sig .tc .vmem S1024x2048 .i8) (harg6 : arg6.IsWhole) (arg7 : Memref sig .tc .vmem S1024x256 .i16) (harg7 : arg7.IsWhole) (arg8 : Memref sig .tc .vmem S1x1024 .f32) (harg8 : arg8.IsWhole) (arg9 : Memref sig .tc .vmem S96x1024 .f32) (harg9 : arg9.IsWhole)
    (x0 : Vec Ideal S96x4096 .fp8e4m3) (x1 : Vec Ideal S96x1 .f32) (x2 : Vec Ideal S1024x2048 .i8) (x3 : Vec Ideal S1024x256 .i16) (x4 : Vec Ideal S1x1024 .f32) (x5 : Vec Ideal S1024x2048 .i8) (x6 : Vec Ideal S1024x256 .i16) (x7 : Vec Ideal S1x1024 .f32) (h3 : BlockValid x3) (h6 : BlockValid x6) :
    out0_A_8 (F := Ideal) c i arg1 harg1 arg2 harg2 arg3 harg3 arg4 harg4 arg5 harg5 arg6 harg6 arg7 harg7 arg8 harg8 arg9 harg9 x0 x1 x2 x3 x4 x5 x6 x7 = blockG x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  funext y
  refine View.canon_apply_of_pieces _ _ ?_ y (cover0_A_8 c i arg1 harg1 arg2 harg2 arg3 harg3 arg4 harg4 arg5 harg5 arg6 harg6 arg7 harg7 arg8 harg8 arg9 harg9 x0 x1 x2 x3 x4 x5 x6 x7 y)
  unfold kernelRun0_A
  dsimp only
  have key : ∀ n : Nat, n ≤ k0_t1_loop.trips → ∀ p ∈ pb_k0_t1 (F := Ideal) Variants.none c none i arg1 harg1 arg2 harg2 arg3 harg3 arg4 harg4 arg5 harg5 arg6 harg6 arg7 harg7 arg8 harg8 arg9 harg9
      (harg1.unread x0) (harg2.unread x1) (harg3.unread x2) (harg4.unread x3) (harg5.unread x4) (harg6.unread x5) (harg7.unread x6) (harg8.unread x7) n,
      ∀ x : p.1.shape.Idx, p.2 x = blockG x0 x1 x2 x3 x4 x5 x6 x7 (p.1.emb x) := by
    intro n
    induction n with
    | zero => intro _ p hp; rw [pb_k0_t1.eq_1] at hp; exact absurd hp List.not_mem_nil
    | succ n ih =>
      intro hn p hp
      have hs := pb_k0_t1_succ (F := Ideal) Variants.none c none i arg1 harg1 arg2 harg2 arg3 harg3 arg4 harg4 arg5 harg5 arg6 harg6 arg7 harg7 arg8 harg8 arg9 harg9
        (harg1.unread x0) (harg2.unread x1) (harg3.unread x2) (harg4.unread x3) (harg5.unread x4) (harg6.unread x5) (harg7.unread x6) (harg8.unread x7) ⟨n, hn⟩
      rw [show (⟨n, hn⟩ : Fin k0_t1_loop.trips).val + 1 = n + 1 from rfl] at hs
      rw [hs] at hp
      rcases List.mem_append.mp hp with hp | hp
      · rw [tripL_k0_t1, trip_pieces] at hp
        obtain rfl := List.mem_singleton.mp hp
        exact piece_block ⟨n, hn⟩ x0 x1 x2 x3 x4 x5 x6 x7 _ fun r l => by
          rw [← scaled_trip ⟨n, hn⟩ arg1 harg1 arg2 harg2 arg3 harg3 arg4 harg4 arg5 harg5 x0 x1 x2 x3 x4 h3 r l,
            ← scaled_trip ⟨n, hn⟩ arg1 harg1 arg2 harg2 arg6 harg6 arg7 harg7 arg8 harg8 x0 x1 x5 x6 x7 h6 r l]
          rfl
      · exact ih (by omega) p hp
  exact key _ (Nat.le_of_eq rfl)

end Cert.GateUpIdeal.Gen

end
-- ==== Proof.GateUpValue.lean ====
/-
  The gate-and-up kernel's result array as a function of its arguments.
-/
module

public import proofs.«01_k».proof.Proof.GateUpBlock
public import Idealize.ShloMosaic.Lib.Pointwise

@[expose] public section

set_option maxRecDepth 65536

noncomputable section

namespace Cert.GateUpIdeal.Value

open Cert.GateUpIdeal Cert.GateUpIdeal.Gen Idealize.ShloMosaic Idealize.ShloMosaic.TcCoe Idealize.SL.Sem
open Idealize.ShloMosaic.Pipeline (Dat)
open Cert.Expand

variable (m : (ℓ : Loc nD τ sig) → Buf (Elt Ideal) ℓ) (c : Dev nD)

/-- Every window's block index. -/
theorem idx : ∀ t : Fin cfg0.N, win0_0.index t = ![0, 0] ∧ win0_1.index t = ![0, 0] ∧ win0_2.index t = ![t.val, 0]
    ∧ win0_3.index t = ![t.val, 0] ∧ win0_4.index t = ![0, t.val] ∧ win0_5.index t = ![t.val + 14, 0]
    ∧ win0_6.index t = ![t.val + 14, 0] ∧ win0_7.index t = ![0, t.val + 14] ∧ win0_8.index t = ![0, t.val] :=
  (by decide +kernel : ∀ t : Fin grid0.N, _)

theorem entry_v2 : V m c main_v2 = shapeCast S96x4096 (transpose S96x4x1024 [0, 2, 1] (shapeCast S96x1024x4
    (m ((c : Thread nD τ).loc main_arg0)) shapeCasts_S96x4096_S96x1024x4) transposes_S96x1024x4_S96x4x1024_0_2_1) shapeCasts_S96x4x1024_S96x4096 := by
  entry_read
  try rfl

theorem entry_v3 : V m c main_v3 = shapeCast S1x28672 (m ((c : Thread nD τ).loc main_arg4)) shapeCasts_S28672_S1x28672 := by
  entry_read
  try rfl

/-- The point's blocks, at coordinates of the whole arrays. -/
theorem read0 (t : Fin cfg0.N) (r k : Nat) :
    natAt (α := EReal) 0 (iblk m c 0 t) r k = natAt (α := EReal) 0 (V m c main_v2) r k := by
  refine congrArg (fun x => natAt (α := EReal) 0 x r k) (funext fun y => ?_)
  unfold iblk
  blk_simp
  refine congrArg (V m c main_v2) (funext fun a => Fin.ext ?_)
  match a with
  | ⟨0, _⟩ => blk_simp [idx t]
  | ⟨1, _⟩ => blk_simp [idx t]

theorem read1 (t : Fin cfg0.N) (r : Nat) :
    natAt (α := EReal) 0 (iblk m c 1 t) r 0 = natAt (α := EReal) 0 (m ((c : Thread nD τ).loc main_arg1)) r 0 := by
  refine congrArg (fun x => natAt (α := EReal) 0 x r 0) (funext fun y => ?_)
  unfold iblk
  blk_simp
  rw [V_main_arg1]
  refine congrArg (m ((c : Thread nD τ).loc main_arg1)) (funext fun a => Fin.ext ?_)
  match a with
  | ⟨0, _⟩ => blk_simp [idx t]
  | ⟨1, _⟩ => blk_simp [idx t]

/-- The kept codes and metadata of the gate's block, and of the up projection's, 14 blocks further. -/
theorem readV (t : Fin cfg0.N) (q x : Nat) (hq : q < 1024) (hx : x < 2048) :
    natAt (α := BitVec 8) 0#8 (iblk m c 2 t) q x = natAt (α := BitVec 8) 0#8 (m ((c : Thread nD τ).loc main_arg2)) (1024 * t.val + q) x
    ∧ natAt (α := BitVec 8) 0#8 (iblk m c 5 t) q x = natAt (α := BitVec 8) 0#8 (m ((c : Thread nD τ).loc main_arg2)) (1024 * (t.val + 14) + q) x := by
  constructor
  all_goals
    refine natAt_at (α := BitVec 8) 0#8 _ q x _ hq hx fun y h0 h1 => Eq.symm ?_
    unfold iblk
    blk_simp
    rw [V_main_arg2]
    refine natAt_of _ _ _ _ _ ?_ ?_ <;> blk_simp [idx t]
    all_goals omega

theorem readM (t : Fin cfg0.N) (q x : Nat) (hq : q < 1024) (hx : x < 256) :
    natAt (α := BitVec 16) 0#16 (iblk m c 3 t) q x = natAt (α := BitVec 16) 0#16 (m ((c : Thread nD τ).loc main_arg3)) (1024 * t.val + q) x
    ∧ natAt (α := BitVec 16) 0#16 (iblk m c 6 t) q x = natAt (α := BitVec 16) 0#16 (m ((c : Thread nD τ).loc main_arg3)) (1024 * (t.val + 14) + q) x := by
  constructor
  all_goals
    refine natAt_at (α := BitVec 16) 0#16 _ q x _ hq hx fun y h0 h1 => Eq.symm ?_
    unfold iblk
    blk_simp
    rw [V_main_arg3]
    refine natAt_of _ _ _ _ _ ?_ ?_ <;> blk_simp [idx t]
    all_goals omega

theorem readS (t : Fin cfg0.N) (q : Nat) (hq : q < 1024) :
    natAt (α := EReal) 0 (iblk m c 4 t) 0 q = natVec (α := EReal) 0 (m ((c : Thread nD τ).loc main_arg4)) (1024 * t.val + q)
    ∧ natAt (α := EReal) 0 (iblk m c 7 t) 0 q = natVec (α := EReal) 0 (m ((c : Thread nD τ).loc main_arg4)) (1024 * (t.val + 14) + q) := by
  have ht : t.val < 14 := t.isLt
  constructor
  all_goals
    refine Eq.trans ?_ (reshaped_at (α := EReal) 0 (m ((c : Thread nD τ).loc main_arg4)) shapeCasts_S28672_S1x28672 _ (by omega))
    rw [← entry_v3 m c]
    refine natAt_at (α := EReal) 0 _ 0 q _ (by decide) hq fun y h0 h1 => Eq.symm ?_
    unfold iblk
    blk_simp
    refine natAt_of _ _ _ _ _ ?_ ?_ <;> blk_simp [idx t]
    all_goals omega

/-- Every group of every row of the metadata is valid. -/
def MetaValid (x : Vec Ideal S28672x256 .i16) : Prop :=
  ∀ c g : Nat, c < 28672 → g < 1024 → Valid (natAt (α := BitVec 16) 0#16 x c) g

theorem valid_congr {M M' : Nat → BitVec 16} {g : Nat} (h : M (g / 4) = M' (g / 4)) (hv : Valid M' g) : Valid M g := by
  unfold Valid at hv ⊢; rw [h]; exact hv

theorem blocks_valid (hm : MetaValid (m ((c : Thread nD τ).loc main_arg3))) (t : Fin cfg0.N) :
    BlockValid (iblk m c 3 t) ∧ BlockValid (iblk m c 6 t) := by
  have ht : t.val < 14 := t.isLt
  constructor
  · exact fun q g hq hg => valid_congr (readM m c t q (g / 4) hq (by omega)).1 (hm _ g (by omega) hg)
  · exact fun q g hq hg => valid_congr (readM m c t q (g / 4) hq (by omega)).2 (hm _ g (by omega) hg)

/-- The result as a function of the arguments. -/
def RESULT (a : Vec Ideal S96x4096 .fp8e4m3) (sa : Vec Ideal S96x1 .f32) (v : Vec Ideal S28672x2048 .i8) (mt : Vec Ideal S28672x256 .i16)
    (sc : Vec Ideal S28672 .f32) (y : S96x14336.Idx) : EReal :=
  gated (linearAt 1024 a sa v mt sc (y 0).val (y 1).val) (linearAt 1024 a sa v mt sc (y 0).val (14336 + (y 1).val))

theorem activations (t : Fin cfg0.N) (j r g : Nat) (hr : r < 96) (hj : j < 4) (hg : g < 1024) :
    blockA (iblk m c 0 t) j r g = natAt (α := EReal) 0 (m ((c : Thread nD τ).loc main_arg0)) r (4 * g + j) := by
  unfold blockA
  rw [read0, entry_v2]
  exact permuted_at (α := EReal) 0 rfl _ _ _ _ r j g hr hj hg

theorem proj_gate (t : Fin cfg0.N) (r q : Nat) (hr : r < 96) (hq : q < 1024) :
    blockProj (iblk m c 0 t) (iblk m c 1 t) (iblk m c 2 t) (iblk m c 3 t) (iblk m c 4 t) r q
      = linearAt 1024 (m ((c : Thread nD τ).loc main_arg0)) (m ((c : Thread nD τ).loc main_arg1)) (m ((c : Thread nD τ).loc main_arg2))
          (m ((c : Thread nD τ).loc main_arg3)) (m ((c : Thread nD τ).loc main_arg4)) r (1024 * t.val + q) := by
  unfold blockProj linearAt proj
  show _ * natAt (α := EReal) 0 (iblk m c 1 t) r 0 * natAt (α := EReal) 0 _ 0 q = _ * natAt (α := EReal) 0 _ r 0 * _
  rw [read1, (readS m c t q hq).1]
  exact congrArg (fun z : EReal => z * _ * _) (dotSum_congr 1024 (fun j g hj hg => activations m c t j r g hr hj hg)
    (fun x hx => (readV m c t q x hq hx).1) (fun x hx => (readM m c t q x hq (by omega)).1))

theorem proj_up (t : Fin cfg0.N) (r q : Nat) (hr : r < 96) (hq : q < 1024) :
    blockProj (iblk m c 0 t) (iblk m c 1 t) (iblk m c 5 t) (iblk m c 6 t) (iblk m c 7 t) r q
      = linearAt 1024 (m ((c : Thread nD τ).loc main_arg0)) (m ((c : Thread nD τ).loc main_arg1)) (m ((c : Thread nD τ).loc main_arg2))
          (m ((c : Thread nD τ).loc main_arg3)) (m ((c : Thread nD τ).loc main_arg4)) r (1024 * (t.val + 14) + q) := by
  unfold blockProj linearAt proj
  show _ * natAt (α := EReal) 0 (iblk m c 1 t) r 0 * natAt (α := EReal) 0 _ 0 q = _ * natAt (α := EReal) 0 _ r 0 * _
  rw [read1, (readS m c t q hq).2]
  exact congrArg (fun z : EReal => z * _ * _) (dotSum_congr 1024 (fun j g hj hg => activations m c t j r g hr hj hg)
    (fun x hx => (readV m c t q x hq hx).2) (fun x hx => (readM m c t q x hq (by omega)).2))

/-- The kernel's result array. -/
theorem final (hm : MetaValid (m ((c : Thread nD τ).loc main_arg3))) :
    (dats m 0 c).arrAt 8 cfg0.N = RESULT (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  unfold outsAt0
  have ht : t.val < 14 := t.isLt
  have hv := blocks_valid m c hm t
  rw [out_block _ _ _ _ _ _ _ _ _ _ _ _ _ _ _ _ _ _ _ _ _ _ _ _ _ _ _ _ hv.1 hv.2]
  have e0 : (((win0_8.blk t).view.emb y) 0).val = (y 0).val := by blk_simp [idx t]
  have e1 : (((win0_8.blk t).view.emb y) 1).val = 1024 * t.val + (y 1).val := by blk_simp [idx t]; omega
  unfold blockG RESULT
  have hr : (y 0).val < 96 := (y 0).isLt
  have hq : (y 1).val < 1024 := (y 1).isLt
  rw [proj_gate m c t _ _ hr hq, proj_up m c t _ _ hr hq]
  show _ = gated (linearAt 1024 _ _ _ _ _ (((win0_8.blk t).view.emb y) 0).val (((win0_8.blk t).view.emb y) 1).val)
    (linearAt 1024 _ _ _ _ _ (((win0_8.blk t).view.emb y) 0).val (14336 + (((win0_8.blk t).view.emb y) 1).val))
  rw [e0, e1, show 14336 + (1024 * t.val + (y 1).val) = 1024 * (t.val + 14) + (y 1).val by omega]

end Cert.GateUpIdeal.Value

end
-- ==== Proof.GateUpValid.lean ====
/-
  The precondition, read back: every group of every row of the metadata names its two columns in increasing order.
-/
module

public import proofs.«01_k».proof.Proof.GateUpValue
public import proofs.«01_k».proof.Proof.Gen.Pre_metadata_valid
public import Idealize.ShloMosaic.Lib.ReduceAll

@[expose] public section

noncomputable section

namespace Cert.Expand

open Idealize.ShloMosaic

/-- Two neighbouring fields of a metadata word, compared as the precondition compares them. -/
theorem fields_lt (w : BitVec 16) (b : Nat) (hb : b < 14)
    (h : IntOp.cmpi .slt (IntOp.andi (IntOp.shrui .host (w.setWidth 32) (BitVec.ofNat 32 b)) 3#32)
      (IntOp.andi (IntOp.shrui .host (w.setWidth 32) (BitVec.ofNat 32 (b + 2))) 3#32) = 1#1) :
    (Cert.Expand.idx w b).toNat < (Cert.Expand.idx w (b + 2)).toNat := by
  have hf : ∀ n : Nat, n < 16 → IntOp.andi (IntOp.shrui .host (w.setWidth 32) (BitVec.ofNat 32 n)) 3#32 = BitVec.ofNat 32 (Cert.Expand.idx w n).toNat := by
    intro n hn
    have hw : w.toNat < 65536 := w.isLt
    unfold IntOp.andi IntOp.shrui Cert.Expand.idx
    rw [if_pos (by simp; omega)]
    apply BitVec.eq_of_toNat_eq
    rw [BitVec.toNat_and, show (3#32).toNat = 2 ^ 2 - 1 from rfl, Nat.and_two_pow_sub_one_eq_mod, BitVec.ushiftRight_eq',
      BitVec.toNat_ushiftRight, Nat.shiftRight_eq_div_pow, BitVec.extractLsb'_toNat, Nat.shiftRight_eq_div_pow]
    simp
    rw [Nat.mod_eq_of_lt (by omega : w.toNat < 4294967296), Nat.mod_eq_of_lt (by omega : n < 4294967296)]
    omega
  rw [hf b (by omega), hf (b + 2) (by omega)] at h
  have h0 := (Cert.Expand.idx w b).isLt
  have h1 := (Cert.Expand.idx w (b + 2)).isLt
  generalize (Cert.Expand.idx w b).toNat = p at h h0 ⊢
  generalize (Cert.Expand.idx w (b + 2)).toNat = q at h h1 ⊢
  revert h
  have : ∀ p < 4, ∀ q < 4, IntOp.cmpi .slt (BitVec.ofNat 32 p) (BitVec.ofNat 32 q) = 1#1 → p < q := by decide
  exact this p h0 q h1

end Cert.Expand

namespace Cert.Pre_metadata_valid

open Idealize.ShloMosaic Cert.Expand

/-- The four groups of a word. -/
theorem word_valid (a : FVec Ideal S96x4096 .fp8e4m3) (sa : FVec Ideal S96x1 .f32) (v : IVec S28672x2048 8) (x : IVec S28672x256 16)
    (sc : FVec Ideal S28672 .f32) (j : S_.Idx) (h : fn (F := Ideal) a sa v x sc j = 1#1) (i : S28672x256.Idx) (n : Nat) (hn : n < 4) :
    (idx (x i) (4 * n)).toNat < (idx (x i) (4 * n + 2)).toNat := by
  haveI : Subsingleton S_.Idx := ⟨fun p q => funext fun k => k.elim0⟩
  unfold fn fn_part1 fn_part2 at h
  dsimp only at h
  have h3 := Host.reduce_andi_all _ _ _ _ j h i
  obtain ⟨h2, g3⟩ := IntOp.andi_eq_one.1 h3
  obtain ⟨h1, g2⟩ := IntOp.andi_eq_one.1 h2
  obtain ⟨g0, g1⟩ := IntOp.andi_eq_one.1 h1
  match n, hn with
  | 0, _ => exact fields_lt (x i) 0 (by decide) g0
  | 1, _ => exact fields_lt (x i) 4 (by decide) g1
  | 2, _ => exact fields_lt (x i) 8 (by decide) g2
  | 3, _ => exact fields_lt (x i) 12 (by decide) g3

theorem meta_valid (a : FVec Ideal S96x4096 .fp8e4m3) (sa : FVec Ideal S96x1 .f32) (v : IVec S28672x2048 8) (x : IVec S28672x256 16)
    (sc : FVec Ideal S28672 .f32) (j : S_.Idx) (h : fn (F := Ideal) a sa v x sc j = 1#1) : Cert.GateUpIdeal.Value.MetaValid x := by
  intro c g hc hg
  unfold Valid
  rw [natAt_ix (α := BitVec 16) 0#16 x c (g / 4) hc (by omega)]
  exact word_valid a sa v x sc j h _ (g % 4) (Nat.mod_lt _ (by decide))

end Cert.Pre_metadata_valid

end
-- ==== Proof.Plain.lean ====
/-
  The plain reading of the 2:4 metadata: the arrays the reference's host lines build, and what they hold at an index.
  Nothing here names a program. `nibbles` is the array of a row's groups' four bits, `kept j` the plane of the kept codes
  whose column in its group is `j`; `kept_at` says that plane's element is `plane j` of the two codes at the group's two columns.
-/
module

public import proofs.«01_k».proof.Proof.ExpandNat
public import Idealize.ShloMosaic.Lib.Pipeline.Value
public import Idealize.ShloMosaic.Lib.MatmulPlain

@[expose] public section

noncomputable section

namespace Cert.Expand

open Idealize.ShloMosaic
open Idealize.ShloMosaic.ValueIdx (ix3)
open scoped BigOperators

abbrev S0 : Shape := ⟨0, ![]⟩

/-- The side conditions of the reference's host lines, over `R` rows and `G` groups of a row, `Q` metadata words of a row. -/
structure PlainFacts (R Q G : Nat) : Prop where
  hw : 16 < 32
  hG : G = Q * 4
  rep : (⟨2, ![R, Q]⟩ : Shape).BroadcastsInDim ⟨3, ![R, Q, 4]⟩ (![0, 1] : Fin 2 → Fin 3)
  flat : (⟨3, ![R, Q, 4]⟩ : Shape).ShapeCasts ⟨2, ![R, G]⟩
  one : S0.BroadcastsInDim ⟨1, ![G]⟩ (![] : Fin 0 → Fin 1)
  row : (⟨1, ![G]⟩ : Shape).BroadcastsInDim ⟨2, ![1, G]⟩ (![1] : Fin 1 → Fin 2)
  rows : (⟨2, ![1, G]⟩ : Shape).BroadcastsInDim ⟨2, ![R, G]⟩ (![0, 1] : Fin 2 → Fin 2)
  two : S0.BroadcastsInDim ⟨2, ![R, G]⟩ (![] : Fin 0 → Fin 2)
  even : (⟨2, ![R, 2 * G]⟩ : Shape).SlicesBy ![0, 0] ![1, 2] ⟨2, ![R, G]⟩
  odd : (⟨2, ![R, 2 * G]⟩ : Shape).SlicesBy ![0, 1] ![1, 2] ⟨2, ![R, G]⟩

section

variable {R Q G : Nat} (P : PlainFacts R Q G)

/-- The column's remainder by four, as the host computes a remainder with the divisor's sign. -/
def remainder : IVec ⟨1, ![G]⟩ 32 :=
  let d : IVec S0 32 := select (cmpi .eq (constantI S0 32 4#32) (constantI S0 32 0#32)) (constantI S0 32 1#32) (constantI S0 32 4#32)
  let q : IVec ⟨1, ![G]⟩ 32 := Host.remsi (iotaInDim ⟨1, ![G]⟩ 32 0) (broadcastInDim ⟨1, ![G]⟩ ![] P.one d)
  select
    (andi (cmpi .ne (cmpi .slt q (broadcastInDim ⟨1, ![G]⟩ ![] P.one (constantI S0 32 0#32)))
        (broadcastInDim ⟨1, ![G]⟩ ![] P.one (cmpi .slt d (constantI S0 32 0#32))))
      (cmpi .ne q (broadcastInDim ⟨1, ![G]⟩ ![] P.one (constantI S0 32 0#32))))
    (addi q (broadcastInDim ⟨1, ![G]⟩ ![] P.one d)) q

/-- Every group's four bits of metadata. -/
def nibbles (x : IVec ⟨2, ![R, Q]⟩ 16) : IVec ⟨2, ![R, G]⟩ 32 :=
  andi
    (Host.shrsi (shapeCast ⟨2, ![R, G]⟩ (broadcastInDim ⟨3, ![R, Q, 4]⟩ ![0, 1] P.rep (extui 32 x P.hw)) P.flat)
      (broadcastInDim ⟨2, ![R, G]⟩ ![0, 1] P.rows (broadcastInDim ⟨2, ![1, G]⟩ ![1] P.row
        (muli (broadcastInDim ⟨1, ![G]⟩ ![] P.one (constantI S0 32 4#32)) (remainder P)))))
    (broadcastInDim ⟨2, ![R, G]⟩ ![] P.two (constantI S0 32 15#32))

/-- The kept codes whose column in the group is `j`, zero elsewhere. -/
def kept (j : BitVec 32) (v : IVec ⟨2, ![R, 2 * G]⟩ 8) (x : IVec ⟨2, ![R, Q]⟩ 16) : IVec ⟨2, ![R, G]⟩ 8 :=
  select (cmpi .eq (andi (nibbles P x) (broadcastInDim ⟨2, ![R, G]⟩ ![] P.two (constantI S0 32 3#32)))
      (broadcastInDim ⟨2, ![R, G]⟩ ![] P.two (constantI S0 32 j)))
    (Host.slice ⟨2, ![R, G]⟩ ![0, 0] ![1, 2] v P.even)
    (select (cmpi .eq (Host.shrsi (nibbles P x) (broadcastInDim ⟨2, ![R, G]⟩ ![] P.two (constantI S0 32 2#32)))
        (broadcastInDim ⟨2, ![R, G]⟩ ![] P.two (constantI S0 32 j)))
      (Host.slice ⟨2, ![R, G]⟩ ![0, 1] ![1, 2] v P.odd)
      (broadcastInDim ⟨2, ![R, G]⟩ ![] P.two (constantI S0 8 0#8)))

theorem unit_or (n k : Nat) (h : k < n) : k = if n = 1 then 0 else k := by split <;> omega

theorem remainder_at (hb : G < 2 ^ 31) (i : (⟨1, ![G]⟩ : Shape).Idx) :
    remainder P i = BitVec.ofNat 32 ((i 0).val % 4) := by
  have hi : (i 0).val < G := (i 0).isLt
  have hq : IntOp.remsi .host (BitVec.ofNat 32 (i 0).val) 4#32 = BitVec.ofNat 32 ((i 0).val % 4) := by
    unfold IntOp.remsi
    rw [if_neg (by unfold IntOp.SDivCorner; simp)]
    rw [BitVec.srem_eq, show (4#32).msb = false from by decide,
      show (BitVec.ofNat 32 (i 0).val).msb = false from by rw [BitVec.msb_eq_false_iff_two_mul_lt]; simp; omega]
    apply BitVec.eq_of_toNat_eq
    simp; omega
  have hd : select (cmpi .eq (constantI S0 32 4#32) (constantI S0 32 0#32)) (constantI S0 32 1#32) (constantI S0 32 4#32)
      = constantI S0 32 4#32 := by funext k; rfl
  unfold remainder
  rw [hd]
  show Scalar.select (IntOp.andi (IntOp.cmpi .ne (IntOp.cmpi .slt (IntOp.remsi .host (BitVec.ofNat 32 (i 0).val) 4#32) 0#32)
      (IntOp.cmpi .slt 4#32 0#32)) (IntOp.cmpi .ne (IntOp.remsi .host (BitVec.ofNat 32 (i 0).val) 4#32) 0#32))
    (IntOp.addi (IntOp.remsi .host (BitVec.ofNat 32 (i 0).val) 4#32) 4#32) (IntOp.remsi .host (BitVec.ofNat 32 (i 0).val) 4#32) = _
  rw [hq]
  have h4 : (i 0).val % 4 < 4 := Nat.mod_lt _ (by decide)
  generalize (i 0).val % 4 = n at h4
  revert n; decide

/-- A group's nibble and the two columns it holds. -/
theorem nibbles_at (hb : G < 2 ^ 31) (x : IVec ⟨2, ![R, Q]⟩ 16) (i : (⟨2, ![R, G]⟩ : Shape).Idx) :
    (nibbles P x i).toNat = (natAt 0#16 x (i 0).val ((i 1).val / 4)).toNat / 2 ^ (4 * ((i 1).val % 4)) % 16 := by
  have hi : (i 1).val < G := (i 1).isLt
  have hG := P.hG
  have hv : shapeCast ⟨2, ![R, G]⟩ (broadcastInDim ⟨3, ![R, Q, 4]⟩ ![0, 1] P.rep (extui 32 x P.hw)) P.flat i
      = (natAt 0#16 x (i 0).val ((i 1).val / 4)).setWidth 32 := by
    rw [shapeCast_apply _ P.flat i (ix3 (i 0) (⟨(i 1).val / 4, by omega⟩ : Fin Q) (⟨(i 1).val % 4, by omega⟩ : Fin 4)) (by
      rw [Shape.rowMajor_val_three, Shape.rowMajor_val_two]
      show ((i 0).val * Q + (i 1).val / 4) * 4 + (i 1).val % 4 = (i 0).val * G + (i 1).val
      generalize hc : (i 1).val = c at hi
      generalize (i 0).val = r
      subst hG
      rw [← Nat.mul_assoc]; generalize r * Q = z; omega)]
    rw [broadcastInDim_apply _ P.rep _ _ (ValueIdx.ix2 (i 0) (⟨(i 1).val / 4, by omega⟩ : Fin Q)) (by
      intro a
      match a with
      | ⟨0, _⟩ => exact unit_or R (i 0).val (i 0).isLt
      | ⟨1, _⟩ => exact unit_or Q ((i 1).val / 4) (by omega))]
    exact congrArg (BitVec.setWidth 32) (natAt_of 0#16 x _ _ _ rfl rfl).symm
  have hs : broadcastInDim ⟨2, ![R, G]⟩ ![0, 1] P.rows (broadcastInDim ⟨2, ![1, G]⟩ ![1] P.row
        (muli (broadcastInDim ⟨1, ![G]⟩ ![] P.one (constantI S0 32 4#32)) (remainder P))) i = BitVec.ofNat 32 (4 * ((i 1).val % 4)) := by
    rw [broadcastInDim_apply _ P.rows _ _ (ValueIdx.ix2 (⟨0, by decide⟩ : Fin 1) (i 1)) (by
      intro a
      match a with
      | ⟨0, _⟩ => rfl
      | ⟨1, _⟩ => exact unit_or G (i 1).val (i 1).isLt)]
    rw [broadcastInDim_apply _ P.row _ _ (ValueIdx.ix1 (i 1)) (by
      intro a
      match a with
      | ⟨0, _⟩ => exact unit_or G (i 1).val (i 1).isLt)]
    show 4#32 * remainder P _ = _
    rw [remainder_at P hb]
    show 4#32 * BitVec.ofNat 32 ((i 1).val % 4) = _
    apply BitVec.eq_of_toNat_eq
    simp
  show (IntOp.andi (IntOp.shrsi .host _ _) 15#32).toNat = _
  rw [hv, hs]
  have hM : (natAt 0#16 x (i 0).val ((i 1).val / 4)).toNat < 65536 := (natAt 0#16 x (i 0).val ((i 1).val / 4)).isLt
  generalize natAt 0#16 x (i 0).val ((i 1).val / 4) = w at hM ⊢
  have h4 : (i 1).val % 4 < 4 := Nat.mod_lt _ (by decide)
  generalize (i 1).val % 4 = n at h4
  unfold IntOp.andi IntOp.shrsi
  rw [if_pos (by simp; omega)]
  rw [BitVec.toNat_and, BitVec.sshiftRight_eq', BitVec.sshiftRight_eq_of_msb_false (by rw [BitVec.msb_eq_false_iff_two_mul_lt]; simp; omega)]
  rw [show (15#32).toNat = 2 ^ 4 - 1 from rfl, Nat.and_two_pow_sub_one_eq_mod, BitVec.toNat_ushiftRight, Nat.shiftRight_eq_div_pow]
  simp
  rw [Nat.mod_eq_of_lt (by omega : w.toNat < 4294967296), Nat.mod_eq_of_lt (by omega : 4 * n < 4294967296)]

theorem kept_at (hb : G < 2 ^ 31) (j : Nat) (hj : j < 4) (v : IVec ⟨2, ![R, 2 * G]⟩ 8) (x : IVec ⟨2, ![R, Q]⟩ 16) (i : (⟨2, ![R, G]⟩ : Shape).Idx) :
    kept P (BitVec.ofNat 32 j) v x i = code j (natAt 0#8 v (i 0).val) (natAt 0#16 x (i 0).val) (i 1).val := by
  have hn := nibbles_at P hb x i
  have hi : (i 1).val < G := (i 1).isLt
  have he : Host.slice ⟨2, ![R, G]⟩ ![0, 0] ![1, 2] v P.even i = natAt 0#8 v (i 0).val (2 * (i 1).val) :=
    (natAt_of 0#8 v _ _ _ (by show 0 + 1 * (i 0).val = _; omega) (by show 0 + 2 * (i 1).val = _; omega)).symm
  have ho : Host.slice ⟨2, ![R, G]⟩ ![0, 1] ![1, 2] v P.odd i = natAt 0#8 v (i 0).val (2 * (i 1).val + 1) :=
    (natAt_of 0#8 v _ _ _ (by show 0 + 1 * (i 0).val = _; omega) (by show 1 + 2 * (i 1).val = _; omega)).symm
  show Scalar.select (IntOp.cmpi .eq (IntOp.andi (nibbles P x i) 3#32) (BitVec.ofNat 32 j))
    (Host.slice ⟨2, ![R, G]⟩ ![0, 0] ![1, 2] v P.even i)
    (Scalar.select (IntOp.cmpi .eq (IntOp.shrsi .host (nibbles P x i) 2#32) (BitVec.ofNat 32 j))
      (Host.slice ⟨2, ![R, G]⟩ ![0, 1] ![1, 2] v P.odd i) 0#8) = _
  rw [he, ho]
  unfold code plane
  generalize natAt 0#8 v (i 0).val (2 * (i 1).val) = b0
  generalize natAt 0#8 v (i 0).val (2 * (i 1).val + 1) = b1
  generalize nibbles P x i = nb at hn ⊢
  have hM : (natAt 0#16 x (i 0).val ((i 1).val / 4)).toNat < 65536 := (natAt 0#16 x (i 0).val ((i 1).val / 4)).isLt
  generalize natAt 0#16 x (i 0).val ((i 1).val / 4) = w at hn hM ⊢
  have h4 : (i 1).val % 4 < 4 := Nat.mod_lt _ (by decide)
  generalize (i 1).val % 4 = n at hn h4 ⊢
  have h0 : (idx w (4 * n)).toNat = nb.toNat % 4 := by
    unfold idx
    rw [BitVec.extractLsb'_toNat, Nat.shiftRight_eq_div_pow, hn]; omega
  have h1 : (idx w (4 * n + 2)).toNat = nb.toNat / 4 := by
    unfold idx
    rw [BitVec.extractLsb'_toNat, Nat.shiftRight_eq_div_pow, hn, Nat.pow_add, ← Nat.div_div_eq_div_mul]; omega
  have hs : IntOp.shrsi .host nb 2#32 = BitVec.ofNat 32 (nb.toNat / 4) := by
    unfold IntOp.shrsi
    rw [if_pos (by decide), BitVec.sshiftRight_eq', BitVec.sshiftRight_eq_of_msb_false (by rw [BitVec.msb_eq_false_iff_two_mul_lt]; omega)]
    apply BitVec.eq_of_toNat_eq
    rw [BitVec.toNat_ushiftRight, Nat.shiftRight_eq_div_pow]
    simp; omega
  have ha : IntOp.andi nb 3#32 = BitVec.ofNat 32 (nb.toNat % 4) := by
    unfold IntOp.andi
    apply BitVec.eq_of_toNat_eq
    rw [BitVec.toNat_and, show (3#32).toNat = 2 ^ 2 - 1 from rfl, Nat.and_two_pow_sub_one_eq_mod]
    simp; omega
  have hlt : nb.toNat < 16 := by rw [hn]; omega
  rw [h0, h1, hs, ha]
  unfold IntOp.cmpi
  have hsel : ∀ (b : Bool) (p q : BitVec 8), Scalar.select (BitVec.ofBool b) p q = if b = true then p else q := by
    intro b p q; cases b <;> rfl
  simp only [hsel]
  have hz : ∀ k : Nat, k < 4 → ((BitVec.ofNat 32 k == BitVec.ofNat 32 j) = true ↔ k = j) := by
    intro k hk
    rw [beq_iff_eq]
    constructor
    · intro h; have := congrArg BitVec.toNat h; simp at this; omega
    · intro h; rw [h]
  simp only [hz (nb.toNat % 4) (by omega), hz (nb.toNat / 4) (by omega)]

end

/-! ## The reference's product -/

/-- One plane's product, at an index. -/
theorem product_at {B N G : Nat} (a : FVec Ideal ⟨2, ![B, G]⟩ .fp8e4m3) (p : IVec ⟨2, ![N, G]⟩ 8)
    (ha : (⟨2, ![B, G]⟩ : Shape).ShapeCasts ⟨2, ![B, G]⟩) (hp : (⟨2, ![N, G]⟩ : Shape).ShapeCasts ⟨2, ![N, G]⟩) (i : (⟨2, ![B, N]⟩ : Shape).Idx) :
    matmul (DotDims.transposedRhs B G N) none (shapeCast ⟨2, ![B, G]⟩ a ha)
        (bitcastToFloat .fp8e4m3 (shapeCast ⟨2, ![N, G]⟩ p hp)) (constant ⟨2, ![B, N]⟩ .f32 0x00000000#32) i
      = ∑ g ∈ Finset.range G, natAt (α := EReal) 0 a (i 0).val g * Ideal.ofBits .fp8e4m3 (natAt 0#8 p (i 1).val g) := by
  rw [ValueIdx.eq_ix2 i]
  refine (Ideal.matmul_transposedRhs_apply _ _ _ _ _ _).trans ?_
  rw [shapeCast_self, shapeCast_self]
  have h0 : ∀ y, (constant ⟨2, ![B, N]⟩ .f32 0x00000000#32 : FVec Ideal ⟨2, ![B, N]⟩ .f32) y = (0 : EReal) := fun _ => Ideal.ofBits_zero_f32
  rw [h0]
  refine (zero_add (_ : EReal)).trans ?_
  rw [Finset.sum_range]
  refine Finset.sum_congr rfl fun g _ => ?_
  exact congrArg₂ (fun (p : EReal) (q : BitVec 8) => p * Ideal.ofBits .fp8e4m3 q)
    (natAt_ix (α := EReal) 0 a _ g.val (i 0).isLt g.isLt).symm (natAt_ix 0#8 p _ g.val (i 1).isLt g.isLt).symm

/-- The reference's sum of the four planes' products, scaled by the row's and the column's scale. -/
theorem reference_at {B N Q G : Nat} (P : PlainFacts N Q G) (hb : G < 2 ^ 31)
    (a : FVec Ideal ⟨2, ![B, 4 * G]⟩ .fp8e4m3) (sa : FVec Ideal ⟨2, ![B, 1]⟩ .f32)
    (v : IVec ⟨2, ![N, 2 * G]⟩ 8) (x : IVec ⟨2, ![N, Q]⟩ 16) (sc : FVec Ideal ⟨1, ![N]⟩ .f32)
    (a0 a1 a2 a3 : FVec Ideal ⟨2, ![B, G]⟩ .fp8e4m3) (s : FVec Ideal ⟨2, ![1, N]⟩ .f32)
    (h0 : ∀ r g, r < B → g < G → natAt (α := EReal) 0 a0 r g = natAt (α := EReal) 0 a r (4 * g + 0))
    (h1 : ∀ r g, r < B → g < G → natAt (α := EReal) 0 a1 r g = natAt (α := EReal) 0 a r (4 * g + 1))
    (h2 : ∀ r g, r < B → g < G → natAt (α := EReal) 0 a2 r g = natAt (α := EReal) 0 a r (4 * g + 2))
    (h3 : ∀ r g, r < B → g < G → natAt (α := EReal) 0 a3 r g = natAt (α := EReal) 0 a r (4 * g + 3))
    (hs : ∀ c, c < N → natAt (α := EReal) 0 s 0 c = natVec (α := EReal) 0 sc c)
    (ha : (⟨2, ![B, G]⟩ : Shape).ShapeCasts ⟨2, ![B, G]⟩) (hp : (⟨2, ![N, G]⟩ : Shape).ShapeCasts ⟨2, ![N, G]⟩)
    (i : (⟨2, ![B, N]⟩ : Shape).Idx) :
    let prod := fun (b : FVec Ideal ⟨2, ![B, G]⟩ .fp8e4m3) (j : BitVec 32) =>
      matmul (DotDims.transposedRhs B G N) none (shapeCast ⟨2, ![B, G]⟩ b ha)
        (bitcastToFloat .fp8e4m3 (shapeCast ⟨2, ![N, G]⟩ (kept P j v x) hp)) (constant ⟨2, ![B, N]⟩ .f32 0x00000000#32) i
    (((prod a0 0#32 + prod a1 1#32 : EReal) + prod a2 2#32) + prod a3 3#32) * natAt (α := EReal) 0 sa (i 0).val 0
        * natAt (α := EReal) 0 s 0 (i 1).val
      = linearAt G a sa v x sc (i 0).val (i 1).val := by
  intro prod
  have hr : (i 0).val < B := (i 0).isLt
  have hc : (i 1).val < N := (i 1).isLt
  have hk : ∀ (j : Nat) (b : FVec Ideal ⟨2, ![B, G]⟩ .fp8e4m3), j < 4 →
      (∀ r g, r < B → g < G → natAt (α := EReal) 0 b r g = natAt (α := EReal) 0 a r (4 * g + j)) →
      prod b (BitVec.ofNat 32 j) = ∑ g ∈ Finset.range G,
        term (fun j r g => natAt (α := EReal) 0 a r (4 * g + j)) (natAt 0#8 v) (natAt 0#16 x) j (i 0).val (i 1).val g := by
    intro j b hj hb'
    refine (product_at b _ ha hp i).trans (Finset.sum_congr rfl fun g hg => ?_)
    have hg' := Finset.mem_range.mp hg
    rw [hb' _ _ hr hg']
    unfold term
    refine congrArg (fun z => natAt (α := EReal) 0 a (i 0).val (4 * g + j) * Ideal.ofBits .fp8e4m3 z) ?_
    refine natAt_at _ _ _ _ _ hc hg' fun y e0 e1 => ?_
    rw [kept_at P hb j hj, e0, e1]
  rw [hk 0 a0 (by decide) h0, hk 1 a1 (by decide) h1, hk 2 a2 (by decide) h2, hk 3 a3 (by decide) h3, hs _ hc]
  rfl

/-- Every fourth column of the activations, from the `j`-th. -/
theorem strided_at {α : Type} (d : α) {B G j : Nat} (a : (⟨2, ![B, 4 * G]⟩ : Shape).Idx → α)
    (h : (⟨2, ![B, 4 * G]⟩ : Shape).SlicesBy ![0, j] ![1, 4] ⟨2, ![B, G]⟩) (r g : Nat) (hr : r < B) (hg : g < G) :
    natAt d (Host.slice ⟨2, ![B, G]⟩ ![0, j] ![1, 4] a h) r g = natAt d a r (4 * g + j) :=
  natAt_at d _ r g _ hr hg fun y e0 e1 =>
    (natAt_of d a _ _ _ (by show 0 + 1 * (y 0).val = r; omega) (by show j + 4 * (y 1).val = _; omega)).symm

end Cert.Expand

end
-- ==== Proof.GateUpReferenceEntry.lean ====
/-
  What the gate and up reference's host lines hand to its kernel: strided activations, the four planes of kept codes, the column scales.
-/
module

public import proofs.«01_k».proof.Proof.Plain
public import proofs.«01_k».proof.Proof.Gen.GateUpReferenceIdeal.Value
public import Idealize.ShloMosaic.Lib.Claim
public import Idealize.ShloMosaic.Lib.Pipeline.ValueKit

@[expose] public section

noncomputable section

namespace Cert.GateUpReferenceIdeal.Value

open Cert.GateUpReferenceIdeal Cert.GateUpReferenceIdeal.Gen Idealize.ShloMosaic Idealize.ShloMosaic.TcCoe Idealize.SL.Sem
open Idealize.ShloMosaic.Pipeline (Dat)
open Cert.Expand

variable (m : (ℓ : Loc nD τ sig) → Buf (Elt Idealize.ShloMosaic.Ideal) ℓ) (c : Dev nD)

theorem plain : PlainFacts 28672 256 1024 where
  hw := natLt_16_32
  hG := rfl
  rep := bcast_S28672x256_S28672x256x4_0_1
  flat := shapeCasts_S28672x256x4_S28672x1024
  one := bcast_S_S1024
  row := bcast_S1024_S1x1024_1
  rows := bcast_S1x1024_S28672x1024_0_1
  two := bcast_S_S28672x1024
  even := slicesBy_S28672x2048_S28672x1024_0s1_0s2
  odd := slicesBy_S28672x2048_S28672x1024_0s1_1s2

set_option maxHeartbeats 4000000 in
theorem entry_v13 : V m c main_v13 = nibbles plain (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  rfl

set_option maxHeartbeats 4000000 in
theorem entry_v23 : V m c main_v23 = kept plain 0#32 (m ((c : Thread nD τ).loc main_arg2)) (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  rfl

set_option maxHeartbeats 4000000 in
theorem entry_v29 : V m c main_v29 = kept plain 1#32 (m ((c : Thread nD τ).loc main_arg2)) (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  rfl

set_option maxHeartbeats 4000000 in
theorem entry_v35 : V m c main_v35 = kept plain 2#32 (m ((c : Thread nD τ).loc main_arg2)) (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  rfl

set_option maxHeartbeats 4000000 in
theorem entry_v41 : V m c main_v41 = kept plain 3#32 (m ((c : Thread nD τ).loc main_arg2)) (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  rfl

set_option maxHeartbeats 4000000 in
theorem entry_v42 : V m c main_v42 = Host.slice S96x1024 ![0, 0] ![1, 4] (m ((c : Thread nD τ).loc main_arg0)) slicesBy_S96x4096_S96x1024_0s1_0s4 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  try rfl

set_option maxHeartbeats 4000000 in
theorem entry_v43 : V m c main_v43 = Host.slice S96x1024 ![0, 1] ![1, 4] (m ((c : Thread nD τ).loc main_arg0)) slicesBy_S96x4096_S96x1024_0s1_1s4 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  try rfl

set_option maxHeartbeats 4000000 in
theorem entry_v44 : V m c main_v44 = Host.slice S96x1024 ![0, 2] ![1, 4] (m ((c : Thread nD τ).loc main_arg0)) slicesBy_S96x4096_S96x1024_0s1_2s4 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  try rfl

set_option maxHeartbeats 4000000 in
theorem entry_v45 : V m c main_v45 = Host.slice S96x1024 ![0, 3] ![1, 4] (m ((c : Thread nD τ).loc main_arg0)) slicesBy_S96x4096_S96x1024_0s1_3s4 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  try rfl

set_option maxHeartbeats 4000000 in
theorem entry_v46 : V m c main_v46 = shapeCast S1x28672 (m ((c : Thread nD τ).loc main_arg4)) shapeCasts_S28672_S1x28672 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  try rfl

end Cert.GateUpReferenceIdeal.Value

end
-- ==== Proof.GateUpReferenceValue.lean ====
/-
  What the gate and up reference leaves in its result: the two linear maps of the plain reading, the first through silu, multiplied.
-/
module

public import proofs.«01_k».proof.Proof.GateUpReferenceEntry
public import Idealize.ShloMosaic.Lib.Claim
public import Idealize.ShloMosaic.Lib.Pipeline.ValueKit

@[expose] public section

noncomputable section

namespace Cert.GateUpReferenceIdeal.Value

open Cert.GateUpReferenceIdeal Cert.GateUpReferenceIdeal.Gen Idealize.ShloMosaic Idealize.ShloMosaic.TcCoe Idealize.SL.Sem
open Idealize.ShloMosaic.Pipeline (Dat)
open Cert.Expand

variable (m : (ℓ : Loc nD τ sig) → Buf (Elt Idealize.ShloMosaic.Ideal) ℓ) (c : Dev nD)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] := by
  decide +kernel

theorem whole0 (t : Fin cfg0.N) : iblk m c 0 t = V m c main_v42 := by
  funext y
  unfold iblk
  blk_simp
  refine congrArg (V m c main_v42) (funext fun a => Fin.ext ?_)
  match a with
  | ⟨0, _⟩ => blk_simp [idx t]
  | ⟨1, _⟩ => blk_simp [idx t]

theorem whole1 (t : Fin cfg0.N) : iblk m c 1 t = V m c main_v43 := by
  funext y
  unfold iblk
  blk_simp
  refine congrArg (V m c main_v43) (funext fun a => Fin.ext ?_)
  match a with
  | ⟨0, _⟩ => blk_simp [idx t]
  | ⟨1, _⟩ => blk_simp [idx t]

theorem whole2 (t : Fin cfg0.N) : iblk m c 2 t = V m c main_v44 := by
  funext y
  unfold iblk
  blk_simp
  refine congrArg (V m c main_v44) (funext fun a => Fin.ext ?_)
  match a with
  | ⟨0, _⟩ => blk_simp [idx t]
  | ⟨1, _⟩ => blk_simp [idx t]

theorem whole3 (t : Fin cfg0.N) : iblk m c 3 t = V m c main_v45 := by
  funext y
  unfold iblk
  blk_simp
  refine congrArg (V m c main_v45) (funext fun a => Fin.ext ?_)
  match a with
  | ⟨0, _⟩ => blk_simp [idx t]
  | ⟨1, _⟩ => blk_simp [idx t]

theorem whole4 (t : Fin cfg0.N) : iblk m c 4 t = V m c main_v23 := by
  funext y
  unfold iblk
  blk_simp
  refine congrArg (V m c main_v23) (funext fun a => Fin.ext ?_)
  match a with
  | ⟨0, _⟩ => blk_simp [idx t]
  | ⟨1, _⟩ => blk_simp [idx t]

theorem whole5 (t : Fin cfg0.N) : iblk m c 5 t = V m c main_v29 := by
  funext y
  unfold iblk
  blk_simp
  refine congrArg (V m c main_v29) (funext fun a => Fin.ext ?_)
  match a with
  | ⟨0, _⟩ => blk_simp [idx t]
  | ⟨1, _⟩ => blk_simp [idx t]

theorem whole6 (t : Fin cfg0.N) : iblk m c 6 t = V m c main_v35 := by
  funext y
  unfold iblk
  blk_simp
  refine congrArg (V m c main_v35) (funext fun a => Fin.ext ?_)
  match a with
  | ⟨0, _⟩ => blk_simp [idx t]
  | ⟨1, _⟩ => blk_simp [idx t]

theorem whole7 (t : Fin cfg0.N) : iblk m c 7 t = V m c main_v41 := by
  funext y
  unfold iblk
  blk_simp
  refine congrArg (V m c main_v41) (funext fun a => Fin.ext ?_)
  match a with
  | ⟨0, _⟩ => blk_simp [idx t]
  | ⟨1, _⟩ => blk_simp [idx t]

theorem whole8 (t : Fin cfg0.N) : iblk m c 8 t = V m c main_arg1 := by
  funext y
  unfold iblk
  blk_simp
  refine congrArg (V m c main_arg1) (funext fun a => Fin.ext ?_)
  match a with
  | ⟨0, _⟩ => blk_simp [idx t]
  | ⟨1, _⟩ => blk_simp [idx t]

theorem whole9 (t : Fin cfg0.N) : iblk m c 9 t = V m c main_v46 := by
  funext y
  unfold iblk
  blk_simp
  refine congrArg (V m c main_v46) (funext fun a => Fin.ext ?_)
  match a with
  | ⟨0, _⟩ => blk_simp [idx t]
  | ⟨1, _⟩ => blk_simp [idx t]

/-- The scaled sum of products, at an index of the two projections' columns. -/
theorem pay2_at (i : S96x28672.Idx) :
    k0_pay2 (F := Idealize.ShloMosaic.Ideal) (V m c main_v42) (V m c main_v23) (V m c main_v43) (V m c main_v29) (V m c main_v44) (V m c main_v35) (V m c main_v45)
        (V m c main_v41) (V m c main_arg1) (V m c main_v46) i
      = linearAt 1024 (m ((c : Thread nD τ).loc main_arg0)) (m ((c : Thread nD τ).loc main_arg1)) (m ((c : Thread nD τ).loc main_arg2))
          (m ((c : Thread nD τ).loc main_arg3)) (m ((c : Thread nD τ).loc main_arg4)) (i 0).val (i 1).val := by
  rw [← reference_at (B := 96) (N := 28672) (Q := 256) (G := 1024) plain (by decide) (m ((c : Thread nD τ).loc main_arg0))
    (m ((c : Thread nD τ).loc main_arg1)) (m ((c : Thread nD τ).loc main_arg2)) (m ((c : Thread nD τ).loc main_arg3))
    (m ((c : Thread nD τ).loc main_arg4)) (V m c main_v42) (V m c main_v43) (V m c main_v44) (V m c main_v45) (V m c main_v46)
    (by rw [entry_v42]; exact strided_at (α := EReal) 0 (j := 0) _ _) (by rw [entry_v43]; exact strided_at (α := EReal) 0 (j := 1) _ _)
    (by rw [entry_v44]; exact strided_at (α := EReal) 0 (j := 2) _ _) (by rw [entry_v45]; exact strided_at (α := EReal) 0 (j := 3) _ _)
    (by rw [entry_v46]; exact reshaped_at (α := EReal) 0 _ _) shapeCasts_S96x1024_S96x1024 shapeCasts_S28672x1024_S28672x1024 i]
  rw [entry_v23, entry_v29, entry_v35, entry_v41, V_main_arg1]
  unfold k0_pay2
  dsimp only
  have e1 : broadcastTo S96x28672 (m ((c : Thread nD τ).loc main_arg1)) broadcasts_S96x1_S96x28672 i
      = natAt (α := EReal) 0 (m ((c : Thread nD τ).loc main_arg1)) (i 0).val 0 :=
    (broadcastTo_apply _ _ i (ValueIdx.ix2 (i 0) (0 : Fin 1)) (by intro a; match a with | ⟨0, _⟩ => rfl | ⟨1, _⟩ => rfl)).trans
      (natAt_of (α := EReal) 0 _ _ _ _ rfl rfl).symm
  have e2 : broadcastTo S96x28672 (shapeCast S1x28672 (V m c main_v46) shapeCasts_S1x28672_S1x28672) broadcasts_S1x28672_S96x28672 i
      = natAt (α := EReal) 0 (V m c main_v46) 0 (i 1).val := by
    refine (broadcastTo_apply _ _ i (ValueIdx.ix2 (0 : Fin 1) (i 1)) (by intro a; match a with | ⟨0, _⟩ => rfl | ⟨1, _⟩ => rfl)).trans ?_
    exact (congrFun (shapeCast_self _ _) _).trans (natAt_of (α := EReal) 0 _ _ _ _ rfl rfl).symm
  rw [← e1, ← e2]
  rfl

/-- The reference's result as a function of the arguments. -/
def RESULT (a : Vec Idealize.ShloMosaic.Ideal S96x4096 .fp8e4m3) (sa : Vec Idealize.ShloMosaic.Ideal S96x1 .f32) (v : Vec Idealize.ShloMosaic.Ideal S28672x2048 .i8)
    (mt : Vec Idealize.ShloMosaic.Ideal S28672x256 .i16) (sc : Vec Idealize.ShloMosaic.Ideal S28672 .f32) (y : S96x14336.Idx) : EReal :=
  gated (linearAt 1024 a sa v mt sc (y 0).val (y 1).val) (linearAt 1024 a sa v mt sc (y 0).val (14336 + (y 1).val))

/-- The kernel's one store, at an index. -/
theorem stored (x0 x1 x2 x3 : Vec Idealize.ShloMosaic.Ideal S96x1024 .fp8e4m3) (x4 x5 x6 x7 : Vec Idealize.ShloMosaic.Ideal S28672x1024 .i8)
    (x8 : Vec Idealize.ShloMosaic.Ideal S96x1 .f32) (x9 : Vec Idealize.ShloMosaic.Ideal S1x28672 .f32) (y : S96x14336.Idx) :
    out0_10 x0 x1 x2 x3 x4 x5 x6 x7 x8 x9 y
      = gated (k0_pay2 x0 x4 x1 x5 x2 x6 x3 x7 x8 x9 (ix10_0 y)) (k0_pay2 x0 x4 x1 x5 x2 x6 x3 x7 x8 x9 (ix10_2 y)) := by
  have hA : ∀ x : Vec Idealize.ShloMosaic.Ideal S96x1024 .fp8e4m3, View.ld x r0_0 = x := fun x => View.ld_unit_lit _ x (by decide)
  have hB : ∀ x : Vec Idealize.ShloMosaic.Ideal S28672x1024 .i8, View.ld x r0_1 = x := fun x => View.ld_unit_lit _ x (by decide)
  have hC : View.ld x8 r0_2 = x8 := View.ld_unit_lit _ x8 (by decide)
  have hD : View.ld x9 r0_3 = x9 := View.ld_unit_lit _ x9 (by decide)
  unfold out0_10
  rw [canon10_eq, hA x0, hA x1, hA x2, hA x3, hB x4, hB x5, hB x6, hB x7, hC, hD]
  rfl

theorem final :
    (dats m 0 c).arrAt 10 cfg0.N = RESULT (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10, whole0, whole1, whole2, whole3, whole4, whole5, whole6, whole7, whole8, whole9]
  refine (stored _ _ _ _ _ _ _ _ _ _ y).trans ?_
  rw [pay2_at, pay2_at]
  have e0 : (((win0_10.blk t).view.emb y) 0).val = (y 0).val := by blk_simp [idx t]
  have e1 : (((win0_10.blk t).view.emb y) 1).val = (y 1).val := by blk_simp [idx t]
  show _ = gated (linearAt 1024 _ _ _ _ _ (((win0_10.blk t).view.emb y) 0).val (((win0_10.blk t).view.emb y) 1).val)
    (linearAt 1024 _ _ _ _ _ (((win0_10.blk t).view.emb y) 0).val (14336 + (((win0_10.blk t).view.emb y) 1).val))
  rw [e0, e1, Nat.add_comm 14336]

end Cert.GateUpReferenceIdeal.Value

end
-- ==== Proof.LinearKit.lean ====
/-
  One scaled product of expanded weights, for any of the linear calls: what a rectangle of a whole buffer loads, what a
  trip's scaled product is at an index, and how a block's product becomes a product over the whole arrays.
-/
module

public import proofs.«01_k».proof.Proof.Expand
public import proofs.«01_k».proof.Proof.ExpandNat
public import Idealize.ShloMosaic.Lib.Pipeline.ValueKit

@[expose] public section

set_option maxRecDepth 65536

noncomputable section

namespace Cert.Expand

open Idealize.ShloMosaic Idealize.ShloMosaic.TcCoe Idealize.ShloMosaic.Tactic

/-- A rectangle loaded from a whole buffer, at an index of the rectangle. -/
theorem read_at {F : FTy → Type} [FloatOps F] {sig : RefSig} {A B a b : Nat} {ty : EltTy}
    (arg : Memref sig .tc .vmem (⟨2, ![A, B]⟩ : Shape) ty) (harg : arg.IsWhole) (x : Vec F ⟨2, ![A, B]⟩ ty) (d : Elt F ty)
    (off : Fin 2 → Nat) (inb : ∀ k, off k + (⟨2, ![a, b]⟩ : Shape).size k ≤ (⟨2, ![A, B]⟩ : Shape).size k)
    (p : Fin a) (l : Fin b) (i j : Nat) (hi : off 0 + p.val = i) (hj : off 1 + l.val = j) :
    View.readAt (Elt F) arg.view (Rect.unit (s := ⟨2, ![A, B]⟩) off (⟨2, ![a, b]⟩ : Shape).size inb).toLoadRect (harg.unread x)
        (ValueIdx.ix2 p l) = natAt (α := Elt F ty) d x i j := by
  rw [View.readAt_eq_ld, harg.read_unread]
  refine (natAt_of (α := Elt F ty) d x _ _ _ ?_ ?_).symm
  · show off 0 + 1 * p.val = _; omega
  · show off 1 + 1 * l.val = _; omega

/-- A product scaled by its row and its column. -/
def scaled {F : FTy → Type} [FloatOps F] (h₁ : (⟨2, ![96, 1]⟩ : Shape).Broadcasts ⟨2, ![96, 256]⟩)
    (h₂ : (⟨2, ![1, 256]⟩ : Shape).ShapeCasts ⟨2, ![1, 256]⟩) (h₃ : (⟨2, ![1, 256]⟩ : Shape).Broadcasts ⟨2, ![96, 256]⟩)
    (d : FVec F ⟨2, ![96, 256]⟩ .f32) (sa : FVec F ⟨2, ![96, 1]⟩ .f32) (sc : FVec F ⟨2, ![1, 256]⟩ .f32) : FVec F ⟨2, ![96, 256]⟩ .f32 :=
  mulf (mulf d (broadcastTo ⟨2, ![96, 256]⟩ sa h₁)) (broadcastTo ⟨2, ![96, 256]⟩ (shapeCast ⟨2, ![1, 256]⟩ sc h₂) h₃)

theorem scaled_ix (h₁ : (⟨2, ![96, 1]⟩ : Shape).Broadcasts ⟨2, ![96, 256]⟩)
    (h₂ : (⟨2, ![1, 256]⟩ : Shape).ShapeCasts ⟨2, ![1, 256]⟩) (h₃ : (⟨2, ![1, 256]⟩ : Shape).Broadcasts ⟨2, ![96, 256]⟩)
    (d : FVec Ideal ⟨2, ![96, 256]⟩ .f32) (sa : FVec Ideal ⟨2, ![96, 1]⟩ .f32) (sc : FVec Ideal ⟨2, ![1, 256]⟩ .f32) (r : Fin 96) (c : Fin 256) :
    scaled h₁ h₂ h₃ d sa sc (ValueIdx.ix2 r c)
      = (d (ValueIdx.ix2 r c) * sa (ValueIdx.ix2 r (0 : Fin 1)) * sc (ValueIdx.ix2 (0 : Fin 1) c) : EReal) := by
  unfold scaled
  rw [shapeCast_self]
  show (d (ValueIdx.ix2 r c) * broadcastTo ⟨2, ![96, 256]⟩ sa _ (ValueIdx.ix2 r c) * broadcastTo ⟨2, ![96, 256]⟩ sc _ (ValueIdx.ix2 r c) : EReal) = _
  rw [broadcastTo_apply sa _ _ (ValueIdx.ix2 r (0 : Fin 1)) (by intro a; match a with | ⟨0, _⟩ => rfl | ⟨1, _⟩ => rfl),
    broadcastTo_apply sc _ _ (ValueIdx.ix2 (0 : Fin 1) c) (by intro a; match a with | ⟨0, _⟩ => rfl | ⟨1, _⟩ => rfl)]

/-- Every group of every row of a metadata array is valid, for `R` rows of `G` groups. -/
def MetaValid {R Q : Nat} (G : Nat) (m : (⟨2, ![R, Q]⟩ : Shape).Idx → BitVec 16) : Prop :=
  ∀ c g : Nat, c < R → g < G → Valid (natAt 0#16 m c) g

/-- A scaled product of a point's blocks: the activations stored plane by plane, `G` groups each. -/
def blockLinear {K T K2 K16 : Nat} (G : Nat) (a : (⟨2, ![96, K]⟩ : Shape).Idx → EReal) (sa : (⟨2, ![96, 1]⟩ : Shape).Idx → EReal)
    (v : (⟨2, ![T, K2]⟩ : Shape).Idx → BitVec 8) (m : (⟨2, ![T, K16]⟩ : Shape).Idx → BitVec 16)
    (sc : (⟨2, ![1, T]⟩ : Shape).Idx → EReal) (r c : Nat) : EReal :=
  proj G (fun j r g => natAt 0 a r (G * j + g)) (natAt 0#8 v) (natAt 0#16 m) (natAt 0 sa · 0) (natAt 0 sc 0) r c

/-- A trip's scaled product, from what its tiles load: the block's product, `b` columns on. -/
theorem scaled_trip {K T K2 K16 N : Nat} (a : (⟨2, ![96, K]⟩ : Shape).Idx → EReal) (sa : (⟨2, ![96, 1]⟩ : Shape).Idx → EReal)
    (v : (⟨2, ![T, K2]⟩ : Shape).Idx → BitVec 8) (m : (⟨2, ![T, K16]⟩ : Shape).Idx → BitVec 16) (sc : (⟨2, ![1, T]⟩ : Shape).Idx → EReal)
    (h₁ : (⟨2, ![96, 1]⟩ : Shape).Broadcasts ⟨2, ![96, 256]⟩)
    (h₂ : (⟨2, ![1, 256]⟩ : Shape).ShapeCasts ⟨2, ![1, 256]⟩) (h₃ : (⟨2, ![1, 256]⟩ : Shape).Broadcasts ⟨2, ![96, 256]⟩)
    {LA : Nat → Nat → FVec Ideal S96x256 .fp8e4m3} {LV : Nat → Fin 8 → IVec S32x128 8} {LM : Nat → Fin 8 → IVec S32x128 16}
    {LR : FVec Ideal ⟨2, ![96, 1]⟩ .f32} {LS : FVec Ideal ⟨2, ![1, 256]⟩ .f32} (b : Nat) (hb : b + 256 ≤ T)
    (hm : MetaValid (256 * (N + 1)) m)
    (hA : ∀ (j : Fin 4) (n : Nat) (r : Fin 96) (q : Fin 256), n ≤ N →
      LA j.val n (ValueIdx.ix2 r q) = natAt (α := EReal) 0 a r.val (256 * (N + 1) * j.val + (256 * n + q.val)))
    (hV : ∀ (ct : Nat) (rg : Fin 8) (p : Fin 32) (l : Fin 128), ct < 4 * (N + 1) →
      LV ct rg (ValueIdx.ix2 p l) = natAt 0#8 v (b + (32 * rg.val + p.val)) (128 * ct + l.val))
    (hM : ∀ (mt : Nat) (rg : Fin 8) (p : Fin 32) (l : Fin 128), mt ≤ N / 2 →
      LM mt rg (ValueIdx.ix2 p l) = natAt 0#16 m (b + (32 * rg.val + p.val)) (128 * mt + l.val))
    (hR : ∀ r : Fin 96, LR (ValueIdx.ix2 r (0 : Fin 1)) = natAt (α := EReal) 0 sa r.val 0)
    (hS : ∀ c : Fin 256, LS (ValueIdx.ix2 (0 : Fin 1) c) = natAt (α := EReal) 0 sc 0 (b + c.val)) (r : Fin 96) (c : Fin 256) :
    scaled (F := Ideal) h₁ h₂ h₃ (expandDot LA LV LM N) LR LS (ValueIdx.ix2 r c)
      = blockLinear (256 * (N + 1)) a sa v m sc r.val (b + c.val) := by
  refine (scaled_ix _ _ _ _ _ _ _ _).trans ?_
  rw [expandDot_eq (A := fun j r g => natAt (α := EReal) 0 a r (256 * (N + 1) * j + g)) (V := fun c x => natAt 0#8 v (b + c) x)
    (M := fun c x => natAt 0#16 m (b + c) x) (N := N) ⟨hV, hM, fun c g hc hg => hm _ _ (by omega) hg⟩ hA r c, hR, hS]
  rfl

/-- A store of 256 columns at column `b` of the block is that part of the function it computes. -/
theorem piece_block {T b : Nat} (G : Nat → Nat → EReal) (off : Fin 2 → Nat)
    (inb : ∀ k, off k + (⟨2, ![96, 256]⟩ : Shape).size k ≤ (⟨2, ![96, T]⟩ : Shape).size k) (h0 : off 0 = 0) (h1 : off 1 = b)
    (P : (⟨2, ![96, 256]⟩ : Shape).Idx → EReal) (hP : ∀ (r : Fin 96) (l : Fin 256), P (ValueIdx.ix2 r l) = G r.val (b + l.val))
    (x : (⟨2, ![96, 256]⟩ : Shape).Idx) :
    P x = G (((Rect.unit (s := ⟨2, ![96, T]⟩) off (⟨2, ![96, 256]⟩ : Shape).size inb).emb x) 0).val
      (((Rect.unit (s := ⟨2, ![96, T]⟩) off (⟨2, ![96, 256]⟩ : Shape).size inb).emb x) 1).val := by
  have e0 : (((Rect.unit (s := ⟨2, ![96, T]⟩) off (⟨2, ![96, 256]⟩ : Shape).size inb).emb x) 0).val = (x 0).val := by
    show off 0 + 1 * (x 0).val = _; omega
  have e1 : (((Rect.unit (s := ⟨2, ![96, T]⟩) off (⟨2, ![96, 256]⟩ : Shape).size inb).emb x) 1).val = b + (x 1).val := by
    show off 1 + 1 * (x 1).val = _; omega
  rw [e0, e1]
  exact (congrArg P (ValueIdx.eq_ix2 x)).trans (hP (x 0) (x 1))

/-- A block's product is the whole arrays' product, where the blocks hold the arrays' rows. -/
theorem blockLinear_at {K K' T R K2 K16 G : Nat} {a : (⟨2, ![96, K]⟩ : Shape).Idx → EReal} {sa : (⟨2, ![96, 1]⟩ : Shape).Idx → EReal}
    {v : (⟨2, ![T, K2]⟩ : Shape).Idx → BitVec 8} {m : (⟨2, ![T, K16]⟩ : Shape).Idx → BitVec 16} {sc : (⟨2, ![1, T]⟩ : Shape).Idx → EReal}
    {A : (⟨2, ![96, K']⟩ : Shape).Idx → EReal} {SA : (⟨2, ![96, 1]⟩ : Shape).Idx → EReal}
    {W : (⟨2, ![R, K2]⟩ : Shape).Idx → BitVec 8} {M : (⟨2, ![R, K16]⟩ : Shape).Idx → BitVec 16} {SC : (⟨1, ![R]⟩ : Shape).Idx → EReal}
    {r q c : Nat} (hA : ∀ j g, j < 4 → g < G → natAt 0 a r (G * j + g) = natAt 0 A r (4 * g + j))
    (hR : natAt 0 sa r 0 = natAt 0 SA r 0) (hV : ∀ x, x < 2 * G → natAt 0#8 v q x = natAt 0#8 W c x)
    (hM : ∀ x, x < (G + 3) / 4 → natAt 0#16 m q x = natAt 0#16 M c x) (hS : natAt 0 sc 0 q = natVec 0 SC c) :
    blockLinear G a sa v m sc r q = linearAt G A SA W M SC r c := by
  unfold blockLinear linearAt proj
  show _ * natAt 0 sa r 0 * natAt 0 sc 0 q = _ * natAt 0 SA r 0 * natVec 0 SC c
  rw [hR, hS]
  exact congrArg (fun z : EReal => z * _ * _) (dotSum_congr G hA hV hM)

/-- Validity of a row's group depends on its one word. -/
theorem valid_congr {M M' : Nat → BitVec 16} {g : Nat} (h : M (g / 4) = M' (g / 4)) (hv : Valid M' g) : Valid M g := by
  unfold Valid at hv ⊢; rw [h]; exact hv

end Cert.Expand

end
-- ==== Proof.QkvTrip.lean ====
/-
  One loop trip of the qkv kernel: its loads, named by tile number, and the block it writes as a scaled expansion.
-/
module

public import proofs.«01_k».proof.Proof.LinearKit
public import proofs.«01_k».proof.Proof.Gen.QkvIdeal.Value

@[expose] public section

set_option maxRecDepth 65536

noncomputable section

namespace Cert.QkvIdeal.Gen

open Idealize.ShloMosaic Idealize.ShloMosaic.TcCoe Idealize.ShloMosaic.Tactic
open Cert.Expand

/-- Where the bytes of column tile `ct` are loaded. -/
def offV (k : Fin k0_t1_loop.trips) (ct : Nat) (b : BitVec 32) : Fin 2 → Nat :=
  match ct with
  | 0 => k0_off2 k b | 1 => k0_off3 k b | 2 => k0_off4 k b | 3 => k0_off5 k b
  | 4 => k0_off6 k b | 5 => k0_off7 k b | 6 => k0_off8 k b | 7 => k0_off9 k b
  | 8 => k0_off11 k b | 9 => k0_off12 k b | 10 => k0_off13 k b | 11 => k0_off14 k b
  | 12 => k0_off15 k b | 13 => k0_off16 k b | 14 => k0_off17 k b | _ => k0_off18 k b

theorem offV_inb (k : Fin k0_t1_loop.trips) (ct : Nat) (r : Fin 8) :
    ∀ a, (offV k ct (BitVec.ofNat 32 (32 * r.val))) a + S32x128.size a ≤ S1024x2048.size a := by
  unfold offV
  split
  exacts [k0_off2_inb k r, k0_off3_inb k r, k0_off4_inb k r, k0_off5_inb k r, k0_off6_inb k r, k0_off7_inb k r,
    k0_off8_inb k r, k0_off9_inb k r, k0_off11_inb k r, k0_off12_inb k r, k0_off13_inb k r, k0_off14_inb k r,
    k0_off15_inb k r, k0_off16_inb k r, k0_off17_inb k r, k0_off18_inb k r]

/-- Where the metadata of column tile `mt` is loaded. -/
def offM (k : Fin k0_t1_loop.trips) (mt : Nat) (b : BitVec 32) : Fin 2 → Nat :=
  match mt with
  | 0 => k0_off1 k b | _ => k0_off10 k b

theorem offM_inb (k : Fin k0_t1_loop.trips) (mt : Nat) (r : Fin 8) :
    ∀ a, (offM k mt (BitVec.ofNat 32 (32 * r.val))) a + S32x128.size a ≤ S1024x256.size a := by
  unfold offM
  split
  exacts [k0_off1_inb k r, k0_off10_inb k r]

theorem offA_inb (j n : Nat) : ∀ a, (![0, j % 4 * 1024 + n % 4 * 256] : Fin 2 → Nat) a + S96x256.size a ≤ S96x4096.size a := by
  intro a
  match a with
  | ⟨0, _⟩ => exact Nat.le_refl 96
  | ⟨1, _⟩ => show j % 4 * 1024 + n % 4 * 256 + 256 ≤ 4096; omega

variable {F : FTy → Type} [FloatOps F]

/-- The tiles of bytes, metadata, activations and scales that trip `k` loads. -/
def ldV (arg : Memref sig .tc .vmem S1024x2048 .i8) (X : BufTy.Contents (Elt F) arg.view.ty) (k : Fin k0_t1_loop.trips)
    (ct : Nat) (rg : Fin 8) : IVec S32x128 8 :=
  View.readAt (Elt F) arg.view (Rect.unit (s := S1024x2048) (offV k ct (BitVec.ofNat 32 (32 * rg.val))) S32x128.size (offV_inb k ct rg)).toLoadRect X

def ldM (arg : Memref sig .tc .vmem S1024x256 .i16) (X : BufTy.Contents (Elt F) arg.view.ty) (k : Fin k0_t1_loop.trips)
    (mt : Nat) (rg : Fin 8) : IVec S32x128 16 :=
  View.readAt (Elt F) arg.view (Rect.unit (s := S1024x256) (offM k mt (BitVec.ofNat 32 (32 * rg.val))) S32x128.size (offM_inb k mt rg)).toLoadRect X

def ldA (arg : Memref sig .tc .vmem S96x4096 .fp8e4m3) (X : BufTy.Contents (Elt F) arg.view.ty) (j n : Nat) :
    FVec F S96x256 .fp8e4m3 :=
  View.readAt (Elt F) arg.view (Rect.unit (s := S96x4096) ![0, j % 4 * 1024 + n % 4 * 256] S96x256.size (offA_inb j n)).toLoadRect X

def ldS (arg : Memref sig .tc .vmem S1x1024 .f32) (X : BufTy.Contents (Elt F) arg.view.ty) (k : Fin k0_t1_loop.trips) : FVec F S1x256 .f32 :=
  View.readAt (Elt F) arg.view (Rect.unit (s := S1x1024) (k0_off19 k) S1x256.size (k0_off19_inb k)).toLoadRect X

def ldR (arg : Memref sig .tc .vmem S96x1 .f32) (X : BufTy.Contents (Elt F) arg.view.ty) : FVec F S96x1 .f32 :=
  View.readAt (Elt F) arg.view (Rect.unit (s := S96x1) ![0, 0] S96x1.size inb_S96x1_S96x1_0_0).toLoadRect X

/-- The trip's product, scaled by its rows and columns. -/
def product (arg1 : Memref sig .tc .vmem S96x4096 .fp8e4m3) (arg2 : Memref sig .tc .vmem S96x1 .f32) (arg3 : Memref sig .tc .vmem S1024x2048 .i8)
    (arg4 : Memref sig .tc .vmem S1024x256 .i16) (arg5 : Memref sig .tc .vmem S1x1024 .f32) (X_arg1 : BufTy.Contents (Elt F) arg1.view.ty)
    (X_arg2 : BufTy.Contents (Elt F) arg2.view.ty) (X_arg3 : BufTy.Contents (Elt F) arg3.view.ty) (X_arg4 : BufTy.Contents (Elt F) arg4.view.ty)
    (X_arg5 : BufTy.Contents (Elt F) arg5.view.ty) (k : Fin k0_t1_loop.trips) : FVec F S96x256 .f32 :=
  scaled broadcasts_S96x1_S96x256 shapeCasts_S1x256_S1x256 broadcasts_S1x256_S96x256
    (expandDot (ldA arg1 X_arg1) (ldV arg3 X_arg3 k) (ldM arg4 X_arg4 k) 3) (ldR arg2 X_arg2) (ldS arg5 X_arg5 k)

theorem trip_pieces (𝒱 : Variants) (c : Dev nD) (bd : Option 𝒱.V) (i : grid0.Coords) (arg1 : Memref sig .tc .vmem S96x4096 .fp8e4m3) (harg1 : arg1.IsWhole) (arg2 : Memref sig .tc .vmem S96x1 .f32) (harg2 : arg2.IsWhole) (arg3 : Memref sig .tc .vmem S1024x2048 .i8) (harg3 : arg3.IsWhole) (arg4 : Memref sig .tc .vmem S1024x256 .i16) (harg4 : arg4.IsWhole) (arg5 : Memref sig .tc .vmem S1x1024 .f32) (harg5 : arg5.IsWhole) (arg6 : Memref sig .tc .vmem S96x1024 .f32) (harg6 : arg6.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) :
    (trip_k0_t1 (F := F) 𝒱 c bd i arg1 harg1 arg2 harg2 arg3 harg3 arg4 harg4 arg5 harg5 arg6 harg6 X_arg1 X_arg2 X_arg3 X_arg4 X_arg5 k).1
      = [⟨Rect.unit (s := S96x1024) (k0_off20 k) S96x256.size (k0_off20_inb k), product arg1 arg2 arg3 arg4 arg5 X_arg1 X_arg2 X_arg3 X_arg4 X_arg5 k⟩] := by
  unfold trip_k0_t1
  rfl

end Cert.QkvIdeal.Gen

end
-- ==== Proof.QkvBlock.lean ====
/-
  What one grid point of the qkv kernel leaves in its output block, as a function of its input blocks.
-/
module

public import proofs.«01_k».proof.Proof.QkvTrip

@[expose] public section

set_option maxRecDepth 65536

noncomputable section

namespace Cert.QkvIdeal.Gen

open Idealize.ShloMosaic Idealize.ShloMosaic.TcCoe Idealize.ShloMosaic.Tactic
open Cert.Expand

theorem offV_eq : ∀ (k : Fin k0_t1_loop.trips) (ct : Fin 16) (rg : Fin 8) (a : Fin 2),
    offV k ct.val (BitVec.ofNat 32 (32 * rg.val)) a = (![256 * k.val + 32 * rg.val, 128 * ct.val] : Fin 2 → Nat) a := by
  decide +kernel

theorem offM_eq : ∀ (k : Fin k0_t1_loop.trips) (mt : Fin 2) (rg : Fin 8) (a : Fin 2),
    offM k mt.val (BitVec.ofNat 32 (32 * rg.val)) a = (![256 * k.val + 32 * rg.val, 128 * mt.val] : Fin 2 → Nat) a := by
  decide +kernel

theorem off19_eq : ∀ (k : Fin k0_t1_loop.trips) (a : Fin 2), k0_off19 k a = (![0, 256 * k.val] : Fin 2 → Nat) a := by
  decide +kernel

theorem off20_eq : ∀ (k : Fin k0_t1_loop.trips) (a : Fin 2), k0_off20 k a = (![0, 256 * k.val] : Fin 2 → Nat) a := by
  decide +kernel

theorem trips_eq : k0_t1_loop.trips = 4 := by decide +kernel

/-- The trip's product, at an index of its tile. -/
theorem product_trip (k : Fin k0_t1_loop.trips) (arg1 : Memref sig .tc .vmem S96x4096 .fp8e4m3) (harg1 : arg1.IsWhole)
    (arg2 : Memref sig .tc .vmem S96x1 .f32) (harg2 : arg2.IsWhole) (arg3 : Memref sig .tc .vmem S1024x2048 .i8) (harg3 : arg3.IsWhole)
    (arg4 : Memref sig .tc .vmem S1024x256 .i16) (harg4 : arg4.IsWhole) (arg5 : Memref sig .tc .vmem S1x1024 .f32) (harg5 : arg5.IsWhole)
    (x0 : Vec Ideal S96x4096 .fp8e4m3) (x1 : Vec Ideal S96x1 .f32) (x2 : Vec Ideal S1024x2048 .i8) (x3 : Vec Ideal S1024x256 .i16)
    (x4 : Vec Ideal S1x1024 .f32) (hm : MetaValid 1024 x3) (r : Fin 96) (c : Fin 256) :
    product (F := Ideal) arg1 arg2 arg3 arg4 arg5 (harg1.unread x0) (harg2.unread x1) (harg3.unread x2) (harg4.unread x3) (harg5.unread x4) k
        (ValueIdx.ix2 r c) = blockLinear 1024 x0 x1 x2 x3 x4 r.val (256 * k.val + c.val) := by
  have hk : k.val < 4 := trips_eq ▸ k.isLt
  refine scaled_trip (N := 3) x0 x1 x2 x3 x4 _ _ _ (256 * k.val) (by omega) hm ?_ ?_ ?_ ?_ ?_ r c
  · exact fun j n r q hn => read_at arg1 harg1 x0 (0 : EReal) _ (offA_inb j.val n) r q _ _ (Nat.zero_add _)
      (by show j.val % 4 * 1024 + n % 4 * 256 + q.val = _; omega)
  · exact fun ct rg p l h => read_at arg3 harg3 x2 (0#8 : BitVec 8) _ (offV_inb k ct rg) p l _ _
      (by rw [offV_eq k ⟨ct, h⟩ rg 0]; show 256 * k.val + 32 * rg.val + p.val = _; omega) (by rw [offV_eq k ⟨ct, h⟩ rg 1]; rfl)
  · exact fun mt rg p l h => read_at arg4 harg4 x3 (0#16 : BitVec 16) _ (offM_inb k mt rg) p l _ _
      (by rw [offM_eq k ⟨mt, by omega⟩ rg 0]; show 256 * k.val + 32 * rg.val + p.val = _; omega)
      (by rw [offM_eq k ⟨mt, by omega⟩ rg 1]; rfl)
  · exact fun r => read_at arg2 harg2 x1 (0 : EReal) _ inb_S96x1_S96x1_0_0 r (0 : Fin 1) _ _ (Nat.zero_add _) rfl
  · exact fun c => read_at arg5 harg5 x4 (0 : EReal) _ (k0_off19_inb k) (0 : Fin 1) c _ _ (by rw [off19_eq]; rfl) (by rw [off19_eq]; rfl)

/-- What a grid point leaves in its block. -/
def blockG (x0 : Vec Ideal S96x4096 .fp8e4m3) (x1 : Vec Ideal S96x1 .f32) (x2 : Vec Ideal S1024x2048 .i8) (x3 : Vec Ideal S1024x256 .i16)
    (x4 : Vec Ideal S1x1024 .f32) (y : S96x1024.Idx) : EReal :=
  blockLinear 1024 x0 x1 x2 x3 x4 (y 0).val (y 1).val

theorem out_block (c : Dev nD) (i : grid0.Coords) (arg1 : Memref sig .tc .vmem S96x4096 .fp8e4m3) (harg1 : arg1.IsWhole) (arg2 : Memref sig .tc .vmem S96x1 .f32) (harg2 : arg2.IsWhole) (arg3 : Memref sig .tc .vmem S1024x2048 .i8) (harg3 : arg3.IsWhole) (arg4 : Memref sig .tc .vmem S1024x256 .i16) (harg4 : arg4.IsWhole) (arg5 : Memref sig .tc .vmem S1x1024 .f32) (harg5 : arg5.IsWhole) (arg6 : Memref sig .tc .vmem S96x1024 .f32) (harg6 : arg6.IsWhole)
    (x0 : Vec Ideal S96x4096 .fp8e4m3) (x1 : Vec Ideal S96x1 .f32) (x2 : Vec Ideal S1024x2048 .i8) (x3 : Vec Ideal S1024x256 .i16) (x4 : Vec Ideal S1x1024 .f32) (h3 : MetaValid 1024 x3) :
    out0_A_5 (F := Ideal) c i arg1 harg1 arg2 harg2 arg3 harg3 arg4 harg4 arg5 harg5 arg6 harg6 x0 x1 x2 x3 x4 = blockG x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces _ _ ?_ y (cover0_A_5 c i arg1 harg1 arg2 harg2 arg3 harg3 arg4 harg4 arg5 harg5 arg6 harg6 x0 x1 x2 x3 x4 y)
  unfold kernelRun0_A
  dsimp only
  have key : ∀ n : Nat, n ≤ k0_t1_loop.trips → ∀ p ∈ pb_k0_t1 (F := Ideal) Variants.none c none i arg1 harg1 arg2 harg2 arg3 harg3 arg4 harg4 arg5 harg5 arg6 harg6
      (harg1.unread x0) (harg2.unread x1) (harg3.unread x2) (harg4.unread x3) (harg5.unread x4) n,
      ∀ x : p.1.shape.Idx, p.2 x = blockG x0 x1 x2 x3 x4 (p.1.emb x) := by
    intro n
    induction n with
    | zero => intro _ p hp; rw [pb_k0_t1.eq_1] at hp; exact absurd hp List.not_mem_nil
    | succ n ih =>
      intro hn p hp
      have hs := pb_k0_t1_succ (F := Ideal) Variants.none c none i arg1 harg1 arg2 harg2 arg3 harg3 arg4 harg4 arg5 harg5 arg6 harg6
        (harg1.unread x0) (harg2.unread x1) (harg3.unread x2) (harg4.unread x3) (harg5.unread x4) ⟨n, hn⟩
      rw [show (⟨n, hn⟩ : Fin k0_t1_loop.trips).val + 1 = n + 1 from rfl] at hs
      rw [hs] at hp
      rcases List.mem_append.mp hp with hp | hp
      · rw [tripL_k0_t1, trip_pieces] at hp
        obtain rfl := List.mem_singleton.mp hp
        exact piece_block (T := 1024) (blockLinear 1024 x0 x1 x2 x3 x4) _ (k0_off20_inb ⟨n, hn⟩) (by rw [off20_eq]; rfl) (by rw [off20_eq]; rfl) _
          (product_trip ⟨n, hn⟩ arg1 harg1 arg2 harg2 arg3 harg3 arg4 harg4 arg5 harg5 x0 x1 x2 x3 x4 h3)
      · exact ih (by omega) p hp
  exact key _ (Nat.le_of_eq rfl)

end Cert.QkvIdeal.Gen

end
-- ==== Proof.QkvValue.lean ====
/-
  The qkv kernel's result array as a function of its arguments.
-/
module

public import proofs.«01_k».proof.Proof.QkvBlock
public import Idealize.ShloMosaic.Lib.Pointwise

@[expose] public section

set_option maxRecDepth 65536

noncomputable section

namespace Cert.QkvIdeal.Value

open Cert.QkvIdeal Cert.QkvIdeal.Gen Idealize.ShloMosaic Idealize.ShloMosaic.TcCoe Idealize.SL.Sem
open Idealize.ShloMosaic.Pipeline (Dat)
open Cert.Expand

variable (m : (ℓ : Loc nD τ sig) → Buf (Elt Ideal) ℓ) (c : Dev nD)

/-- Every window's block index. -/
theorem idx : ∀ t : Fin cfg0.N, win0_0.index t = ![0, 0] ∧ win0_1.index t = ![0, 0] ∧ win0_2.index t = ![t.val, 0]
    ∧ win0_3.index t = ![t.val, 0] ∧ win0_4.index t = ![0, t.val] ∧ win0_5.index t = ![0, t.val] :=
  (by decide +kernel : ∀ t : Fin grid0.N, _)

theorem entry_v2 : V m c main_v2 = shapeCast S96x4096 (transpose S96x4x1024 [0, 2, 1] (shapeCast S96x1024x4
    (m ((c : Thread nD τ).loc main_arg0)) shapeCasts_S96x4096_S96x1024x4) transposes_S96x1024x4_S96x4x1024_0_2_1) shapeCasts_S96x4x1024_S96x4096 := by
  entry_read
  try rfl

theorem entry_v3 : V m c main_v3 = shapeCast S1x6144 (m ((c : Thread nD τ).loc main_arg4)) shapeCasts_S6144_S1x6144 := by
  entry_read
  try rfl

/-- The point's blocks, at coordinates of the whole arrays. -/
theorem read0 (t : Fin cfg0.N) (r k : Nat) :
    natAt (α := EReal) 0 (iblk m c 0 t) r k = natAt (α := EReal) 0 (V m c main_v2) r k := by
  refine congrArg (fun x => natAt (α := EReal) 0 x r k) (funext fun y => ?_)
  unfold iblk
  blk_simp
  refine congrArg (V m c main_v2) (funext fun a => Fin.ext ?_)
  match a with
  | ⟨0, _⟩ => blk_simp [idx t]
  | ⟨1, _⟩ => blk_simp [idx t]

theorem read1 (t : Fin cfg0.N) (r : Nat) :
    natAt (α := EReal) 0 (iblk m c 1 t) r 0 = natAt (α := EReal) 0 (m ((c : Thread nD τ).loc main_arg1)) r 0 := by
  refine congrArg (fun x => natAt (α := EReal) 0 x r 0) (funext fun y => ?_)
  unfold iblk
  blk_simp
  rw [V_main_arg1]
  refine congrArg (m ((c : Thread nD τ).loc main_arg1)) (funext fun a => Fin.ext ?_)
  match a with
  | ⟨0, _⟩ => blk_simp [idx t]
  | ⟨1, _⟩ => blk_simp [idx t]

theorem readV (t : Fin cfg0.N) (q x : Nat) (hq : q < 1024) (hx : x < 2048) :
    natAt (α := BitVec 8) 0#8 (iblk m c 2 t) q x = natAt (α := BitVec 8) 0#8 (m ((c : Thread nD τ).loc main_arg2)) (1024 * t.val + q) x := by
  refine natAt_at (α := BitVec 8) 0#8 _ q x _ hq hx fun y h0 h1 => Eq.symm ?_
  unfold iblk
  blk_simp
  rw [V_main_arg2]
  refine natAt_of _ _ _ _ _ ?_ ?_ <;> blk_simp [idx t]
  all_goals omega

theorem readM (t : Fin cfg0.N) (q x : Nat) (hq : q < 1024) (hx : x < 256) :
    natAt (α := BitVec 16) 0#16 (iblk m c 3 t) q x = natAt (α := BitVec 16) 0#16 (m ((c : Thread nD τ).loc main_arg3)) (1024 * t.val + q) x := by
  refine natAt_at (α := BitVec 16) 0#16 _ q x _ hq hx fun y h0 h1 => Eq.symm ?_
  unfold iblk
  blk_simp
  rw [V_main_arg3]
  refine natAt_of _ _ _ _ _ ?_ ?_ <;> blk_simp [idx t]
  all_goals omega

theorem readS (t : Fin cfg0.N) (q : Nat) (hq : q < 1024) :
    natAt (α := EReal) 0 (iblk m c 4 t) 0 q = natVec (α := EReal) 0 (m ((c : Thread nD τ).loc main_arg4)) (1024 * t.val + q) := by
  have ht : t.val < 6 := t.isLt
  refine Eq.trans ?_ (reshaped_at (α := EReal) 0 (m ((c : Thread nD τ).loc main_arg4)) shapeCasts_S6144_S1x6144 _ (by omega))
  rw [← entry_v3 m c]
  refine natAt_at (α := EReal) 0 _ 0 q _ (by decide) hq fun y h0 h1 => Eq.symm ?_
  unfold iblk
  blk_simp
  refine natAt_of _ _ _ _ _ ?_ ?_ <;> blk_simp [idx t]
  all_goals omega

theorem block_valid (hm : MetaValid 1024 (m ((c : Thread nD τ).loc main_arg3))) (t : Fin cfg0.N) :
    MetaValid 1024 (iblk m c 3 t) := by
  have ht : t.val < 6 := t.isLt
  exact fun q g hq hg => valid_congr (readM m c t q (g / 4) hq (by omega)) (hm _ g (by omega) hg)

/-- The result as a function of the arguments. -/
def RESULT (a : Vec Ideal S96x4096 .fp8e4m3) (sa : Vec Ideal S96x1 .f32) (v : Vec Ideal S6144x2048 .i8) (mt : Vec Ideal S6144x256 .i16)
    (sc : Vec Ideal S6144 .f32) (y : S96x6144.Idx) : EReal :=
  linearAt 1024 a sa v mt sc (y 0).val (y 1).val

theorem activations (t : Fin cfg0.N) (j r g : Nat) (hr : r < 96) (hj : j < 4) (hg : g < 1024) :
    natAt (α := EReal) 0 (iblk m c 0 t) r (1024 * j + g) = natAt (α := EReal) 0 (m ((c : Thread nD τ).loc main_arg0)) r (4 * g + j) := by
  rw [read0, entry_v2]
  exact permuted_at (α := EReal) 0 rfl _ _ _ _ r j g hr hj hg

theorem block_linear (t : Fin cfg0.N) (r q : Nat) (hr : r < 96) (hq : q < 1024) :
    blockLinear 1024 (iblk m c 0 t) (iblk m c 1 t) (iblk m c 2 t) (iblk m c 3 t) (iblk m c 4 t) r q
      = linearAt 1024 (m ((c : Thread nD τ).loc main_arg0)) (m ((c : Thread nD τ).loc main_arg1)) (m ((c : Thread nD τ).loc main_arg2))
          (m ((c : Thread nD τ).loc main_arg3)) (m ((c : Thread nD τ).loc main_arg4)) r (1024 * t.val + q) :=
  blockLinear_at (fun j g hj hg => activations m c t j r g hr hj hg) (read1 m c t r) (fun x hx => readV m c t q x hq hx)
    (fun x hx => readM m c t q x hq (by omega)) (readS m c t q hq)

/-- The kernel's result array. -/
theorem final (hm : MetaValid 1024 (m ((c : Thread nD τ).loc main_arg3))) :
    (dats m 0 c).arrAt 5 cfg0.N = RESULT (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  have ht : t.val < 6 := t.isLt
  rw [out_block _ _ _ _ _ _ _ _ _ _ _ _ _ _ _ _ _ _ _ (block_valid m c hm t)]
  have e0 : (((win0_5.blk t).view.emb y) 0).val = (y 0).val := by blk_simp [idx t]
  have e1 : (((win0_5.blk t).view.emb y) 1).val = 1024 * t.val + (y 1).val := by blk_simp [idx t]; omega
  unfold blockG RESULT
  have hr : (y 0).val < 96 := (y 0).isLt
  have hq : (y 1).val < 1024 := (y 1).isLt
  rw [block_linear m c t _ _ hr hq]
  show _ = linearAt 1024 _ _ _ _ _ (((win0_5.blk t).view.emb y) 0).val (((win0_5.blk t).view.emb y) 1).val
  rw [e0, e1]

end Cert.QkvIdeal.Value

end
-- ==== Proof.LinearReference.lean ====
/-
  The plain reading's scaled sum of four products as one array, and its element as the linear map of the whole arrays.
-/
module

public import proofs.«01_k».proof.Proof.Plain

@[expose] public section

noncomputable section

namespace Cert.Expand

open Idealize.ShloMosaic Idealize.ShloMosaic.TcCoe

variable {B N Q G : Nat}

/-- A strided quarter of the activations times a plane of the kept bytes. -/
def planeProduct (ha : (⟨2, ![B, G]⟩ : Shape).ShapeCasts ⟨2, ![B, G]⟩) (hp : (⟨2, ![N, G]⟩ : Shape).ShapeCasts ⟨2, ![N, G]⟩)
    (b : FVec Ideal ⟨2, ![B, G]⟩ .fp8e4m3) (w : IVec ⟨2, ![N, G]⟩ 8) : FVec Ideal ⟨2, ![B, N]⟩ .f32 :=
  matmul (DotDims.transposedRhs B G N) none (shapeCast ⟨2, ![B, G]⟩ b ha) (bitcastToFloat .fp8e4m3 (shapeCast ⟨2, ![N, G]⟩ w hp))
    (constant ⟨2, ![B, N]⟩ .f32 0x00000000#32)

/-- The four products summed and scaled by row and by column. -/
def planesScaled (ha : (⟨2, ![B, G]⟩ : Shape).ShapeCasts ⟨2, ![B, G]⟩) (hp : (⟨2, ![N, G]⟩ : Shape).ShapeCasts ⟨2, ![N, G]⟩)
    (h₁ : (⟨2, ![B, 1]⟩ : Shape).Broadcasts ⟨2, ![B, N]⟩) (h₂ : (⟨2, ![1, N]⟩ : Shape).ShapeCasts ⟨2, ![1, N]⟩)
    (h₃ : (⟨2, ![1, N]⟩ : Shape).Broadcasts ⟨2, ![B, N]⟩) (a0 a1 a2 a3 : FVec Ideal ⟨2, ![B, G]⟩ .fp8e4m3)
    (p0 p1 p2 p3 : IVec ⟨2, ![N, G]⟩ 8) (sa : FVec Ideal ⟨2, ![B, 1]⟩ .f32) (s : FVec Ideal ⟨2, ![1, N]⟩ .f32) : FVec Ideal ⟨2, ![B, N]⟩ .f32 :=
  mulf (mulf (addf (addf (addf (planeProduct ha hp a0 p0) (planeProduct ha hp a1 p1)) (planeProduct ha hp a2 p2)) (planeProduct ha hp a3 p3))
    (broadcastTo ⟨2, ![B, N]⟩ sa h₁)) (broadcastTo ⟨2, ![B, N]⟩ (shapeCast ⟨2, ![1, N]⟩ s h₂) h₃)

/-- Its element, when the operands are the plain reading's. -/
theorem planesScaled_at (P : PlainFacts N Q G) (hb : G < 2 ^ 31) (hB : B ≠ 1) (hN : N ≠ 1)
    (ha : (⟨2, ![B, G]⟩ : Shape).ShapeCasts ⟨2, ![B, G]⟩) (hp : (⟨2, ![N, G]⟩ : Shape).ShapeCasts ⟨2, ![N, G]⟩)
    (h₁ : (⟨2, ![B, 1]⟩ : Shape).Broadcasts ⟨2, ![B, N]⟩) (h₂ : (⟨2, ![1, N]⟩ : Shape).ShapeCasts ⟨2, ![1, N]⟩)
    (h₃ : (⟨2, ![1, N]⟩ : Shape).Broadcasts ⟨2, ![B, N]⟩)
    (a : FVec Ideal ⟨2, ![B, 4 * G]⟩ .fp8e4m3) (sa : FVec Ideal ⟨2, ![B, 1]⟩ .f32)
    (v : IVec ⟨2, ![N, 2 * G]⟩ 8) (x : IVec ⟨2, ![N, Q]⟩ 16) (sc : FVec Ideal ⟨1, ![N]⟩ .f32)
    (a0 a1 a2 a3 : FVec Ideal ⟨2, ![B, G]⟩ .fp8e4m3) (s : FVec Ideal ⟨2, ![1, N]⟩ .f32)
    (h0 : ∀ r g, r < B → g < G → natAt (α := EReal) 0 a0 r g = natAt (α := EReal) 0 a r (4 * g + 0))
    (h1 : ∀ r g, r < B → g < G → natAt (α := EReal) 0 a1 r g = natAt (α := EReal) 0 a r (4 * g + 1))
    (h2 : ∀ r g, r < B → g < G → natAt (α := EReal) 0 a2 r g = natAt (α := EReal) 0 a r (4 * g + 2))
    (h3 : ∀ r g, r < B → g < G → natAt (α := EReal) 0 a3 r g = natAt (α := EReal) 0 a r (4 * g + 3))
    (hs : ∀ c, c < N → natAt (α := EReal) 0 s 0 c = natVec (α := EReal) 0 sc c) (i : (⟨2, ![B, N]⟩ : Shape).Idx) :
    planesScaled ha hp h₁ h₂ h₃ a0 a1 a2 a3 (kept P 0#32 v x) (kept P 1#32 v x) (kept P 2#32 v x) (kept P 3#32 v x) sa s i
      = linearAt G a sa v x sc (i 0).val (i 1).val := by
  rw [← reference_at P hb a sa v x sc a0 a1 a2 a3 s h0 h1 h2 h3 hs ha hp i]
  have e1 : broadcastTo ⟨2, ![B, N]⟩ sa h₁ i = natAt (α := EReal) 0 sa (i 0).val 0 :=
    (broadcastTo_apply _ _ i (ValueIdx.ix2 (i 0) (0 : Fin 1))
      (by intro k; match k with
          | ⟨0, _⟩ => exact (if_neg hB).symm
          | ⟨1, _⟩ => rfl)).trans
      (natAt_of (α := EReal) 0 _ _ _ _ rfl rfl).symm
  have e2 : broadcastTo ⟨2, ![B, N]⟩ (shapeCast ⟨2, ![1, N]⟩ s h₂) h₃ i = natAt (α := EReal) 0 s 0 (i 1).val := by
    refine (broadcastTo_apply _ _ i (ValueIdx.ix2 (0 : Fin 1) (i 1))
      (by intro k; match k with
          | ⟨0, _⟩ => rfl
          | ⟨1, _⟩ => exact (if_neg hN).symm)).trans ?_
    exact (congrFun (shapeCast_self _ _) _).trans (natAt_of (α := EReal) 0 _ _ _ _ rfl rfl).symm
  rw [← e1, ← e2]
  rfl

end Cert.Expand

end
-- ==== Proof.QkvReferenceValue.lean ====
/-
  What the qkv reference leaves in its result: the linear map of the plain reading.
-/
module

public import proofs.«01_k».proof.Proof.LinearReference
public import proofs.«01_k».proof.Proof.Gen.QkvReferenceIdeal.Value
public import Idealize.ShloMosaic.Lib.Claim
public import Idealize.ShloMosaic.Lib.Pipeline.ValueKit

@[expose] public section

noncomputable section

namespace Cert.QkvReferenceIdeal.Value

open Cert.QkvReferenceIdeal Cert.QkvReferenceIdeal.Gen Idealize.ShloMosaic Idealize.ShloMosaic.TcCoe Idealize.SL.Sem
open Idealize.ShloMosaic.Pipeline (Dat)
open Cert.Expand

variable (m : (ℓ : Loc nD τ sig) → Buf (Elt Idealize.ShloMosaic.Ideal) ℓ) (c : Dev nD)

theorem plain : PlainFacts 6144 256 1024 where
  hw := natLt_16_32
  hG := rfl
  rep := bcast_S6144x256_S6144x256x4_0_1
  flat := shapeCasts_S6144x256x4_S6144x1024
  one := bcast_S_S1024
  row := bcast_S1024_S1x1024_1
  rows := bcast_S1x1024_S6144x1024_0_1
  two := bcast_S_S6144x1024
  even := slicesBy_S6144x2048_S6144x1024_0s1_0s2
  odd := slicesBy_S6144x2048_S6144x1024_0s1_1s2

set_option maxHeartbeats 16000000 in
/-- The four planes of kept bytes. -/
theorem entry_planes :
    V m c main_v23 = kept plain 0#32 (m ((c : Thread nD τ).loc main_arg2)) (m ((c : Thread nD τ).loc main_arg3))
    ∧ V m c main_v29 = kept plain 1#32 (m ((c : Thread nD τ).loc main_arg2)) (m ((c : Thread nD τ).loc main_arg3))
    ∧ V m c main_v35 = kept plain 2#32 (m ((c : Thread nD τ).loc main_arg2)) (m ((c : Thread nD τ).loc main_arg3))
    ∧ V m c main_v41 = kept plain 3#32 (m ((c : Thread nD τ).loc main_arg2)) (m ((c : Thread nD τ).loc main_arg3)) := by
  refine ⟨?_, ?_, ?_, ?_⟩
  all_goals
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    entry_read
    rfl

set_option maxHeartbeats 16000000 in
/-- Every fourth column of the activations, and the scales as a row. -/
theorem entry_operands :
    V m c main_v42 = Host.slice S96x1024 ![0, 0] ![1, 4] (m ((c : Thread nD τ).loc main_arg0)) slicesBy_S96x4096_S96x1024_0s1_0s4
    ∧ V m c main_v43 = Host.slice S96x1024 ![0, 1] ![1, 4] (m ((c : Thread nD τ).loc main_arg0)) slicesBy_S96x4096_S96x1024_0s1_1s4
    ∧ V m c main_v44 = Host.slice S96x1024 ![0, 2] ![1, 4] (m ((c : Thread nD τ).loc main_arg0)) slicesBy_S96x4096_S96x1024_0s1_2s4
    ∧ V m c main_v45 = Host.slice S96x1024 ![0, 3] ![1, 4] (m ((c : Thread nD τ).loc main_arg0)) slicesBy_S96x4096_S96x1024_0s1_3s4
    ∧ V m c main_v46 = shapeCast S1x6144 (m ((c : Thread nD τ).loc main_arg4)) shapeCasts_S6144_S1x6144 := by
  refine ⟨?_, ?_, ?_, ?_, ?_⟩
  all_goals
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    entry_read
    try rfl

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] := by
  decide +kernel

set_option maxHeartbeats 4000000 in
/-- Every input block is its whole array. -/
theorem whole (t : Fin cfg0.N) : iblk m c 0 t = V m c main_v42 ∧ iblk m c 1 t = V m c main_v43 ∧ iblk m c 2 t = V m c main_v44
    ∧ iblk m c 3 t = V m c main_v45 ∧ iblk m c 4 t = V m c main_v23 ∧ iblk m c 5 t = V m c main_v29 ∧ iblk m c 6 t = V m c main_v35
    ∧ iblk m c 7 t = V m c main_v41 ∧ iblk m c 8 t = V m c main_arg1 ∧ iblk m c 9 t = V m c main_v46 := by
  refine ⟨?_, ?_, ?_, ?_, ?_, ?_, ?_, ?_, ?_, ?_⟩
  all_goals
    funext y
    unfold iblk
    blk_simp
    refine congrArg (V m c _) (funext fun a => Fin.ext ?_)
    match a with
    | ⟨0, _⟩ => blk_simp [idx t]
    | ⟨1, _⟩ => blk_simp [idx t]

/-- The scaled sum of products, at an index. -/
theorem product_at (i : S96x6144.Idx) :
    planesScaled shapeCasts_S96x1024_S96x1024 shapeCasts_S6144x1024_S6144x1024 broadcasts_S96x1_S96x6144 shapeCasts_S1x6144_S1x6144
        broadcasts_S1x6144_S96x6144 (V m c main_v42) (V m c main_v43) (V m c main_v44) (V m c main_v45) (V m c main_v23) (V m c main_v29)
        (V m c main_v35) (V m c main_v41) (V m c main_arg1) (V m c main_v46) i
      = linearAt 1024 (m ((c : Thread nD τ).loc main_arg0)) (m ((c : Thread nD τ).loc main_arg1)) (m ((c : Thread nD τ).loc main_arg2))
          (m ((c : Thread nD τ).loc main_arg3)) (m ((c : Thread nD τ).loc main_arg4)) (i 0).val (i 1).val := by
  obtain ⟨p0, p1, p2, p3⟩ := entry_planes m c
  obtain ⟨a0, a1, a2, a3, s⟩ := entry_operands m c
  rw [p0, p1, p2, p3, V_main_arg1]
  exact planesScaled_at (B := 96) (N := 6144) (Q := 256) (G := 1024) plain (by decide) (by decide) (by decide) _ _ _ _ _
    (m ((c : Thread nD τ).loc main_arg0)) _ _ _ (m ((c : Thread nD τ).loc main_arg4)) _ _ _ _ _
    (by rw [a0]; exact strided_at (α := EReal) 0 (j := 0) _ _) (by rw [a1]; exact strided_at (α := EReal) 0 (j := 1) _ _)
    (by rw [a2]; exact strided_at (α := EReal) 0 (j := 2) _ _) (by rw [a3]; exact strided_at (α := EReal) 0 (j := 3) _ _)
    (by rw [s]; exact reshaped_at (α := EReal) 0 _ _) i

/-- The body's one store. -/
theorem stored (x0 x1 x2 x3 : Vec Idealize.ShloMosaic.Ideal S96x1024 .fp8e4m3) (x4 x5 x6 x7 : Vec Idealize.ShloMosaic.Ideal S6144x1024 .i8)
    (x8 : Vec Idealize.ShloMosaic.Ideal S96x1 .f32) (x9 : Vec Idealize.ShloMosaic.Ideal S1x6144 .f32) :
    out0_10 x0 x1 x2 x3 x4 x5 x6 x7 x8 x9
      = planesScaled shapeCasts_S96x1024_S96x1024 shapeCasts_S6144x1024_S6144x1024 broadcasts_S96x1_S96x6144 shapeCasts_S1x6144_S1x6144
          broadcasts_S1x6144_S96x6144 x0 x1 x2 x3 x4 x5 x6 x7 x8 x9 := by
  have hA : ∀ x : Vec Idealize.ShloMosaic.Ideal S96x1024 .fp8e4m3, View.ld x r0_0 = x := fun x => View.ld_unit_lit _ x (by decide)
  have hB : ∀ x : Vec Idealize.ShloMosaic.Ideal S6144x1024 .i8, View.ld x r0_1 = x := fun x => View.ld_unit_lit _ x (by decide)
  have hC : View.ld x8 r0_2 = x8 := View.ld_unit_lit _ x8 (by decide)
  have hD : View.ld x9 r0_3 = x9 := View.ld_unit_lit _ x9 (by decide)
  unfold out0_10
  rw [View.canon_cons_unit_lit _ _ _ (by decide), hA x0, hA x1, hA x2, hA x3, hB x4, hB x5, hB x6, hB x7, hC, hD]
  rfl

/-- The result as a function of the arguments. -/
def RESULT (a : Vec Idealize.ShloMosaic.Ideal S96x4096 .fp8e4m3) (sa : Vec Idealize.ShloMosaic.Ideal S96x1 .f32) (v : Vec Idealize.ShloMosaic.Ideal S6144x2048 .i8)
    (mt : Vec Idealize.ShloMosaic.Ideal S6144x256 .i16) (sc : Vec Idealize.ShloMosaic.Ideal S6144 .f32) (y : S96x6144.Idx) : EReal :=
  linearAt 1024 a sa v mt sc (y 0).val (y 1).val

theorem final :
    (dats m 0 c).arrAt 10 cfg0.N = RESULT (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  obtain ⟨w0, w1, w2, w3, w4, w5, w6, w7, w8, w9⟩ := whole m c t
  rw [after0_10, w0, w1, w2, w3, w4, w5, w6, w7, w8, w9, stored]
  refine (product_at m c y).trans ?_
  have e0 : (((win0_10.blk t).view.emb y) 0).val = (y 0).val := by blk_simp [idx t]
  have e1 : (((win0_10.blk t).view.emb y) 1).val = (y 1).val := by blk_simp [idx t]
  show _ = linearAt 1024 _ _ _ _ _ (((win0_10.blk t).view.emb y) 0).val (((win0_10.blk t).view.emb y) 1).val
  rw [e0, e1]

end Cert.QkvReferenceIdeal.Value

end
-- ==== Proof.WoTrip.lean ====
/-
  One loop trip of the output projection kernel: its loads, named by tile number, and the block it writes as a scaled expansion.
-/
module

public import proofs.«01_k».proof.Proof.LinearKit
public import proofs.«01_k».proof.Proof.Gen.WoIdeal.Value

@[expose] public section

set_option maxRecDepth 65536

noncomputable section

namespace Cert.WoIdeal.Gen

open Idealize.ShloMosaic Idealize.ShloMosaic.TcCoe Idealize.ShloMosaic.Tactic
open Cert.Expand

/-- Where the bytes of column tile `ct` are loaded. -/
def offV (k : Fin k0_t1_loop.trips) (ct : Nat) (b : BitVec 32) : Fin 2 → Nat :=
  match ct with
  | 0 => k0_off2 k b | 1 => k0_off3 k b | 2 => k0_off4 k b | 3 => k0_off5 k b
  | 4 => k0_off6 k b | 5 => k0_off7 k b | 6 => k0_off8 k b | 7 => k0_off9 k b
  | 8 => k0_off11 k b | 9 => k0_off12 k b | 10 => k0_off13 k b | 11 => k0_off14 k b
  | 12 => k0_off15 k b | 13 => k0_off16 k b | 14 => k0_off17 k b | _ => k0_off18 k b

theorem offV_inb (k : Fin k0_t1_loop.trips) (ct : Nat) (r : Fin 8) :
    ∀ a, (offV k ct (BitVec.ofNat 32 (32 * r.val))) a + S32x128.size a ≤ S1024x2048.size a := by
  unfold offV
  split
  exacts [k0_off2_inb k r, k0_off3_inb k r, k0_off4_inb k r, k0_off5_inb k r, k0_off6_inb k r, k0_off7_inb k r,
    k0_off8_inb k r, k0_off9_inb k r, k0_off11_inb k r, k0_off12_inb k r, k0_off13_inb k r, k0_off14_inb k r,
    k0_off15_inb k r, k0_off16_inb k r, k0_off17_inb k r, k0_off18_inb k r]

/-- Where the metadata of column tile `mt` is loaded. -/
def offM (k : Fin k0_t1_loop.trips) (mt : Nat) (b : BitVec 32) : Fin 2 → Nat :=
  match mt with
  | 0 => k0_off1 k b | _ => k0_off10 k b

theorem offM_inb (k : Fin k0_t1_loop.trips) (mt : Nat) (r : Fin 8) :
    ∀ a, (offM k mt (BitVec.ofNat 32 (32 * r.val))) a + S32x128.size a ≤ S1024x256.size a := by
  unfold offM
  split
  exacts [k0_off1_inb k r, k0_off10_inb k r]

theorem offA_inb (j n : Nat) : ∀ a, (![0, j % 4 * 1024 + n % 4 * 256] : Fin 2 → Nat) a + S96x256.size a ≤ S96x4096.size a := by
  intro a
  match a with
  | ⟨0, _⟩ => exact Nat.le_refl 96
  | ⟨1, _⟩ => show j % 4 * 1024 + n % 4 * 256 + 256 ≤ 4096; omega

variable {F : FTy → Type} [FloatOps F]

/-- The tiles of bytes, metadata, activations and scales that trip `k` loads. -/
def ldV (arg : Memref sig .tc .vmem S1024x2048 .i8) (X : BufTy.Contents (Elt F) arg.view.ty) (k : Fin k0_t1_loop.trips)
    (ct : Nat) (rg : Fin 8) : IVec S32x128 8 :=
  View.readAt (Elt F) arg.view (Rect.unit (s := S1024x2048) (offV k ct (BitVec.ofNat 32 (32 * rg.val))) S32x128.size (offV_inb k ct rg)).toLoadRect X

def ldM (arg : Memref sig .tc .vmem S1024x256 .i16) (X : BufTy.Contents (Elt F) arg.view.ty) (k : Fin k0_t1_loop.trips)
    (mt : Nat) (rg : Fin 8) : IVec S32x128 16 :=
  View.readAt (Elt F) arg.view (Rect.unit (s := S1024x256) (offM k mt (BitVec.ofNat 32 (32 * rg.val))) S32x128.size (offM_inb k mt rg)).toLoadRect X

def ldA (arg : Memref sig .tc .vmem S96x4096 .fp8e4m3) (X : BufTy.Contents (Elt F) arg.view.ty) (j n : Nat) :
    FVec F S96x256 .fp8e4m3 :=
  View.readAt (Elt F) arg.view (Rect.unit (s := S96x4096) ![0, j % 4 * 1024 + n % 4 * 256] S96x256.size (offA_inb j n)).toLoadRect X

def ldS (arg : Memref sig .tc .vmem S1x1024 .f32) (X : BufTy.Contents (Elt F) arg.view.ty) (k : Fin k0_t1_loop.trips) : FVec F S1x256 .f32 :=
  View.readAt (Elt F) arg.view (Rect.unit (s := S1x1024) (k0_off20 k) S1x256.size (k0_off20_inb k)).toLoadRect X

def ldR (arg : Memref sig .tc .vmem S96x1 .f32) (X : BufTy.Contents (Elt F) arg.view.ty) : FVec F S96x1 .f32 :=
  View.readAt (Elt F) arg.view (Rect.unit (s := S96x1) ![0, 0] S96x1.size inb_S96x1_S96x1_0_0).toLoadRect X

/-- The trip's product, scaled by its rows and columns. -/
def product (arg1 : Memref sig .tc .vmem S96x4096 .fp8e4m3) (arg2 : Memref sig .tc .vmem S96x1 .f32) (arg3 : Memref sig .tc .vmem S1024x2048 .i8)
    (arg4 : Memref sig .tc .vmem S1024x256 .i16) (arg5 : Memref sig .tc .vmem S1x1024 .f32) (X_arg1 : BufTy.Contents (Elt F) arg1.view.ty)
    (X_arg2 : BufTy.Contents (Elt F) arg2.view.ty) (X_arg3 : BufTy.Contents (Elt F) arg3.view.ty) (X_arg4 : BufTy.Contents (Elt F) arg4.view.ty)
    (X_arg5 : BufTy.Contents (Elt F) arg5.view.ty) (k : Fin k0_t1_loop.trips) : FVec F S96x256 .f32 :=
  scaled broadcasts_S96x1_S96x256 shapeCasts_S1x256_S1x256 broadcasts_S1x256_S96x256
    (expandDot (ldA arg1 X_arg1) (ldV arg3 X_arg3 k) (ldM arg4 X_arg4 k) 3) (ldR arg2 X_arg2) (ldS arg5 X_arg5 k)

/-- The columns of the residual that trip `k` loads. -/
def ldX (arg : Memref sig .tc .vmem S96x1024 .bf16) (X : BufTy.Contents (Elt F) arg.view.ty) (k : Fin k0_t1_loop.trips) : FVec F S96x256 .bf16 :=
  View.readAt (Elt F) arg.view (Rect.unit (s := S96x1024) (k0_off19 k) S96x256.size (k0_off19_inb k)).toLoadRect X

theorem trip_pieces (𝒱 : Variants) (c : Dev nD) (bd : Option 𝒱.V) (i : grid0.Coords) (arg1 : Memref sig .tc .vmem S96x4096 .fp8e4m3) (harg1 : arg1.IsWhole) (arg2 : Memref sig .tc .vmem S96x1 .f32) (harg2 : arg2.IsWhole) (arg3 : Memref sig .tc .vmem S1024x2048 .i8) (harg3 : arg3.IsWhole) (arg4 : Memref sig .tc .vmem S1024x256 .i16) (harg4 : arg4.IsWhole) (arg5 : Memref sig .tc .vmem S1x1024 .f32) (harg5 : arg5.IsWhole) (arg6 : Memref sig .tc .vmem S96x1024 .bf16) (harg6 : arg6.IsWhole) (arg7 : Memref sig .tc .vmem S96x1024 .f32) (harg7 : arg7.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    (trip_k0_t1 (F := F) 𝒱 c bd i arg1 harg1 arg2 harg2 arg3 harg3 arg4 harg4 arg5 harg5 arg6 harg6 arg7 harg7 X_arg1 X_arg2 X_arg3 X_arg4 X_arg5 X_arg6 k).1
      = [⟨Rect.unit (s := S96x1024) (k0_off19 k) S96x256.size (k0_off19_inb k), addf (extf .f32 (ldX arg6 X_arg6 k)) (product arg1 arg2 arg3 arg4 arg5 X_arg1 X_arg2 X_arg3 X_arg4 X_arg5 k)⟩] := by
  unfold trip_k0_t1
  rfl

end Cert.WoIdeal.Gen

end
-- ==== Proof.WoBlock.lean ====
/-
  What one grid point of the output projection kernel leaves in its output block, as a function of its input blocks.
-/
module

public import proofs.«01_k».proof.Proof.WoTrip

@[expose] public section

set_option maxRecDepth 65536

noncomputable section

namespace Cert.WoIdeal.Gen

open Idealize.ShloMosaic Idealize.ShloMosaic.TcCoe Idealize.ShloMosaic.Tactic
open Cert.Expand

theorem offV_eq : ∀ (k : Fin k0_t1_loop.trips) (ct : Fin 16) (rg : Fin 8) (a : Fin 2),
    offV k ct.val (BitVec.ofNat 32 (32 * rg.val)) a = (![256 * k.val + 32 * rg.val, 128 * ct.val] : Fin 2 → Nat) a := by
  decide +kernel

theorem offM_eq : ∀ (k : Fin k0_t1_loop.trips) (mt : Fin 2) (rg : Fin 8) (a : Fin 2),
    offM k mt.val (BitVec.ofNat 32 (32 * rg.val)) a = (![256 * k.val + 32 * rg.val, 128 * mt.val] : Fin 2 → Nat) a := by
  decide +kernel

theorem off20_eq : ∀ (k : Fin k0_t1_loop.trips) (a : Fin 2), k0_off20 k a = (![0, 256 * k.val] : Fin 2 → Nat) a := by
  decide +kernel

theorem off19_eq : ∀ (k : Fin k0_t1_loop.trips) (a : Fin 2), k0_off19 k a = (![0, 256 * k.val] : Fin 2 → Nat) a := by
  decide +kernel

theorem trips_eq : k0_t1_loop.trips = 4 := by decide +kernel

/-- The trip's product, at an index of its tile. -/
theorem product_trip (k : Fin k0_t1_loop.trips) (arg1 : Memref sig .tc .vmem S96x4096 .fp8e4m3) (harg1 : arg1.IsWhole)
    (arg2 : Memref sig .tc .vmem S96x1 .f32) (harg2 : arg2.IsWhole) (arg3 : Memref sig .tc .vmem S1024x2048 .i8) (harg3 : arg3.IsWhole)
    (arg4 : Memref sig .tc .vmem S1024x256 .i16) (harg4 : arg4.IsWhole) (arg5 : Memref sig .tc .vmem S1x1024 .f32) (harg5 : arg5.IsWhole)
    (x0 : Vec Ideal S96x4096 .fp8e4m3) (x1 : Vec Ideal S96x1 .f32) (x2 : Vec Ideal S1024x2048 .i8) (x3 : Vec Ideal S1024x256 .i16)
    (x4 : Vec Ideal S1x1024 .f32) (hm : MetaValid 1024 x3) (r : Fin 96) (c : Fin 256) :
    product (F := Ideal) arg1 arg2 arg3 arg4 arg5 (harg1.unread x0) (harg2.unread x1) (harg3.unread x2) (harg4.unread x3) (harg5.unread x4) k
        (ValueIdx.ix2 r c) = blockLinear 1024 x0 x1 x2 x3 x4 r.val (256 * k.val + c.val) := by
  have hk : k.val < 4 := trips_eq ▸ k.isLt
  refine scaled_trip (N := 3) x0 x1 x2 x3 x4 _ _ _ (256 * k.val) (by omega) hm ?_ ?_ ?_ ?_ ?_ r c
  · exact fun j n r q hn => read_at arg1 harg1 x0 (0 : EReal) _ (offA_inb j.val n) r q _ _ (Nat.zero_add _)
      (by show j.val % 4 * 1024 + n % 4 * 256 + q.val = _; omega)
  · exact fun ct rg p l h => read_at arg3 harg3 x2 (0#8 : BitVec 8) _ (offV_inb k ct rg) p l _ _
      (by rw [offV_eq k ⟨ct, h⟩ rg 0]; show 256 * k.val + 32 * rg.val + p.val = _; omega) (by rw [offV_eq k ⟨ct, h⟩ rg 1]; rfl)
  · exact fun mt rg p l h => read_at arg4 harg4 x3 (0#16 : BitVec 16) _ (offM_inb k mt rg) p l _ _
      (by rw [offM_eq k ⟨mt, by omega⟩ rg 0]; show 256 * k.val + 32 * rg.val + p.val = _; omega)
      (by rw [offM_eq k ⟨mt, by omega⟩ rg 1]; rfl)
  · exact fun r => read_at arg2 harg2 x1 (0 : EReal) _ inb_S96x1_S96x1_0_0 r (0 : Fin 1) _ _ (Nat.zero_add _) rfl
  · exact fun c => read_at arg5 harg5 x4 (0 : EReal) _ (k0_off20_inb k) (0 : Fin 1) c _ _ (by rw [off20_eq]; rfl) (by rw [off20_eq]; rfl)

/-- What a grid point leaves in its block. -/
def blockG (x0 : Vec Ideal S96x4096 .fp8e4m3) (x1 : Vec Ideal S96x1 .f32) (x2 : Vec Ideal S1024x2048 .i8) (x3 : Vec Ideal S1024x256 .i16)
    (x4 : Vec Ideal S1x1024 .f32) (x5 : Vec Ideal S96x1024 .bf16) (y : S96x1024.Idx) : EReal :=
  natAt (α := EReal) 0 x5 (y 0).val (y 1).val + blockLinear 1024 x0 x1 x2 x3 x4 (y 0).val (y 1).val

theorem out_block (c : Dev nD) (i : grid0.Coords) (arg1 : Memref sig .tc .vmem S96x4096 .fp8e4m3) (harg1 : arg1.IsWhole) (arg2 : Memref sig .tc .vmem S96x1 .f32) (harg2 : arg2.IsWhole) (arg3 : Memref sig .tc .vmem S1024x2048 .i8) (harg3 : arg3.IsWhole) (arg4 : Memref sig .tc .vmem S1024x256 .i16) (harg4 : arg4.IsWhole) (arg5 : Memref sig .tc .vmem S1x1024 .f32) (harg5 : arg5.IsWhole) (arg6 : Memref sig .tc .vmem S96x1024 .bf16) (harg6 : arg6.IsWhole) (arg7 : Memref sig .tc .vmem S96x1024 .f32) (harg7 : arg7.IsWhole)
    (x0 : Vec Ideal S96x4096 .fp8e4m3) (x1 : Vec Ideal S96x1 .f32) (x2 : Vec Ideal S1024x2048 .i8) (x3 : Vec Ideal S1024x256 .i16) (x4 : Vec Ideal S1x1024 .f32) (x5 : Vec Ideal S96x1024 .bf16) (h3 : MetaValid 1024 x3) :
    out0_A_6 (F := Ideal) c i arg1 harg1 arg2 harg2 arg3 harg3 arg4 harg4 arg5 harg5 arg6 harg6 arg7 harg7 x0 x1 x2 x3 x4 x5 = blockG x0 x1 x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  funext y
  refine View.canon_apply_of_pieces _ _ ?_ y (cover0_A_6 c i arg1 harg1 arg2 harg2 arg3 harg3 arg4 harg4 arg5 harg5 arg6 harg6 arg7 harg7 x0 x1 x2 x3 x4 x5 y)
  unfold kernelRun0_A
  dsimp only
  have key : ∀ n : Nat, n ≤ k0_t1_loop.trips → ∀ p ∈ pb_k0_t1 (F := Ideal) Variants.none c none i arg1 harg1 arg2 harg2 arg3 harg3 arg4 harg4 arg5 harg5 arg6 harg6 arg7 harg7
      (harg1.unread x0) (harg2.unread x1) (harg3.unread x2) (harg4.unread x3) (harg5.unread x4) (harg6.unread x5) n,
      ∀ x : p.1.shape.Idx, p.2 x = blockG x0 x1 x2 x3 x4 x5 (p.1.emb x) := by
    intro n
    induction n with
    | zero => intro _ p hp; rw [pb_k0_t1.eq_1] at hp; exact absurd hp List.not_mem_nil
    | succ n ih =>
      intro hn p hp
      have hs := pb_k0_t1_succ (F := Ideal) Variants.none c none i arg1 harg1 arg2 harg2 arg3 harg3 arg4 harg4 arg5 harg5 arg6 harg6 arg7 harg7
        (harg1.unread x0) (harg2.unread x1) (harg3.unread x2) (harg4.unread x3) (harg5.unread x4) (harg6.unread x5) ⟨n, hn⟩
      rw [show (⟨n, hn⟩ : Fin k0_t1_loop.trips).val + 1 = n + 1 from rfl] at hs
      rw [hs] at hp
      rcases List.mem_append.mp hp with hp | hp
      · rw [tripL_k0_t1, trip_pieces] at hp
        obtain rfl := List.mem_singleton.mp hp
        exact piece_block (T := 1024) (fun r q => natAt (α := EReal) 0 x5 r q + blockLinear 1024 x0 x1 x2 x3 x4 r q) _ (k0_off19_inb ⟨n, hn⟩)
          (by rw [off19_eq]; rfl) (by rw [off19_eq]; rfl) _ fun r l => congrArg₂ (fun p q : EReal => p + q)
            (read_at arg6 harg6 x5 (0 : EReal) _ (k0_off19_inb ⟨n, hn⟩) r l _ _ (by rw [off19_eq]; exact Nat.zero_add _) (by rw [off19_eq]; rfl))
            (product_trip ⟨n, hn⟩ arg1 harg1 arg2 harg2 arg3 harg3 arg4 harg4 arg5 harg5 x0 x1 x2 x3 x4 h3 r l)
      · exact ih (by omega) p hp
  exact key _ (Nat.le_of_eq rfl)

end Cert.WoIdeal.Gen

end
-- ==== Proof.WoValue.lean ====
/-
  The output projection kernel's result array as a function of its arguments.
-/
module

public import proofs.«01_k».proof.Proof.WoBlock
public import Idealize.ShloMosaic.Lib.Pointwise

@[expose] public section

set_option maxRecDepth 65536

noncomputable section

namespace Cert.WoIdeal.Value

open Cert.WoIdeal Cert.WoIdeal.Gen Idealize.ShloMosaic Idealize.ShloMosaic.TcCoe Idealize.SL.Sem
open Idealize.ShloMosaic.Pipeline (Dat)
open Cert.Expand

variable (m : (ℓ : Loc nD τ sig) → Buf (Elt Ideal) ℓ) (c : Dev nD)

/-- Every window's block index. -/
theorem idx : ∀ t : Fin cfg0.N, win0_0.index t = ![0, 0] ∧ win0_1.index t = ![0, 0] ∧ win0_2.index t = ![t.val, 0]
    ∧ win0_3.index t = ![t.val, 0] ∧ win0_4.index t = ![0, t.val] ∧ win0_5.index t = ![0, t.val] ∧ win0_6.index t = ![0, t.val] :=
  (by decide +kernel : ∀ t : Fin grid0.N, _)

theorem entry_v2 : V m c main_v2 = shapeCast S96x4096 (transpose S96x4x1024 [0, 2, 1] (shapeCast S96x1024x4
    (m ((c : Thread nD τ).loc main_arg0)) shapeCasts_S96x4096_S96x1024x4) transposes_S96x1024x4_S96x4x1024_0_2_1) shapeCasts_S96x4x1024_S96x4096 := by
  entry_read
  try rfl

theorem entry_v3 : V m c main_v3 = shapeCast S1x4096 (m ((c : Thread nD τ).loc main_arg4)) shapeCasts_S4096_S1x4096 := by
  entry_read
  try rfl

/-- The point's blocks, at coordinates of the whole arrays. -/
theorem read0 (t : Fin cfg0.N) (r k : Nat) :
    natAt (α := EReal) 0 (iblk m c 0 t) r k = natAt (α := EReal) 0 (V m c main_v2) r k := by
  refine congrArg (fun x => natAt (α := EReal) 0 x r k) (funext fun y => ?_)
  unfold iblk
  blk_simp
  refine congrArg (V m c main_v2) (funext fun a => Fin.ext ?_)
  match a with
  | ⟨0, _⟩ => blk_simp [idx t]
  | ⟨1, _⟩ => blk_simp [idx t]

theorem read1 (t : Fin cfg0.N) (r : Nat) :
    natAt (α := EReal) 0 (iblk m c 1 t) r 0 = natAt (α := EReal) 0 (m ((c : Thread nD τ).loc main_arg1)) r 0 := by
  refine congrArg (fun x => natAt (α := EReal) 0 x r 0) (funext fun y => ?_)
  unfold iblk
  blk_simp
  rw [V_main_arg1]
  refine congrArg (m ((c : Thread nD τ).loc main_arg1)) (funext fun a => Fin.ext ?_)
  match a with
  | ⟨0, _⟩ => blk_simp [idx t]
  | ⟨1, _⟩ => blk_simp [idx t]

theorem readV (t : Fin cfg0.N) (q x : Nat) (hq : q < 1024) (hx : x < 2048) :
    natAt (α := BitVec 8) 0#8 (iblk m c 2 t) q x = natAt (α := BitVec 8) 0#8 (m ((c : Thread nD τ).loc main_arg2)) (1024 * t.val + q) x := by
  refine natAt_at (α := BitVec 8) 0#8 _ q x _ hq hx fun y h0 h1 => Eq.symm ?_
  unfold iblk
  blk_simp
  rw [V_main_arg2]
  refine natAt_of _ _ _ _ _ ?_ ?_ <;> blk_simp [idx t]
  all_goals omega

theorem readM (t : Fin cfg0.N) (q x : Nat) (hq : q < 1024) (hx : x < 256) :
    natAt (α := BitVec 16) 0#16 (iblk m c 3 t) q x = natAt (α := BitVec 16) 0#16 (m ((c : Thread nD τ).loc main_arg3)) (1024 * t.val + q) x := by
  refine natAt_at (α := BitVec 16) 0#16 _ q x _ hq hx fun y h0 h1 => Eq.symm ?_
  unfold iblk
  blk_simp
  rw [V_main_arg3]
  refine natAt_of _ _ _ _ _ ?_ ?_ <;> blk_simp [idx t]
  all_goals omega

theorem readS (t : Fin cfg0.N) (q : Nat) (hq : q < 1024) :
    natAt (α := EReal) 0 (iblk m c 4 t) 0 q = natVec (α := EReal) 0 (m ((c : Thread nD τ).loc main_arg4)) (1024 * t.val + q) := by
  have ht : t.val < 4 := t.isLt
  refine Eq.trans ?_ (reshaped_at (α := EReal) 0 (m ((c : Thread nD τ).loc main_arg4)) shapeCasts_S4096_S1x4096 _ (by omega))
  rw [← entry_v3 m c]
  refine natAt_at (α := EReal) 0 _ 0 q _ (by decide) hq fun y h0 h1 => Eq.symm ?_
  unfold iblk
  blk_simp
  refine natAt_of _ _ _ _ _ ?_ ?_ <;> blk_simp [idx t]
  all_goals omega

theorem readX (t : Fin cfg0.N) (r q : Nat) (hr : r < 96) (hq : q < 1024) :
    natAt (α := EReal) 0 (iblk m c 5 t) r q = natAt (α := EReal) 0 (m ((c : Thread nD τ).loc main_arg5)) r (1024 * t.val + q) := by
  refine natAt_at (α := EReal) 0 _ r q _ hr hq fun y h0 h1 => Eq.symm ?_
  unfold iblk
  blk_simp
  rw [V_main_arg5]
  refine natAt_of _ _ _ _ _ ?_ ?_ <;> blk_simp [idx t]
  all_goals omega

theorem block_valid (hm : MetaValid 1024 (m ((c : Thread nD τ).loc main_arg3))) (t : Fin cfg0.N) :
    MetaValid 1024 (iblk m c 3 t) := by
  have ht : t.val < 4 := t.isLt
  exact fun q g hq hg => valid_congr (readM m c t q (g / 4) hq (by omega)) (hm _ g (by omega) hg)

/-- The result as a function of the arguments. -/
def RESULT (a : Vec Ideal S96x4096 .fp8e4m3) (sa : Vec Ideal S96x1 .f32) (v : Vec Ideal S4096x2048 .i8) (mt : Vec Ideal S4096x256 .i16)
    (sc : Vec Ideal S4096 .f32) (res : Vec Ideal S96x4096 .bf16) (y : S96x4096.Idx) : EReal :=
  natAt (α := EReal) 0 res (y 0).val (y 1).val + linearAt 1024 a sa v mt sc (y 0).val (y 1).val

theorem activations (t : Fin cfg0.N) (j r g : Nat) (hr : r < 96) (hj : j < 4) (hg : g < 1024) :
    natAt (α := EReal) 0 (iblk m c 0 t) r (1024 * j + g) = natAt (α := EReal) 0 (m ((c : Thread nD τ).loc main_arg0)) r (4 * g + j) := by
  rw [read0, entry_v2]
  exact permuted_at (α := EReal) 0 rfl _ _ _ _ r j g hr hj hg

theorem block_linear (t : Fin cfg0.N) (r q : Nat) (hr : r < 96) (hq : q < 1024) :
    blockLinear 1024 (iblk m c 0 t) (iblk m c 1 t) (iblk m c 2 t) (iblk m c 3 t) (iblk m c 4 t) r q
      = linearAt 1024 (m ((c : Thread nD τ).loc main_arg0)) (m ((c : Thread nD τ).loc main_arg1)) (m ((c : Thread nD τ).loc main_arg2))
          (m ((c : Thread nD τ).loc main_arg3)) (m ((c : Thread nD τ).loc main_arg4)) r (1024 * t.val + q) :=
  blockLinear_at (fun j g hj hg => activations m c t j r g hr hj hg) (read1 m c t r) (fun x hx => readV m c t q x hq hx)
    (fun x hx => readM m c t q x hq (by omega)) (readS m c t q hq)

/-- The kernel's result array. -/
theorem final (hm : MetaValid 1024 (m ((c : Thread nD τ).loc main_arg3))) :
    (dats m 0 c).arrAt 6 cfg0.N = RESULT (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  blk_simp
  rw [after0_6]
  unfold outsAt0
  have ht : t.val < 4 := t.isLt
  rw [out_block _ _ _ _ _ _ _ _ _ _ _ _ _ _ _ _ _ _ _ _ _ _ (block_valid m c hm t)]
  have e0 : (((win0_6.blk t).view.emb y) 0).val = (y 0).val := by blk_simp [idx t]
  have e1 : (((win0_6.blk t).view.emb y) 1).val = 1024 * t.val + (y 1).val := by blk_simp [idx t]; omega
  unfold blockG RESULT
  have hr : (y 0).val < 96 := (y 0).isLt
  have hq : (y 1).val < 1024 := (y 1).isLt
  rw [block_linear m c t _ _ hr hq, readX m c t _ _ hr hq]
  show _ = natAt (α := EReal) 0 _ (((win0_6.blk t).view.emb y) 0).val (((win0_6.blk t).view.emb y) 1).val
    + linearAt 1024 _ _ _ _ _ (((win0_6.blk t).view.emb y) 0).val (((win0_6.blk t).view.emb y) 1).val
  rw [e0, e1]

end Cert.WoIdeal.Value

end
-- ==== Proof.WoReferenceValue.lean ====
/-
  What the output projection reference leaves in its result: the linear map of the plain reading, added to the residual.
-/
module

public import proofs.«01_k».proof.Proof.LinearReference
public import proofs.«01_k».proof.Proof.Gen.WoReferenceIdeal.Value
public import Idealize.ShloMosaic.Lib.Claim
public import Idealize.ShloMosaic.Lib.Pipeline.ValueKit

@[expose] public section

noncomputable section

namespace Cert.WoReferenceIdeal.Value

open Cert.WoReferenceIdeal Cert.WoReferenceIdeal.Gen Idealize.ShloMosaic Idealize.ShloMosaic.TcCoe Idealize.SL.Sem
open Idealize.ShloMosaic.Pipeline (Dat)
open Cert.Expand

variable (m : (ℓ : Loc nD τ sig) → Buf (Elt Idealize.ShloMosaic.Ideal) ℓ) (c : Dev nD)

theorem plain : PlainFacts 4096 256 1024 where
  hw := natLt_16_32
  hG := rfl
  rep := bcast_S4096x256_S4096x256x4_0_1
  flat := shapeCasts_S4096x256x4_S4096x1024
  one := bcast_S_S1024
  row := bcast_S1024_S1x1024_1
  rows := bcast_S1x1024_S4096x1024_0_1
  two := bcast_S_S4096x1024
  even := slicesBy_S4096x2048_S4096x1024_0s1_0s2
  odd := slicesBy_S4096x2048_S4096x1024_0s1_1s2

set_option maxHeartbeats 16000000 in
/-- The four planes of kept bytes. -/
theorem entry_planes :
    V m c main_v23 = kept plain 0#32 (m ((c : Thread nD τ).loc main_arg2)) (m ((c : Thread nD τ).loc main_arg3))
    ∧ V m c main_v29 = kept plain 1#32 (m ((c : Thread nD τ).loc main_arg2)) (m ((c : Thread nD τ).loc main_arg3))
    ∧ V m c main_v35 = kept plain 2#32 (m ((c : Thread nD τ).loc main_arg2)) (m ((c : Thread nD τ).loc main_arg3))
    ∧ V m c main_v41 = kept plain 3#32 (m ((c : Thread nD τ).loc main_arg2)) (m ((c : Thread nD τ).loc main_arg3)) := by
  refine ⟨?_, ?_, ?_, ?_⟩
  all_goals
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    entry_read
    rfl

set_option maxHeartbeats 16000000 in
/-- Every fourth column of the activations, and the scales as a row. -/
theorem entry_operands :
    V m c main_v42 = Host.slice S96x1024 ![0, 0] ![1, 4] (m ((c : Thread nD τ).loc main_arg0)) slicesBy_S96x4096_S96x1024_0s1_0s4
    ∧ V m c main_v43 = Host.slice S96x1024 ![0, 1] ![1, 4] (m ((c : Thread nD τ).loc main_arg0)) slicesBy_S96x4096_S96x1024_0s1_1s4
    ∧ V m c main_v44 = Host.slice S96x1024 ![0, 2] ![1, 4] (m ((c : Thread nD τ).loc main_arg0)) slicesBy_S96x4096_S96x1024_0s1_2s4
    ∧ V m c main_v45 = Host.slice S96x1024 ![0, 3] ![1, 4] (m ((c : Thread nD τ).loc main_arg0)) slicesBy_S96x4096_S96x1024_0s1_3s4
    ∧ V m c main_v46 = shapeCast S1x4096 (m ((c : Thread nD τ).loc main_arg4)) shapeCasts_S4096_S1x4096 := by
  refine ⟨?_, ?_, ?_, ?_, ?_⟩
  all_goals
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    entry_read
    try rfl

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] := by
  decide +kernel

set_option maxHeartbeats 4000000 in
/-- Every input block is its whole array. -/
theorem whole (t : Fin cfg0.N) : iblk m c 0 t = V m c main_v42 ∧ iblk m c 1 t = V m c main_v43 ∧ iblk m c 2 t = V m c main_v44
    ∧ iblk m c 3 t = V m c main_v45 ∧ iblk m c 4 t = V m c main_v23 ∧ iblk m c 5 t = V m c main_v29 ∧ iblk m c 6 t = V m c main_v35
    ∧ iblk m c 7 t = V m c main_v41 ∧ iblk m c 8 t = V m c main_arg1 ∧ iblk m c 9 t = V m c main_v46
    ∧ iblk m c 10 t = V m c main_arg5 := by
  refine ⟨?_, ?_, ?_, ?_, ?_, ?_, ?_, ?_, ?_, ?_, ?_⟩
  all_goals
    funext y
    unfold iblk
    blk_simp
    refine congrArg (V m c _) (funext fun a => Fin.ext ?_)
    match a with
    | ⟨0, _⟩ => blk_simp [idx t]
    | ⟨1, _⟩ => blk_simp [idx t]

/-- The scaled sum of products, at an index. -/
theorem product_at (i : S96x4096.Idx) :
    planesScaled shapeCasts_S96x1024_S96x1024 shapeCasts_S4096x1024_S4096x1024 broadcasts_S96x1_S96x4096 shapeCasts_S1x4096_S1x4096
        broadcasts_S1x4096_S96x4096 (V m c main_v42) (V m c main_v43) (V m c main_v44) (V m c main_v45) (V m c main_v23) (V m c main_v29)
        (V m c main_v35) (V m c main_v41) (V m c main_arg1) (V m c main_v46) i
      = linearAt 1024 (m ((c : Thread nD τ).loc main_arg0)) (m ((c : Thread nD τ).loc main_arg1)) (m ((c : Thread nD τ).loc main_arg2))
          (m ((c : Thread nD τ).loc main_arg3)) (m ((c : Thread nD τ).loc main_arg4)) (i 0).val (i 1).val := by
  obtain ⟨p0, p1, p2, p3⟩ := entry_planes m c
  obtain ⟨a0, a1, a2, a3, s⟩ := entry_operands m c
  rw [p0, p1, p2, p3, V_main_arg1]
  exact planesScaled_at (B := 96) (N := 4096) (Q := 256) (G := 1024) plain (by decide) (by decide) (by decide) _ _ _ _ _
    (m ((c : Thread nD τ).loc main_arg0)) _ _ _ (m ((c : Thread nD τ).loc main_arg4)) _ _ _ _ _
    (by rw [a0]; exact strided_at (α := EReal) 0 (j := 0) _ _) (by rw [a1]; exact strided_at (α := EReal) 0 (j := 1) _ _)
    (by rw [a2]; exact strided_at (α := EReal) 0 (j := 2) _ _) (by rw [a3]; exact strided_at (α := EReal) 0 (j := 3) _ _)
    (by rw [s]; exact reshaped_at (α := EReal) 0 _ _) i

/-- The body's one store. -/
theorem stored (x0 x1 x2 x3 : Vec Idealize.ShloMosaic.Ideal S96x1024 .fp8e4m3) (x4 x5 x6 x7 : Vec Idealize.ShloMosaic.Ideal S4096x1024 .i8)
    (x8 : Vec Idealize.ShloMosaic.Ideal S96x1 .f32) (x9 : Vec Idealize.ShloMosaic.Ideal S1x4096 .f32) (x10 : Vec Idealize.ShloMosaic.Ideal S96x4096 .bf16) (y : S96x4096.Idx) :
    out0_11 x0 x1 x2 x3 x4 x5 x6 x7 x8 x9 x10 y
      = (x10 y + planesScaled shapeCasts_S96x1024_S96x1024 shapeCasts_S4096x1024_S4096x1024 broadcasts_S96x1_S96x4096 shapeCasts_S1x4096_S1x4096
          broadcasts_S1x4096_S96x4096 x0 x1 x2 x3 x4 x5 x6 x7 x8 x9 y : EReal) := by
  have hA : ∀ x : Vec Idealize.ShloMosaic.Ideal S96x1024 .fp8e4m3, View.ld x r0_1 = x := fun x => View.ld_unit_lit _ x (by decide)
  have hB : ∀ x : Vec Idealize.ShloMosaic.Ideal S4096x1024 .i8, View.ld x r0_2 = x := fun x => View.ld_unit_lit _ x (by decide)
  have hC : View.ld x8 r0_3 = x8 := View.ld_unit_lit _ x8 (by decide)
  have hD : View.ld x9 r0_4 = x9 := View.ld_unit_lit _ x9 (by decide)
  have hE : View.ld x10 r0_0 = x10 := View.ld_unit_lit _ x10 (by decide)
  unfold out0_11
  rw [View.canon_cons_unit_lit _ _ _ (by decide), hA x0, hA x1, hA x2, hA x3, hB x4, hB x5, hB x6, hB x7, hC, hD, hE]
  rfl

/-- The result as a function of the arguments. -/
def RESULT (a : Vec Idealize.ShloMosaic.Ideal S96x4096 .fp8e4m3) (sa : Vec Idealize.ShloMosaic.Ideal S96x1 .f32) (v : Vec Idealize.ShloMosaic.Ideal S4096x2048 .i8)
    (mt : Vec Idealize.ShloMosaic.Ideal S4096x256 .i16) (sc : Vec Idealize.ShloMosaic.Ideal S4096 .f32) (res : Vec Idealize.ShloMosaic.Ideal S96x4096 .bf16) (y : S96x4096.Idx) : EReal :=
  natAt (α := EReal) 0 res (y 0).val (y 1).val + linearAt 1024 a sa v mt sc (y 0).val (y 1).val

theorem final :
    (dats m 0 c).arrAt 11 cfg0.N = RESULT (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 11 _ (by decide +kernel) fun t hf y => ?_
  blk_simp
  obtain ⟨w0, w1, w2, w3, w4, w5, w6, w7, w8, w9, w10⟩ := whole m c t
  rw [after0_11, w0, w1, w2, w3, w4, w5, w6, w7, w8, w9, w10, stored, V_main_arg5]
  rw [product_at]
  have e0 : (((win0_11.blk t).view.emb y) 0).val = (y 0).val := by blk_simp [idx t]
  have e1 : (((win0_11.blk t).view.emb y) 1).val = (y 1).val := by blk_simp [idx t]
  show _ = natAt (α := EReal) 0 _ (((win0_11.blk t).view.emb y) 0).val (((win0_11.blk t).view.emb y) 1).val
    + linearAt 1024 _ _ _ _ _ (((win0_11.blk t).view.emb y) 0).val (((win0_11.blk t).view.emb y) 1).val
  rw [e0, e1, natAt_of (α := EReal) 0 (m ((c : Thread nD τ).loc main_arg5)) _ _ y rfl rfl]

end Cert.WoReferenceIdeal.Value

end
-- ==== Proof.DownTrip.lean ====
/-
  One loop trip of the down projection kernel: its loads, named by tile number, and the block it writes as a scaled expansion.
-/
module

public import proofs.«01_k».proof.Proof.LinearKit
public import proofs.«01_k».proof.Proof.Gen.DownIdeal.Value

@[expose] public section

set_option maxRecDepth 65536

noncomputable section

namespace Cert.DownIdeal.Gen

open Idealize.ShloMosaic Idealize.ShloMosaic.TcCoe Idealize.ShloMosaic.Tactic
open Cert.Expand

/-- Where the bytes of column tile `ct` are loaded. -/
def offV (k : Fin k0_t1_loop.trips) (ct : Nat) (b : BitVec 32) : Fin 2 → Nat :=
  match ct with
  | 0 => k0_off2 k b | 1 => k0_off3 k b | 2 => k0_off4 k b | 3 => k0_off5 k b
  | 4 => k0_off6 k b | 5 => k0_off7 k b | 6 => k0_off8 k b | 7 => k0_off9 k b
  | 8 => k0_off11 k b | 9 => k0_off12 k b | 10 => k0_off13 k b | 11 => k0_off14 k b
  | 12 => k0_off15 k b | 13 => k0_off16 k b | 14 => k0_off17 k b | 15 => k0_off18 k b
  | 16 => k0_off20 k b | 17 => k0_off21 k b | 18 => k0_off22 k b | 19 => k0_off23 k b
  | 20 => k0_off24 k b | 21 => k0_off25 k b | 22 => k0_off26 k b | 23 => k0_off27 k b
  | 24 => k0_off29 k b | 25 => k0_off30 k b | 26 => k0_off31 k b | 27 => k0_off32 k b
  | 28 => k0_off33 k b | 29 => k0_off34 k b | 30 => k0_off35 k b | 31 => k0_off36 k b
  | 32 => k0_off38 k b | 33 => k0_off39 k b | 34 => k0_off40 k b | 35 => k0_off41 k b
  | 36 => k0_off42 k b | 37 => k0_off43 k b | 38 => k0_off44 k b | 39 => k0_off45 k b
  | 40 => k0_off47 k b | 41 => k0_off48 k b | 42 => k0_off49 k b | 43 => k0_off50 k b
  | 44 => k0_off51 k b | 45 => k0_off52 k b | 46 => k0_off53 k b | 47 => k0_off54 k b
  | 48 => k0_off56 k b | 49 => k0_off57 k b | 50 => k0_off58 k b | 51 => k0_off59 k b
  | 52 => k0_off60 k b | 53 => k0_off61 k b | 54 => k0_off62 k b | _ => k0_off63 k b

theorem offV_inb (k : Fin k0_t1_loop.trips) (ct : Nat) (r : Fin 8) :
    ∀ a, (offV k ct (BitVec.ofNat 32 (32 * r.val))) a + S32x128.size a ≤ S512x7168.size a := by
  unfold offV
  split
  exacts [k0_off2_inb k r, k0_off3_inb k r, k0_off4_inb k r, k0_off5_inb k r, k0_off6_inb k r, k0_off7_inb k r, k0_off8_inb k r,
    k0_off9_inb k r, k0_off11_inb k r, k0_off12_inb k r, k0_off13_inb k r, k0_off14_inb k r, k0_off15_inb k r, k0_off16_inb k r,
    k0_off17_inb k r, k0_off18_inb k r, k0_off20_inb k r, k0_off21_inb k r, k0_off22_inb k r, k0_off23_inb k r, k0_off24_inb k r,
    k0_off25_inb k r, k0_off26_inb k r, k0_off27_inb k r, k0_off29_inb k r, k0_off30_inb k r, k0_off31_inb k r, k0_off32_inb k r,
    k0_off33_inb k r, k0_off34_inb k r, k0_off35_inb k r, k0_off36_inb k r, k0_off38_inb k r, k0_off39_inb k r, k0_off40_inb k r,
    k0_off41_inb k r, k0_off42_inb k r, k0_off43_inb k r, k0_off44_inb k r, k0_off45_inb k r, k0_off47_inb k r, k0_off48_inb k r,
    k0_off49_inb k r, k0_off50_inb k r, k0_off51_inb k r, k0_off52_inb k r, k0_off53_inb k r, k0_off54_inb k r, k0_off56_inb k r,
    k0_off57_inb k r, k0_off58_inb k r, k0_off59_inb k r, k0_off60_inb k r, k0_off61_inb k r, k0_off62_inb k r, k0_off63_inb k r]

/-- Where the metadata of column tile `mt` is loaded. -/
def offM (k : Fin k0_t1_loop.trips) (mt : Nat) (b : BitVec 32) : Fin 2 → Nat :=
  match mt with
  | 0 => k0_off1 k b | 1 => k0_off10 k b | 2 => k0_off19 k b | 3 => k0_off28 k b | 4 => k0_off37 k b | 5 => k0_off46 k b | _ => k0_off55 k b

theorem offM_inb (k : Fin k0_t1_loop.trips) (mt : Nat) (r : Fin 8) :
    ∀ a, (offM k mt (BitVec.ofNat 32 (32 * r.val))) a + S32x128.size a ≤ S512x896.size a := by
  unfold offM
  split
  exacts [k0_off1_inb k r, k0_off10_inb k r, k0_off19_inb k r, k0_off28_inb k r, k0_off37_inb k r, k0_off46_inb k r, k0_off55_inb k r]

theorem offA_inb (j n : Nat) : ∀ a, (![0, j % 4 * 3584 + n % 14 * 256] : Fin 2 → Nat) a + S96x256.size a ≤ S96x14336.size a := by
  intro a
  match a with
  | ⟨0, _⟩ => exact Nat.le_refl 96
  | ⟨1, _⟩ => show j % 4 * 3584 + n % 14 * 256 + 256 ≤ 14336; omega

variable {F : FTy → Type} [FloatOps F]

/-- The tiles of bytes, metadata, activations and scales that trip `k` loads. -/
def ldV (arg : Memref sig .tc .vmem S512x7168 .i8) (X : BufTy.Contents (Elt F) arg.view.ty) (k : Fin k0_t1_loop.trips)
    (ct : Nat) (rg : Fin 8) : IVec S32x128 8 :=
  View.readAt (Elt F) arg.view (Rect.unit (s := S512x7168) (offV k ct (BitVec.ofNat 32 (32 * rg.val))) S32x128.size (offV_inb k ct rg)).toLoadRect X

def ldM (arg : Memref sig .tc .vmem S512x896 .i16) (X : BufTy.Contents (Elt F) arg.view.ty) (k : Fin k0_t1_loop.trips)
    (mt : Nat) (rg : Fin 8) : IVec S32x128 16 :=
  View.readAt (Elt F) arg.view (Rect.unit (s := S512x896) (offM k mt (BitVec.ofNat 32 (32 * rg.val))) S32x128.size (offM_inb k mt rg)).toLoadRect X

def ldA (arg : Memref sig .tc .vmem S96x14336 .fp8e4m3) (X : BufTy.Contents (Elt F) arg.view.ty) (j n : Nat) :
    FVec F S96x256 .fp8e4m3 :=
  View.readAt (Elt F) arg.view (Rect.unit (s := S96x14336) ![0, j % 4 * 3584 + n % 14 * 256] S96x256.size (offA_inb j n)).toLoadRect X

def ldS (arg : Memref sig .tc .vmem S1x512 .f32) (X : BufTy.Contents (Elt F) arg.view.ty) (k : Fin k0_t1_loop.trips) : FVec F S1x256 .f32 :=
  View.readAt (Elt F) arg.view (Rect.unit (s := S1x512) (k0_off65 k) S1x256.size (k0_off65_inb k)).toLoadRect X

def ldR (arg : Memref sig .tc .vmem S96x1 .f32) (X : BufTy.Contents (Elt F) arg.view.ty) : FVec F S96x1 .f32 :=
  View.readAt (Elt F) arg.view (Rect.unit (s := S96x1) ![0, 0] S96x1.size inb_S96x1_S96x1_0_0).toLoadRect X

/-- The trip's product, scaled by its rows and columns. -/
def product (arg1 : Memref sig .tc .vmem S96x14336 .fp8e4m3) (arg2 : Memref sig .tc .vmem S96x1 .f32) (arg3 : Memref sig .tc .vmem S512x7168 .i8)
    (arg4 : Memref sig .tc .vmem S512x896 .i16) (arg5 : Memref sig .tc .vmem S1x512 .f32) (X_arg1 : BufTy.Contents (Elt F) arg1.view.ty)
    (X_arg2 : BufTy.Contents (Elt F) arg2.view.ty) (X_arg3 : BufTy.Contents (Elt F) arg3.view.ty) (X_arg4 : BufTy.Contents (Elt F) arg4.view.ty)
    (X_arg5 : BufTy.Contents (Elt F) arg5.view.ty) (k : Fin k0_t1_loop.trips) : FVec F S96x256 .f32 :=
  scaled broadcasts_S96x1_S96x256 shapeCasts_S1x256_S1x256 broadcasts_S1x256_S96x256
    (expandDot (ldA arg1 X_arg1) (ldV arg3 X_arg3 k) (ldM arg4 X_arg4 k) 13) (ldR arg2 X_arg2) (ldS arg5 X_arg5 k)

/-- The columns of the residual that trip `k` loads. -/
def ldX (arg : Memref sig .tc .vmem S96x512 .f32) (X : BufTy.Contents (Elt F) arg.view.ty) (k : Fin k0_t1_loop.trips) : FVec F S96x256 .f32 :=
  View.readAt (Elt F) arg.view (Rect.unit (s := S96x512) (k0_off64 k) S96x256.size (k0_off64_inb k)).toLoadRect X

theorem trip_pieces (𝒱 : Variants) (c : Dev nD) (bd : Option 𝒱.V) (i : grid0.Coords) (arg1 : Memref sig .tc .vmem S96x14336 .fp8e4m3) (harg1 : arg1.IsWhole) (arg2 : Memref sig .tc .vmem S96x1 .f32) (harg2 : arg2.IsWhole) (arg3 : Memref sig .tc .vmem S512x7168 .i8) (harg3 : arg3.IsWhole) (arg4 : Memref sig .tc .vmem S512x896 .i16) (harg4 : arg4.IsWhole) (arg5 : Memref sig .tc .vmem S1x512 .f32) (harg5 : arg5.IsWhole) (arg6 : Memref sig .tc .vmem S96x512 .f32) (harg6 : arg6.IsWhole) (arg7 : Memref sig .tc .vmem S96x512 .bf16) (harg7 : arg7.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    (trip_k0_t1 (F := F) 𝒱 c bd i arg1 harg1 arg2 harg2 arg3 harg3 arg4 harg4 arg5 harg5 arg6 harg6 arg7 harg7 X_arg1 X_arg2 X_arg3 X_arg4 X_arg5 X_arg6 k).1
      = [⟨Rect.unit (s := S96x512) (k0_off64 k) S96x256.size (k0_off64_inb k), truncf .bf16 (addf (ldX arg6 X_arg6 k) (product arg1 arg2 arg3 arg4 arg5 X_arg1 X_arg2 X_arg3 X_arg4 X_arg5 k))⟩] := by
  unfold trip_k0_t1
  rfl

end Cert.DownIdeal.Gen

end
-- ==== Proof.DownBlock.lean ====
/-
  What one grid point of the down projection kernel leaves in its output block, as a function of its input blocks.
-/
module

public import proofs.«01_k».proof.Proof.DownTrip

@[expose] public section

set_option maxRecDepth 65536

noncomputable section

namespace Cert.DownIdeal.Gen

open Idealize.ShloMosaic Idealize.ShloMosaic.TcCoe Idealize.ShloMosaic.Tactic
open Cert.Expand

theorem offV_eq : ∀ (k : Fin k0_t1_loop.trips) (ct : Fin 56) (rg : Fin 8) (a : Fin 2),
    offV k ct.val (BitVec.ofNat 32 (32 * rg.val)) a = (![256 * k.val + 32 * rg.val, 128 * ct.val] : Fin 2 → Nat) a := by
  decide +kernel

theorem offM_eq : ∀ (k : Fin k0_t1_loop.trips) (mt : Fin 7) (rg : Fin 8) (a : Fin 2),
    offM k mt.val (BitVec.ofNat 32 (32 * rg.val)) a = (![256 * k.val + 32 * rg.val, 128 * mt.val] : Fin 2 → Nat) a := by
  decide +kernel

theorem off65_eq : ∀ (k : Fin k0_t1_loop.trips) (a : Fin 2), k0_off65 k a = (![0, 256 * k.val] : Fin 2 → Nat) a := by
  decide +kernel

theorem off64_eq : ∀ (k : Fin k0_t1_loop.trips) (a : Fin 2), k0_off64 k a = (![0, 256 * k.val] : Fin 2 → Nat) a := by
  decide +kernel

theorem trips_eq : k0_t1_loop.trips = 2 := by decide +kernel

/-- The trip's product, at an index of its tile. -/
theorem product_trip (k : Fin k0_t1_loop.trips) (arg1 : Memref sig .tc .vmem S96x14336 .fp8e4m3) (harg1 : arg1.IsWhole)
    (arg2 : Memref sig .tc .vmem S96x1 .f32) (harg2 : arg2.IsWhole) (arg3 : Memref sig .tc .vmem S512x7168 .i8) (harg3 : arg3.IsWhole)
    (arg4 : Memref sig .tc .vmem S512x896 .i16) (harg4 : arg4.IsWhole) (arg5 : Memref sig .tc .vmem S1x512 .f32) (harg5 : arg5.IsWhole)
    (x0 : Vec Ideal S96x14336 .fp8e4m3) (x1 : Vec Ideal S96x1 .f32) (x2 : Vec Ideal S512x7168 .i8) (x3 : Vec Ideal S512x896 .i16)
    (x4 : Vec Ideal S1x512 .f32) (hm : MetaValid 3584 x3) (r : Fin 96) (c : Fin 256) :
    product (F := Ideal) arg1 arg2 arg3 arg4 arg5 (harg1.unread x0) (harg2.unread x1) (harg3.unread x2) (harg4.unread x3) (harg5.unread x4) k
        (ValueIdx.ix2 r c) = blockLinear 3584 x0 x1 x2 x3 x4 r.val (256 * k.val + c.val) := by
  have hk : k.val < 2 := trips_eq ▸ k.isLt
  refine scaled_trip (N := 13) x0 x1 x2 x3 x4 _ _ _ (256 * k.val) (by omega) hm ?_ ?_ ?_ ?_ ?_ r c
  · exact fun j n r q hn => read_at arg1 harg1 x0 (0 : EReal) _ (offA_inb j.val n) r q _ _ (Nat.zero_add _)
      (by show j.val % 4 * 3584 + n % 14 * 256 + q.val = _; omega)
  · exact fun ct rg p l h => read_at arg3 harg3 x2 (0#8 : BitVec 8) _ (offV_inb k ct rg) p l _ _
      (by rw [offV_eq k ⟨ct, h⟩ rg 0]; show 256 * k.val + 32 * rg.val + p.val = _; omega) (by rw [offV_eq k ⟨ct, h⟩ rg 1]; rfl)
  · exact fun mt rg p l h => read_at arg4 harg4 x3 (0#16 : BitVec 16) _ (offM_inb k mt rg) p l _ _
      (by rw [offM_eq k ⟨mt, by omega⟩ rg 0]; show 256 * k.val + 32 * rg.val + p.val = _; omega)
      (by rw [offM_eq k ⟨mt, by omega⟩ rg 1]; rfl)
  · exact fun r => read_at arg2 harg2 x1 (0 : EReal) _ inb_S96x1_S96x1_0_0 r (0 : Fin 1) _ _ (Nat.zero_add _) rfl
  · exact fun c => read_at arg5 harg5 x4 (0 : EReal) _ (k0_off65_inb k) (0 : Fin 1) c _ _ (by rw [off65_eq]; rfl) (by rw [off65_eq]; rfl)

/-- What a grid point leaves in its block. -/
def blockG (x0 : Vec Ideal S96x14336 .fp8e4m3) (x1 : Vec Ideal S96x1 .f32) (x2 : Vec Ideal S512x7168 .i8) (x3 : Vec Ideal S512x896 .i16)
    (x4 : Vec Ideal S1x512 .f32) (x5 : Vec Ideal S96x512 .f32) (y : S96x512.Idx) : EReal :=
  natAt (α := EReal) 0 x5 (y 0).val (y 1).val + blockLinear 3584 x0 x1 x2 x3 x4 (y 0).val (y 1).val

theorem out_block (c : Dev nD) (i : grid0.Coords) (arg1 : Memref sig .tc .vmem S96x14336 .fp8e4m3) (harg1 : arg1.IsWhole) (arg2 : Memref sig .tc .vmem S96x1 .f32) (harg2 : arg2.IsWhole) (arg3 : Memref sig .tc .vmem S512x7168 .i8) (harg3 : arg3.IsWhole) (arg4 : Memref sig .tc .vmem S512x896 .i16) (harg4 : arg4.IsWhole) (arg5 : Memref sig .tc .vmem S1x512 .f32) (harg5 : arg5.IsWhole) (arg6 : Memref sig .tc .vmem S96x512 .f32) (harg6 : arg6.IsWhole) (arg7 : Memref sig .tc .vmem S96x512 .bf16) (harg7 : arg7.IsWhole)
    (x0 : Vec Ideal S96x14336 .fp8e4m3) (x1 : Vec Ideal S96x1 .f32) (x2 : Vec Ideal S512x7168 .i8) (x3 : Vec Ideal S512x896 .i16) (x4 : Vec Ideal S1x512 .f32) (x5 : Vec Ideal S96x512 .f32) (h3 : MetaValid 3584 x3) :
    out0_A_6 (F := Ideal) c i arg1 harg1 arg2 harg2 arg3 harg3 arg4 harg4 arg5 harg5 arg6 harg6 arg7 harg7 x0 x1 x2 x3 x4 x5 = blockG x0 x1 x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  funext y
  refine View.canon_apply_of_pieces _ _ ?_ y (cover0_A_6 c i arg1 harg1 arg2 harg2 arg3 harg3 arg4 harg4 arg5 harg5 arg6 harg6 arg7 harg7 x0 x1 x2 x3 x4 x5 y)
  unfold kernelRun0_A
  dsimp only
  have key : ∀ n : Nat, n ≤ k0_t1_loop.trips → ∀ p ∈ pb_k0_t1 (F := Ideal) Variants.none c none i arg1 harg1 arg2 harg2 arg3 harg3 arg4 harg4 arg5 harg5 arg6 harg6 arg7 harg7
      (harg1.unread x0) (harg2.unread x1) (harg3.unread x2) (harg4.unread x3) (harg5.unread x4) (harg6.unread x5) n,
      ∀ x : p.1.shape.Idx, p.2 x = blockG x0 x1 x2 x3 x4 x5 (p.1.emb x) := by
    intro n
    induction n with
    | zero => intro _ p hp; rw [pb_k0_t1.eq_1] at hp; exact absurd hp List.not_mem_nil
    | succ n ih =>
      intro hn p hp
      have hs := pb_k0_t1_succ (F := Ideal) Variants.none c none i arg1 harg1 arg2 harg2 arg3 harg3 arg4 harg4 arg5 harg5 arg6 harg6 arg7 harg7
        (harg1.unread x0) (harg2.unread x1) (harg3.unread x2) (harg4.unread x3) (harg5.unread x4) (harg6.unread x5) ⟨n, hn⟩
      rw [show (⟨n, hn⟩ : Fin k0_t1_loop.trips).val + 1 = n + 1 from rfl] at hs
      rw [hs] at hp
      rcases List.mem_append.mp hp with hp | hp
      · rw [tripL_k0_t1, trip_pieces] at hp
        obtain rfl := List.mem_singleton.mp hp
        exact piece_block (T := 512) (fun r q => natAt (α := EReal) 0 x5 r q + blockLinear 3584 x0 x1 x2 x3 x4 r q) _ (k0_off64_inb ⟨n, hn⟩)
          (by rw [off64_eq]; rfl) (by rw [off64_eq]; rfl) _ fun r l => congrArg₂ (fun p q : EReal => p + q)
            (read_at arg6 harg6 x5 (0 : EReal) _ (k0_off64_inb ⟨n, hn⟩) r l _ _ (by rw [off64_eq]; exact Nat.zero_add _) (by rw [off64_eq]; rfl))
            (product_trip ⟨n, hn⟩ arg1 harg1 arg2 harg2 arg3 harg3 arg4 harg4 arg5 harg5 x0 x1 x2 x3 x4 h3 r l)
      · exact ih (by omega) p hp
  exact key _ (Nat.le_of_eq rfl)

end Cert.DownIdeal.Gen

end
-- ==== Proof.DownValue.lean ====
/-
  The down projection kernel's result array as a function of its arguments.
-/
module

public import proofs.«01_k».proof.Proof.DownBlock
public import Idealize.ShloMosaic.Lib.Pointwise

@[expose] public section

set_option maxRecDepth 65536

noncomputable section

namespace Cert.DownIdeal.Value

open Cert.DownIdeal Cert.DownIdeal.Gen Idealize.ShloMosaic Idealize.ShloMosaic.TcCoe Idealize.SL.Sem
open Idealize.ShloMosaic.Pipeline (Dat)
open Cert.Expand

variable (m : (ℓ : Loc nD τ sig) → Buf (Elt Ideal) ℓ) (c : Dev nD)

/-- Every window's block index. -/
theorem idx : ∀ t : Fin cfg0.N, win0_0.index t = ![0, 0] ∧ win0_1.index t = ![0, 0] ∧ win0_2.index t = ![t.val, 0]
    ∧ win0_3.index t = ![t.val, 0] ∧ win0_4.index t = ![0, t.val] ∧ win0_5.index t = ![0, t.val] ∧ win0_6.index t = ![0, t.val] :=
  (by decide +kernel : ∀ t : Fin grid0.N, _)

theorem entry_v2 : V m c main_v2 = shapeCast S96x14336 (transpose S96x4x3584 [0, 2, 1] (shapeCast S96x3584x4
    (m ((c : Thread nD τ).loc main_arg0)) shapeCasts_S96x14336_S96x3584x4) transposes_S96x3584x4_S96x4x3584_0_2_1) shapeCasts_S96x4x3584_S96x14336 := by
  entry_read
  try rfl

theorem entry_v3 : V m c main_v3 = shapeCast S1x4096 (m ((c : Thread nD τ).loc main_arg4)) shapeCasts_S4096_S1x4096 := by
  entry_read
  try rfl

/-- The point's blocks, at coordinates of the whole arrays. -/
theorem read0 (t : Fin cfg0.N) (r k : Nat) :
    natAt (α := EReal) 0 (iblk m c 0 t) r k = natAt (α := EReal) 0 (V m c main_v2) r k := by
  refine congrArg (fun x => natAt (α := EReal) 0 x r k) (funext fun y => ?_)
  unfold iblk
  blk_simp
  refine congrArg (V m c main_v2) (funext fun a => Fin.ext ?_)
  match a with
  | ⟨0, _⟩ => blk_simp [idx t]
  | ⟨1, _⟩ => blk_simp [idx t]

theorem read1 (t : Fin cfg0.N) (r : Nat) :
    natAt (α := EReal) 0 (iblk m c 1 t) r 0 = natAt (α := EReal) 0 (m ((c : Thread nD τ).loc main_arg1)) r 0 := by
  refine congrArg (fun x => natAt (α := EReal) 0 x r 0) (funext fun y => ?_)
  unfold iblk
  blk_simp
  rw [V_main_arg1]
  refine congrArg (m ((c : Thread nD τ).loc main_arg1)) (funext fun a => Fin.ext ?_)
  match a with
  | ⟨0, _⟩ => blk_simp [idx t]
  | ⟨1, _⟩ => blk_simp [idx t]

theorem readV (t : Fin cfg0.N) (q x : Nat) (hq : q < 512) (hx : x < 7168) :
    natAt (α := BitVec 8) 0#8 (iblk m c 2 t) q x = natAt (α := BitVec 8) 0#8 (m ((c : Thread nD τ).loc main_arg2)) (512 * t.val + q) x := by
  refine natAt_at (α := BitVec 8) 0#8 _ q x _ hq hx fun y h0 h1 => Eq.symm ?_
  unfold iblk
  blk_simp
  rw [V_main_arg2]
  refine natAt_of _ _ _ _ _ ?_ ?_ <;> blk_simp [idx t]
  all_goals omega

theorem readM (t : Fin cfg0.N) (q x : Nat) (hq : q < 512) (hx : x < 896) :
    natAt (α := BitVec 16) 0#16 (iblk m c 3 t) q x = natAt (α := BitVec 16) 0#16 (m ((c : Thread nD τ).loc main_arg3)) (512 * t.val + q) x := by
  refine natAt_at (α := BitVec 16) 0#16 _ q x _ hq hx fun y h0 h1 => Eq.symm ?_
  unfold iblk
  blk_simp
  rw [V_main_arg3]
  refine natAt_of _ _ _ _ _ ?_ ?_ <;> blk_simp [idx t]
  all_goals omega

theorem readS (t : Fin cfg0.N) (q : Nat) (hq : q < 512) :
    natAt (α := EReal) 0 (iblk m c 4 t) 0 q = natVec (α := EReal) 0 (m ((c : Thread nD τ).loc main_arg4)) (512 * t.val + q) := by
  have ht : t.val < 8 := t.isLt
  refine Eq.trans ?_ (reshaped_at (α := EReal) 0 (m ((c : Thread nD τ).loc main_arg4)) shapeCasts_S4096_S1x4096 _ (by omega))
  rw [← entry_v3 m c]
  refine natAt_at (α := EReal) 0 _ 0 q _ (by decide) hq fun y h0 h1 => Eq.symm ?_
  unfold iblk
  blk_simp
  refine natAt_of _ _ _ _ _ ?_ ?_ <;> blk_simp [idx t]
  all_goals omega

theorem readX (t : Fin cfg0.N) (r q : Nat) (hr : r < 96) (hq : q < 512) :
    natAt (α := EReal) 0 (iblk m c 5 t) r q = natAt (α := EReal) 0 (m ((c : Thread nD τ).loc main_arg5)) r (512 * t.val + q) := by
  refine natAt_at (α := EReal) 0 _ r q _ hr hq fun y h0 h1 => Eq.symm ?_
  unfold iblk
  blk_simp
  rw [V_main_arg5]
  refine natAt_of _ _ _ _ _ ?_ ?_ <;> blk_simp [idx t]
  all_goals omega

theorem block_valid (hm : MetaValid 3584 (m ((c : Thread nD τ).loc main_arg3))) (t : Fin cfg0.N) :
    MetaValid 3584 (iblk m c 3 t) := by
  have ht : t.val < 8 := t.isLt
  exact fun q g hq hg => valid_congr (readM m c t q (g / 4) hq (by omega)) (hm _ g (by omega) hg)

/-- The result as a function of the arguments. -/
def RESULT (a : Vec Ideal S96x14336 .fp8e4m3) (sa : Vec Ideal S96x1 .f32) (v : Vec Ideal S4096x7168 .i8) (mt : Vec Ideal S4096x896 .i16)
    (sc : Vec Ideal S4096 .f32) (res : Vec Ideal S96x4096 .f32) (y : S96x4096.Idx) : EReal :=
  natAt (α := EReal) 0 res (y 0).val (y 1).val + linearAt 3584 a sa v mt sc (y 0).val (y 1).val

theorem activations (t : Fin cfg0.N) (j r g : Nat) (hr : r < 96) (hj : j < 4) (hg : g < 3584) :
    natAt (α := EReal) 0 (iblk m c 0 t) r (3584 * j + g) = natAt (α := EReal) 0 (m ((c : Thread nD τ).loc main_arg0)) r (4 * g + j) := by
  rw [read0, entry_v2]
  exact permuted_at (α := EReal) 0 rfl _ _ _ _ r j g hr hj hg

theorem block_linear (t : Fin cfg0.N) (r q : Nat) (hr : r < 96) (hq : q < 512) :
    blockLinear 3584 (iblk m c 0 t) (iblk m c 1 t) (iblk m c 2 t) (iblk m c 3 t) (iblk m c 4 t) r q
      = linearAt 3584 (m ((c : Thread nD τ).loc main_arg0)) (m ((c : Thread nD τ).loc main_arg1)) (m ((c : Thread nD τ).loc main_arg2))
          (m ((c : Thread nD τ).loc main_arg3)) (m ((c : Thread nD τ).loc main_arg4)) r (512 * t.val + q) :=
  blockLinear_at (fun j g hj hg => activations m c t j r g hr hj hg) (read1 m c t r) (fun x hx => readV m c t q x hq hx)
    (fun x hx => readM m c t q x hq (by omega)) (readS m c t q hq)

/-- The kernel's result array. -/
theorem final (hm : MetaValid 3584 (m ((c : Thread nD τ).loc main_arg3))) :
    (dats m 0 c).arrAt 6 cfg0.N = RESULT (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  blk_simp
  rw [after0_6]
  unfold outsAt0
  have ht : t.val < 8 := t.isLt
  rw [out_block _ _ _ _ _ _ _ _ _ _ _ _ _ _ _ _ _ _ _ _ _ _ (block_valid m c hm t)]
  have e0 : (((win0_6.blk t).view.emb y) 0).val = (y 0).val := by blk_simp [idx t]
  have e1 : (((win0_6.blk t).view.emb y) 1).val = 512 * t.val + (y 1).val := by blk_simp [idx t]; omega
  unfold blockG RESULT
  have hr : (y 0).val < 96 := (y 0).isLt
  have hq : (y 1).val < 512 := (y 1).isLt
  rw [block_linear m c t _ _ hr hq, readX m c t _ _ hr hq]
  show _ = natAt (α := EReal) 0 _ (((win0_6.blk t).view.emb y) 0).val (((win0_6.blk t).view.emb y) 1).val
    + linearAt 3584 _ _ _ _ _ (((win0_6.blk t).view.emb y) 0).val (((win0_6.blk t).view.emb y) 1).val
  rw [e0, e1]

end Cert.DownIdeal.Value

end
-- ==== Proof.DownReferenceValue.lean ====
/-
  What the down projection reference leaves in its result: the linear map of the plain reading, added to the residual.
-/
module

public import proofs.«01_k».proof.Proof.LinearReference
public import proofs.«01_k».proof.Proof.Gen.DownReferenceIdeal.Value
public import Idealize.ShloMosaic.Lib.Claim
public import Idealize.ShloMosaic.Lib.Pipeline.ValueKit

@[expose] public section

noncomputable section

namespace Cert.DownReferenceIdeal.Value

open Cert.DownReferenceIdeal Cert.DownReferenceIdeal.Gen Idealize.ShloMosaic Idealize.ShloMosaic.TcCoe Idealize.SL.Sem
open Idealize.ShloMosaic.Pipeline (Dat)
open Cert.Expand

variable (m : (ℓ : Loc nD τ sig) → Buf (Elt Idealize.ShloMosaic.Ideal) ℓ) (c : Dev nD)

theorem plain : PlainFacts 4096 896 3584 where
  hw := natLt_16_32
  hG := rfl
  rep := bcast_S4096x896_S4096x896x4_0_1
  flat := shapeCasts_S4096x896x4_S4096x3584
  one := bcast_S_S3584
  row := bcast_S3584_S1x3584_1
  rows := bcast_S1x3584_S4096x3584_0_1
  two := bcast_S_S4096x3584
  even := slicesBy_S4096x7168_S4096x3584_0s1_0s2
  odd := slicesBy_S4096x7168_S4096x3584_0s1_1s2

set_option maxHeartbeats 16000000 in
/-- The four planes of kept bytes. -/
theorem entry_planes :
    V m c main_v23 = kept plain 0#32 (m ((c : Thread nD τ).loc main_arg2)) (m ((c : Thread nD τ).loc main_arg3))
    ∧ V m c main_v29 = kept plain 1#32 (m ((c : Thread nD τ).loc main_arg2)) (m ((c : Thread nD τ).loc main_arg3))
    ∧ V m c main_v35 = kept plain 2#32 (m ((c : Thread nD τ).loc main_arg2)) (m ((c : Thread nD τ).loc main_arg3))
    ∧ V m c main_v41 = kept plain 3#32 (m ((c : Thread nD τ).loc main_arg2)) (m ((c : Thread nD τ).loc main_arg3)) := by
  refine ⟨?_, ?_, ?_, ?_⟩
  all_goals
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    entry_read
    rfl

set_option maxHeartbeats 16000000 in
/-- Every fourth column of the activations, and the scales as a row. -/
theorem entry_operands :
    V m c main_v42 = Host.slice S96x3584 ![0, 0] ![1, 4] (m ((c : Thread nD τ).loc main_arg0)) slicesBy_S96x14336_S96x3584_0s1_0s4
    ∧ V m c main_v43 = Host.slice S96x3584 ![0, 1] ![1, 4] (m ((c : Thread nD τ).loc main_arg0)) slicesBy_S96x14336_S96x3584_0s1_1s4
    ∧ V m c main_v44 = Host.slice S96x3584 ![0, 2] ![1, 4] (m ((c : Thread nD τ).loc main_arg0)) slicesBy_S96x14336_S96x3584_0s1_2s4
    ∧ V m c main_v45 = Host.slice S96x3584 ![0, 3] ![1, 4] (m ((c : Thread nD τ).loc main_arg0)) slicesBy_S96x14336_S96x3584_0s1_3s4
    ∧ V m c main_v46 = shapeCast S1x4096 (m ((c : Thread nD τ).loc main_arg4)) shapeCasts_S4096_S1x4096 := by
  refine ⟨?_, ?_, ?_, ?_, ?_⟩
  all_goals
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    entry_read
    try rfl

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] := by
  decide +kernel

set_option maxHeartbeats 4000000 in
/-- Every input block is its whole array. -/
theorem whole (t : Fin cfg0.N) : iblk m c 0 t = V m c main_v42 ∧ iblk m c 1 t = V m c main_v43 ∧ iblk m c 2 t = V m c main_v44
    ∧ iblk m c 3 t = V m c main_v45 ∧ iblk m c 4 t = V m c main_v23 ∧ iblk m c 5 t = V m c main_v29 ∧ iblk m c 6 t = V m c main_v35
    ∧ iblk m c 7 t = V m c main_v41 ∧ iblk m c 8 t = V m c main_arg1 ∧ iblk m c 9 t = V m c main_v46
    ∧ iblk m c 10 t = V m c main_arg5 := by
  refine ⟨?_, ?_, ?_, ?_, ?_, ?_, ?_, ?_, ?_, ?_, ?_⟩
  all_goals
    funext y
    unfold iblk
    blk_simp
    refine congrArg (V m c _) (funext fun a => Fin.ext ?_)
    match a with
    | ⟨0, _⟩ => blk_simp [idx t]
    | ⟨1, _⟩ => blk_simp [idx t]

/-- The scaled sum of products, at an index. -/
theorem product_at (i : S96x4096.Idx) :
    planesScaled shapeCasts_S96x3584_S96x3584 shapeCasts_S4096x3584_S4096x3584 broadcasts_S96x1_S96x4096 shapeCasts_S1x4096_S1x4096
        broadcasts_S1x4096_S96x4096 (V m c main_v42) (V m c main_v43) (V m c main_v44) (V m c main_v45) (V m c main_v23) (V m c main_v29)
        (V m c main_v35) (V m c main_v41) (V m c main_arg1) (V m c main_v46) i
      = linearAt 3584 (m ((c : Thread nD τ).loc main_arg0)) (m ((c : Thread nD τ).loc main_arg1)) (m ((c : Thread nD τ).loc main_arg2))
          (m ((c : Thread nD τ).loc main_arg3)) (m ((c : Thread nD τ).loc main_arg4)) (i 0).val (i 1).val := by
  obtain ⟨p0, p1, p2, p3⟩ := entry_planes m c
  obtain ⟨a0, a1, a2, a3, s⟩ := entry_operands m c
  rw [p0, p1, p2, p3, V_main_arg1]
  exact planesScaled_at (B := 96) (N := 4096) (Q := 896) (G := 3584) plain (by decide) (by decide) (by decide) _ _ _ _ _
    (m ((c : Thread nD τ).loc main_arg0)) _ _ _ (m ((c : Thread nD τ).loc main_arg4)) _ _ _ _ _
    (by rw [a0]; exact strided_at (α := EReal) 0 (j := 0) _ _) (by rw [a1]; exact strided_at (α := EReal) 0 (j := 1) _ _)
    (by rw [a2]; exact strided_at (α := EReal) 0 (j := 2) _ _) (by rw [a3]; exact strided_at (α := EReal) 0 (j := 3) _ _)
    (by rw [s]; exact reshaped_at (α := EReal) 0 _ _) i

/-- The body's one store. -/
theorem stored (x0 x1 x2 x3 : Vec Idealize.ShloMosaic.Ideal S96x3584 .fp8e4m3) (x4 x5 x6 x7 : Vec Idealize.ShloMosaic.Ideal S4096x3584 .i8)
    (x8 : Vec Idealize.ShloMosaic.Ideal S96x1 .f32) (x9 : Vec Idealize.ShloMosaic.Ideal S1x4096 .f32) (x10 : Vec Idealize.ShloMosaic.Ideal S96x4096 .f32) (y : S96x4096.Idx) :
    out0_11 x0 x1 x2 x3 x4 x5 x6 x7 x8 x9 x10 y
      = (x10 y + planesScaled shapeCasts_S96x3584_S96x3584 shapeCasts_S4096x3584_S4096x3584 broadcasts_S96x1_S96x4096 shapeCasts_S1x4096_S1x4096
          broadcasts_S1x4096_S96x4096 x0 x1 x2 x3 x4 x5 x6 x7 x8 x9 y : EReal) := by
  have hA : ∀ x : Vec Idealize.ShloMosaic.Ideal S96x3584 .fp8e4m3, View.ld x r0_1 = x := fun x => View.ld_unit_lit _ x (by decide)
  have hB : ∀ x : Vec Idealize.ShloMosaic.Ideal S4096x3584 .i8, View.ld x r0_2 = x := fun x => View.ld_unit_lit _ x (by decide)
  have hC : View.ld x8 r0_3 = x8 := View.ld_unit_lit _ x8 (by decide)
  have hD : View.ld x9 r0_4 = x9 := View.ld_unit_lit _ x9 (by decide)
  have hE : View.ld x10 r0_0 = x10 := View.ld_unit_lit _ x10 (by decide)
  unfold out0_11
  rw [View.canon_cons_unit_lit _ _ _ (by decide), hA x0, hA x1, hA x2, hA x3, hB x4, hB x5, hB x6, hB x7, hC, hD, hE]
  rfl

/-- The result as a function of the arguments. -/
def RESULT (a : Vec Idealize.ShloMosaic.Ideal S96x14336 .fp8e4m3) (sa : Vec Idealize.ShloMosaic.Ideal S96x1 .f32) (v : Vec Idealize.ShloMosaic.Ideal S4096x7168 .i8)
    (mt : Vec Idealize.ShloMosaic.Ideal S4096x896 .i16) (sc : Vec Idealize.ShloMosaic.Ideal S4096 .f32) (res : Vec Idealize.ShloMosaic.Ideal S96x4096 .f32) (y : S96x4096.Idx) : EReal :=
  natAt (α := EReal) 0 res (y 0).val (y 1).val + linearAt 3584 a sa v mt sc (y 0).val (y 1).val

theorem final :
    (dats m 0 c).arrAt 11 cfg0.N = RESULT (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 11 _ (by decide +kernel) fun t hf y => ?_
  blk_simp
  obtain ⟨w0, w1, w2, w3, w4, w5, w6, w7, w8, w9, w10⟩ := whole m c t
  rw [after0_11, w0, w1, w2, w3, w4, w5, w6, w7, w8, w9, w10, stored, V_main_arg5]
  rw [product_at]
  have e0 : (((win0_11.blk t).view.emb y) 0).val = (y 0).val := by blk_simp [idx t]
  have e1 : (((win0_11.blk t).view.emb y) 1).val = (y 1).val := by blk_simp [idx t]
  show _ = natAt (α := EReal) 0 _ (((win0_11.blk t).view.emb y) 0).val (((win0_11.blk t).view.emb y) 1).val
    + linearAt 3584 _ _ _ _ _ (((win0_11.blk t).view.emb y) 0).val (((win0_11.blk t).view.emb y) 1).val
  rw [e0, e1, natAt_of (α := EReal) 0 (m ((c : Thread nD τ).loc main_arg5)) _ _ y rfl rfl]

end Cert.DownReferenceIdeal.Value

end
-- ==== Proof.Linears.lean ====
/-
  The qkv, output and down projections: their preconditions read back, and each kernel's result against its reference's.
-/
module

public import proofs.«01_k».proof.Defs
public import proofs.«01_k».proof.Proof.GateUpValid
public import proofs.«01_k».proof.Proof.QkvValue
public import proofs.«01_k».proof.Proof.QkvReferenceValue
public import proofs.«01_k».proof.Proof.WoValue
public import proofs.«01_k».proof.Proof.WoReferenceValue
public import proofs.«01_k».proof.Proof.DownValue
public import proofs.«01_k».proof.Proof.DownReferenceValue
public import proofs.«01_k».proof.Proof.Gen.Pre_metadata_valid_qkv
public import proofs.«01_k».proof.Proof.Gen.Pre_metadata_valid_wo
public import proofs.«01_k».proof.Proof.Gen.Pre_metadata_valid_down
public import Idealize.ShloMosaic.Lib.ReduceAll
public import Idealize.ShloMosaic.Lib.Claim

@[expose] public section

noncomputable section

namespace Cert.Expand

open Idealize.ShloMosaic

/-- The precondition's comparison of two neighbouring fields of a metadata word. -/
def fieldsBit (w : BitVec 16) (b : Nat) : BitVec 1 :=
  IntOp.cmpi .slt (IntOp.andi (IntOp.shrui .host (w.setWidth 32) (BitVec.ofNat 32 b)) 3#32)
    (IntOp.andi (IntOp.shrui .host (w.setWidth 32) (BitVec.ofNat 32 (b + 2))) 3#32)

/-- The four groups of a word. -/
theorem word_fields (w : BitVec 16)
    (h : IntOp.andi (IntOp.andi (IntOp.andi (fieldsBit w 0) (fieldsBit w 4)) (fieldsBit w 8)) (fieldsBit w 12) = 1#1) (n : Nat) (hn : n < 4) :
    (idx w (4 * n)).toNat < (idx w (4 * n + 2)).toNat := by
  obtain ⟨h2, g3⟩ := IntOp.andi_eq_one.1 h
  obtain ⟨h1, g2⟩ := IntOp.andi_eq_one.1 h2
  obtain ⟨g0, g1⟩ := IntOp.andi_eq_one.1 h1
  match n, hn with
  | 0, _ => exact fields_lt w 0 (by decide) g0
  | 1, _ => exact fields_lt w 4 (by decide) g1
  | 2, _ => exact fields_lt w 8 (by decide) g2
  | 3, _ => exact fields_lt w 12 (by decide) g3

/-- An array of valid words is valid metadata. -/
theorem metaValid_of {R Q : Nat} (x : (⟨2, ![R, Q]⟩ : Shape).Idx → BitVec 16)
    (h : ∀ i, IntOp.andi (IntOp.andi (IntOp.andi (fieldsBit (x i) 0) (fieldsBit (x i) 4)) (fieldsBit (x i) 8)) (fieldsBit (x i) 12) = 1#1) :
    MetaValid (4 * Q) x := by
  intro c g hc hg
  unfold Valid
  rw [natAt_ix (α := BitVec 16) 0#16 x c (g / 4) hc (by omega)]
  exact word_fields _ (h _) (g % 4) (Nat.mod_lt _ (by decide))

end Cert.Expand

namespace Cert.Pre_metadata_valid_qkv

open Idealize.ShloMosaic Cert.Expand

theorem meta_valid (a : FVec Ideal S96x4096 .fp8e4m3) (sa : FVec Ideal S96x1 .f32) (v : IVec S6144x2048 8) (x : IVec S6144x256 16)
    (sc : FVec Ideal S6144 .f32) (j : S_.Idx) (h : fn (F := Ideal) a sa v x sc j = 1#1) : MetaValid 1024 x := by
  haveI : Subsingleton S_.Idx := ⟨fun p q => funext fun k => k.elim0⟩
  unfold fn fn_part1 fn_part2 at h
  dsimp only at h
  exact metaValid_of (Q := 256) x fun i => Host.reduce_andi_all _ _ _ _ j h i

end Cert.Pre_metadata_valid_qkv

namespace Cert.Pre_metadata_valid_wo

open Idealize.ShloMosaic Cert.Expand

theorem meta_valid (a : FVec Ideal S96x4096 .fp8e4m3) (sa : FVec Ideal S96x1 .f32) (v : IVec S4096x2048 8) (x : IVec S4096x256 16)
    (sc : FVec Ideal S4096 .f32) (res : FVec Ideal S96x4096 .bf16) (j : S_.Idx) (h : fn (F := Ideal) a sa v x sc res j = 1#1) : MetaValid 1024 x := by
  haveI : Subsingleton S_.Idx := ⟨fun p q => funext fun k => k.elim0⟩
  unfold fn fn_part1 fn_part2 at h
  dsimp only at h
  exact metaValid_of (Q := 256) x fun i => Host.reduce_andi_all _ _ _ _ j h i

end Cert.Pre_metadata_valid_wo

namespace Cert.Pre_metadata_valid_down

open Idealize.ShloMosaic Cert.Expand

theorem meta_valid (a : FVec Ideal S96x14336 .fp8e4m3) (sa : FVec Ideal S96x1 .f32) (v : IVec S4096x7168 8) (x : IVec S4096x896 16)
    (sc : FVec Ideal S4096 .f32) (res : FVec Ideal S96x4096 .f32) (j : S_.Idx) (h : fn (F := Ideal) a sa v x sc res j = 1#1) : MetaValid 3584 x := by
  haveI : Subsingleton S_.Idx := ⟨fun p q => funext fun k => k.elim0⟩
  unfold fn fn_part1 fn_part2 at h
  dsimp only at h
  exact metaValid_of (Q := 896) x fun i => Host.reduce_andi_all _ _ _ _ j h i

end Cert.Pre_metadata_valid_down

namespace Cert.Proof

open Idealize.ShloMosaic Idealize.SL.Sem

/-- The qkv projection kernel's result is its reference's, over metadata that names its columns in increasing order. -/
theorem algebraic_Qkv : Cert.algebraic_QkvIdeal_QkvReferenceIdeal_pre_metadata_valid_qkv
    (hQkvIdeal := Cert.QkvIdeal.Gen.facts) (hQkvReferenceIdeal := Cert.QkvReferenceIdeal.Gen.facts)
    (hPre_metadata_valid_qkv := Cert.Pre_metadata_valid_qkv.Gen.facts) := by
  intro m g m' g' hpre hagree
  refine ⟨fun c => Cert.QkvIdeal.Value.RESULT (m ((c.tc : Thread Cert.QkvIdeal.nD Cert.QkvIdeal.τ).loc Cert.QkvIdeal.main_arg0))
      (m ((c.tc : Thread Cert.QkvIdeal.nD Cert.QkvIdeal.τ).loc Cert.QkvIdeal.main_arg1))
      (m ((c.tc : Thread Cert.QkvIdeal.nD Cert.QkvIdeal.τ).loc Cert.QkvIdeal.main_arg2))
      (m ((c.tc : Thread Cert.QkvIdeal.nD Cert.QkvIdeal.τ).loc Cert.QkvIdeal.main_arg3))
      (m ((c.tc : Thread Cert.QkvIdeal.nD Cert.QkvIdeal.τ).loc Cert.QkvIdeal.main_arg4)), ?_, ?_⟩
  · exact θ_run_mono (Cert.QkvIdeal.Value.run_blocks m g) fun r h c =>
      ⟨(h c).1.trans (Cert.QkvIdeal.Value.final m c (Cert.Pre_metadata_valid_qkv.meta_valid _ _ _ _ _ (Shape.Idx.first (by decide)) (congrFun (hpre c) _))), (h c).2⟩
  · refine θ_run_mono (Cert.QkvReferenceIdeal.Value.run_blocks m' g') fun r h c => ⟨(h c).1.trans ?_, (h c).2⟩
    obtain ⟨h0, h1, h2, h3, h4⟩ := hagree c
    rw [Cert.QkvReferenceIdeal.Value.final m' c, h0, h1, h2, h3, h4]
    rfl

/-- The output projection kernel's result is its reference's, over metadata that names its columns in increasing order. -/
theorem algebraic_Wo : Cert.algebraic_WoIdeal_WoReferenceIdeal_pre_metadata_valid_wo
    (hWoIdeal := Cert.WoIdeal.Gen.facts) (hWoReferenceIdeal := Cert.WoReferenceIdeal.Gen.facts)
    (hPre_metadata_valid_wo := Cert.Pre_metadata_valid_wo.Gen.facts) := by
  intro m g m' g' hpre hagree
  refine ⟨fun c => Cert.WoIdeal.Value.RESULT (m ((c.tc : Thread Cert.WoIdeal.nD Cert.WoIdeal.τ).loc Cert.WoIdeal.main_arg0))
      (m ((c.tc : Thread Cert.WoIdeal.nD Cert.WoIdeal.τ).loc Cert.WoIdeal.main_arg1))
      (m ((c.tc : Thread Cert.WoIdeal.nD Cert.WoIdeal.τ).loc Cert.WoIdeal.main_arg2))
      (m ((c.tc : Thread Cert.WoIdeal.nD Cert.WoIdeal.τ).loc Cert.WoIdeal.main_arg3))
      (m ((c.tc : Thread Cert.WoIdeal.nD Cert.WoIdeal.τ).loc Cert.WoIdeal.main_arg4))
      (m ((c.tc : Thread Cert.WoIdeal.nD Cert.WoIdeal.τ).loc Cert.WoIdeal.main_arg5)), ?_, ?_⟩
  · exact θ_run_mono (Cert.WoIdeal.Value.run_blocks m g) fun r h c =>
      ⟨(h c).1.trans (Cert.WoIdeal.Value.final m c (Cert.Pre_metadata_valid_wo.meta_valid _ _ _ _ _ _ (Shape.Idx.first (by decide)) (congrFun (hpre c) _))), (h c).2⟩
  · refine θ_run_mono (Cert.WoReferenceIdeal.Value.run_blocks m' g') fun r h c => ⟨(h c).1.trans ?_, (h c).2⟩
    obtain ⟨h0, h1, h2, h3, h4, h5⟩ := hagree c
    rw [Cert.WoReferenceIdeal.Value.final m' c, h0, h1, h2, h3, h4, h5]
    rfl

/-- The down projection kernel's result is its reference's, over metadata that names its columns in increasing order. -/
theorem algebraic_Down : Cert.algebraic_DownIdeal_DownReferenceIdeal_pre_metadata_valid_down
    (hDownIdeal := Cert.DownIdeal.Gen.facts) (hDownReferenceIdeal := Cert.DownReferenceIdeal.Gen.facts)
    (hPre_metadata_valid_down := Cert.Pre_metadata_valid_down.Gen.facts) := by
  intro m g m' g' hpre hagree
  refine ⟨fun c => Cert.DownIdeal.Value.RESULT (m ((c.tc : Thread Cert.DownIdeal.nD Cert.DownIdeal.τ).loc Cert.DownIdeal.main_arg0))
      (m ((c.tc : Thread Cert.DownIdeal.nD Cert.DownIdeal.τ).loc Cert.DownIdeal.main_arg1))
      (m ((c.tc : Thread Cert.DownIdeal.nD Cert.DownIdeal.τ).loc Cert.DownIdeal.main_arg2))
      (m ((c.tc : Thread Cert.DownIdeal.nD Cert.DownIdeal.τ).loc Cert.DownIdeal.main_arg3))
      (m ((c.tc : Thread Cert.DownIdeal.nD Cert.DownIdeal.τ).loc Cert.DownIdeal.main_arg4))
      (m ((c.tc : Thread Cert.DownIdeal.nD Cert.DownIdeal.τ).loc Cert.DownIdeal.main_arg5)), ?_, ?_⟩
  · exact θ_run_mono (Cert.DownIdeal.Value.run_blocks m g) fun r h c =>
      ⟨(h c).1.trans (Cert.DownIdeal.Value.final m c (Cert.Pre_metadata_valid_down.meta_valid _ _ _ _ _ _ (Shape.Idx.first (by decide)) (congrFun (hpre c) _))), (h c).2⟩
  · refine θ_run_mono (Cert.DownReferenceIdeal.Value.run_blocks m' g') fun r h c => ⟨(h c).1.trans ?_, (h c).2⟩
    obtain ⟨h0, h1, h2, h3, h4, h5⟩ := hagree c
    rw [Cert.DownReferenceIdeal.Value.final m' c, h0, h1, h2, h3, h4, h5]
    rfl

end Cert.Proof

end
-- ==== Proof.NormXValue.lean ====
/-
  The normalisation and quantisation of the layer's input: kernel and reference leave the same codes and the same scales.
-/
module

public import proofs.«01_k».proof.Proof.Gen.NormXIdeal.Value
public import proofs.«01_k».proof.Proof.Gen.NormXReferenceIdeal.Value
public import Idealize.ShloMosaic.Lib.Claim
public import Idealize.ShloMosaic.Lib.Pointwise
public import Idealize.ShloMosaic.Lib.Pipeline.ValueKit

@[expose] public section

noncomputable section

namespace Cert.NormXIdeal.Value

open Cert.NormXIdeal Cert.NormXIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] := by decide +kernel

theorem entry_v0 : V m c main_v0 = shapeCast S1x4096 (m ((c : Thread nD τ).loc main_arg1)) shapeCasts_S4096_S1x4096 := by
  entry_read
  try rfl

theorem whole0 (t : Fin cfg0.N) : iblk m c 0 t = m ((c : Thread nD τ).loc main_arg0) := by
  funext y
  unfold iblk
  blk_simp
  rw [V_main_arg0]
  refine congrArg (m ((c : Thread nD τ).loc main_arg0)) (funext fun a => Fin.ext ?_)
  match a with
  | ⟨0, _⟩ => blk_simp [idx t]
  | ⟨1, _⟩ => blk_simp [idx t]

theorem whole1 (t : Fin cfg0.N) : iblk m c 1 t = shapeCast S1x4096 (m ((c : Thread nD τ).loc main_arg1)) shapeCasts_S4096_S1x4096 := by
  rw [← entry_v0]
  funext y
  unfold iblk
  blk_simp
  refine congrArg (V m c main_v0) (funext fun a => Fin.ext ?_)
  match a with
  | ⟨0, _⟩ => blk_simp [idx t]
  | ⟨1, _⟩ => blk_simp [idx t]

/-- The body's two stores as functions of whole blocks. -/
theorem stored2 (x0 : Vec Ideal S96x4096 .bf16) (x1 : Vec Ideal S1x4096 .f32) : out0_2 x0 x1 = E2 x0 x1 := by
  have h0 : View.ld x0 r0_0 = x0 := View.ld_unit_lit _ x0 (by decide)
  have h1 : View.ld x1 r0_1 = x1 := View.ld_unit_lit _ x1 (by decide)
  funext y
  unfold out0_2
  rw [canon2_eq, h0, h1]

theorem stored3 (x0 : Vec Ideal S96x4096 .bf16) (x1 : Vec Ideal S1x4096 .f32) : out0_3 x0 x1 = E3 x0 x1 := by
  have h0 : View.ld x0 r0_0 = x0 := View.ld_unit_lit _ x0 (by decide)
  have h1 : View.ld x1 r0_1 = x1 := View.ld_unit_lit _ x1 (by decide)
  funext y
  unfold out0_3
  rw [canon3_eq, h0, h1]

/-- The codes and the scales after the run, as functions of the arguments. -/
theorem final2 : (dats m 0 c).arrAt 2 cfg0.N
    = E2 (m ((c : Thread nD τ).loc main_arg0)) (shapeCast S1x4096 (m ((c : Thread nD τ).loc main_arg1)) shapeCasts_S4096_S1x4096) := by
  refine (dats m 0 c).arrAt_eq_of_covers 2 _ (by decide +kernel) fun t hf y => ?_
  blk_simp
  rw [after0_2, whole0, whole1, stored2]
  refine congrArg (E2 (F := Ideal) _ _) (funext fun a => Fin.ext ?_)
  match a with
  | ⟨0, _⟩ => blk_simp [idx t]
  | ⟨1, _⟩ => blk_simp [idx t]

theorem final3 : (dats m 0 c).arrAt 3 cfg0.N
    = E3 (m ((c : Thread nD τ).loc main_arg0)) (shapeCast S1x4096 (m ((c : Thread nD τ).loc main_arg1)) shapeCasts_S4096_S1x4096) := by
  refine (dats m 0 c).arrAt_eq_of_covers 3 _ (by decide +kernel) fun t hf y => ?_
  blk_simp
  rw [after0_3, whole0, whole1, stored3]
  refine congrArg (E3 (F := Ideal) _ _) (funext fun a => Fin.ext ?_)
  match a with
  | ⟨0, _⟩ => blk_simp [idx t]
  | ⟨1, _⟩ => blk_simp [idx t]

end Cert.NormXIdeal.Value

namespace Cert.NormXReferenceIdeal.Value

open Cert.NormXReferenceIdeal Cert.NormXReferenceIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] := by decide +kernel

theorem entry_v0 : V m c main_v0 = shapeCast S1x4096 (m ((c : Thread nD τ).loc main_arg1)) shapeCasts_S4096_S1x4096 := by
  entry_read
  try rfl

theorem whole0 (t : Fin cfg0.N) : iblk m c 0 t = m ((c : Thread nD τ).loc main_arg0) := by
  funext y
  unfold iblk
  blk_simp
  rw [V_main_arg0]
  refine congrArg (m ((c : Thread nD τ).loc main_arg0)) (funext fun a => Fin.ext ?_)
  match a with
  | ⟨0, _⟩ => blk_simp [idx t]
  | ⟨1, _⟩ => blk_simp [idx t]

theorem whole1 (t : Fin cfg0.N) : iblk m c 1 t = shapeCast S1x4096 (m ((c : Thread nD τ).loc main_arg1)) shapeCasts_S4096_S1x4096 := by
  rw [← entry_v0]
  funext y
  unfold iblk
  blk_simp
  refine congrArg (V m c main_v0) (funext fun a => Fin.ext ?_)
  match a with
  | ⟨0, _⟩ => blk_simp [idx t]
  | ⟨1, _⟩ => blk_simp [idx t]

/-- The body's two stores as functions of whole blocks. -/
theorem stored2 (x0 : Vec Ideal S96x4096 .bf16) (x1 : Vec Ideal S1x4096 .f32) : out0_2 x0 x1 = E2 x0 x1 := by
  have h0 : View.ld x0 r0_0 = x0 := View.ld_unit_lit _ x0 (by decide)
  have h1 : View.ld x1 r0_1 = x1 := View.ld_unit_lit _ x1 (by decide)
  funext y
  unfold out0_2
  rw [canon2_eq, h0, h1]

theorem stored3 (x0 : Vec Ideal S96x4096 .bf16) (x1 : Vec Ideal S1x4096 .f32) : out0_3 x0 x1 = E3 x0 x1 := by
  have h0 : View.ld x0 r0_0 = x0 := View.ld_unit_lit _ x0 (by decide)
  have h1 : View.ld x1 r0_1 = x1 := View.ld_unit_lit _ x1 (by decide)
  funext y
  unfold out0_3
  rw [canon3_eq, h0, h1]

/-- The codes and the scales after the run, as functions of the arguments. -/
theorem final2 : (dats m 0 c).arrAt 2 cfg0.N
    = E2 (m ((c : Thread nD τ).loc main_arg0)) (shapeCast S1x4096 (m ((c : Thread nD τ).loc main_arg1)) shapeCasts_S4096_S1x4096) := by
  refine (dats m 0 c).arrAt_eq_of_covers 2 _ (by decide +kernel) fun t hf y => ?_
  blk_simp
  rw [after0_2, whole0, whole1, stored2]
  refine congrArg (E2 (F := Ideal) _ _) (funext fun a => Fin.ext ?_)
  match a with
  | ⟨0, _⟩ => blk_simp [idx t]
  | ⟨1, _⟩ => blk_simp [idx t]

theorem final3 : (dats m 0 c).arrAt 3 cfg0.N
    = E3 (m ((c : Thread nD τ).loc main_arg0)) (shapeCast S1x4096 (m ((c : Thread nD τ).loc main_arg1)) shapeCasts_S4096_S1x4096) := by
  refine (dats m 0 c).arrAt_eq_of_covers 3 _ (by decide +kernel) fun t hf y => ?_
  blk_simp
  rw [after0_3, whole0, whole1, stored3]
  refine congrArg (E3 (F := Ideal) _ _) (funext fun a => Fin.ext ?_)
  match a with
  | ⟨0, _⟩ => blk_simp [idx t]
  | ⟨1, _⟩ => blk_simp [idx t]

end Cert.NormXReferenceIdeal.Value

end
-- ==== Proof.NormHValue.lean ====
/-
  The normalisation and quantisation of the hidden state after attention: kernel and reference leave the same codes and the same scales.
-/
module

public import proofs.«01_k».proof.Proof.Gen.NormHIdeal.Value
public import proofs.«01_k».proof.Proof.Gen.NormHReferenceIdeal.Value
public import Idealize.ShloMosaic.Lib.Claim
public import Idealize.ShloMosaic.Lib.Pointwise
public import Idealize.ShloMosaic.Lib.Pipeline.ValueKit

@[expose] public section

noncomputable section

namespace Cert.NormHIdeal.Value

open Cert.NormHIdeal Cert.NormHIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] := by decide +kernel

theorem entry_v0 : V m c main_v0 = shapeCast S1x4096 (m ((c : Thread nD τ).loc main_arg1)) shapeCasts_S4096_S1x4096 := by
  entry_read
  try rfl

theorem whole0 (t : Fin cfg0.N) : iblk m c 0 t = m ((c : Thread nD τ).loc main_arg0) := by
  funext y
  unfold iblk
  blk_simp
  rw [V_main_arg0]
  refine congrArg (m ((c : Thread nD τ).loc main_arg0)) (funext fun a => Fin.ext ?_)
  match a with
  | ⟨0, _⟩ => blk_simp [idx t]
  | ⟨1, _⟩ => blk_simp [idx t]

theorem whole1 (t : Fin cfg0.N) : iblk m c 1 t = shapeCast S1x4096 (m ((c : Thread nD τ).loc main_arg1)) shapeCasts_S4096_S1x4096 := by
  rw [← entry_v0]
  funext y
  unfold iblk
  blk_simp
  refine congrArg (V m c main_v0) (funext fun a => Fin.ext ?_)
  match a with
  | ⟨0, _⟩ => blk_simp [idx t]
  | ⟨1, _⟩ => blk_simp [idx t]

/-- The body's two stores as functions of whole blocks. -/
theorem stored2 (x0 : Vec Ideal S96x4096 .f32) (x1 : Vec Ideal S1x4096 .f32) : out0_2 x0 x1 = E2 x0 x1 := by
  have h0 : View.ld x0 r0_0 = x0 := View.ld_unit_lit _ x0 (by decide)
  have h1 : View.ld x1 r0_1 = x1 := View.ld_unit_lit _ x1 (by decide)
  funext y
  unfold out0_2
  rw [canon2_eq, h0, h1]

theorem stored3 (x0 : Vec Ideal S96x4096 .f32) (x1 : Vec Ideal S1x4096 .f32) : out0_3 x0 x1 = E3 x0 x1 := by
  have h0 : View.ld x0 r0_0 = x0 := View.ld_unit_lit _ x0 (by decide)
  have h1 : View.ld x1 r0_1 = x1 := View.ld_unit_lit _ x1 (by decide)
  funext y
  unfold out0_3
  rw [canon3_eq, h0, h1]

/-- The codes and the scales after the run, as functions of the arguments. -/
theorem final2 : (dats m 0 c).arrAt 2 cfg0.N
    = E2 (m ((c : Thread nD τ).loc main_arg0)) (shapeCast S1x4096 (m ((c : Thread nD τ).loc main_arg1)) shapeCasts_S4096_S1x4096) := by
  refine (dats m 0 c).arrAt_eq_of_covers 2 _ (by decide +kernel) fun t hf y => ?_
  blk_simp
  rw [after0_2, whole0, whole1, stored2]
  refine congrArg (E2 (F := Ideal) _ _) (funext fun a => Fin.ext ?_)
  match a with
  | ⟨0, _⟩ => blk_simp [idx t]
  | ⟨1, _⟩ => blk_simp [idx t]

theorem final3 : (dats m 0 c).arrAt 3 cfg0.N
    = E3 (m ((c : Thread nD τ).loc main_arg0)) (shapeCast S1x4096 (m ((c : Thread nD τ).loc main_arg1)) shapeCasts_S4096_S1x4096) := by
  refine (dats m 0 c).arrAt_eq_of_covers 3 _ (by decide +kernel) fun t hf y => ?_
  blk_simp
  rw [after0_3, whole0, whole1, stored3]
  refine congrArg (E3 (F := Ideal) _ _) (funext fun a => Fin.ext ?_)
  match a with
  | ⟨0, _⟩ => blk_simp [idx t]
  | ⟨1, _⟩ => blk_simp [idx t]

end Cert.NormHIdeal.Value

namespace Cert.NormHReferenceIdeal.Value

open Cert.NormHReferenceIdeal Cert.NormHReferenceIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] := by decide +kernel

theorem entry_v0 : V m c main_v0 = shapeCast S1x4096 (m ((c : Thread nD τ).loc main_arg1)) shapeCasts_S4096_S1x4096 := by
  entry_read
  try rfl

theorem whole0 (t : Fin cfg0.N) : iblk m c 0 t = m ((c : Thread nD τ).loc main_arg0) := by
  funext y
  unfold iblk
  blk_simp
  rw [V_main_arg0]
  refine congrArg (m ((c : Thread nD τ).loc main_arg0)) (funext fun a => Fin.ext ?_)
  match a with
  | ⟨0, _⟩ => blk_simp [idx t]
  | ⟨1, _⟩ => blk_simp [idx t]

theorem whole1 (t : Fin cfg0.N) : iblk m c 1 t = shapeCast S1x4096 (m ((c : Thread nD τ).loc main_arg1)) shapeCasts_S4096_S1x4096 := by
  rw [← entry_v0]
  funext y
  unfold iblk
  blk_simp
  refine congrArg (V m c main_v0) (funext fun a => Fin.ext ?_)
  match a with
  | ⟨0, _⟩ => blk_simp [idx t]
  | ⟨1, _⟩ => blk_simp [idx t]

/-- The body's two stores as functions of whole blocks. -/
theorem stored2 (x0 : Vec Ideal S96x4096 .f32) (x1 : Vec Ideal S1x4096 .f32) : out0_2 x0 x1 = E2 x0 x1 := by
  have h0 : View.ld x0 r0_0 = x0 := View.ld_unit_lit _ x0 (by decide)
  have h1 : View.ld x1 r0_1 = x1 := View.ld_unit_lit _ x1 (by decide)
  funext y
  unfold out0_2
  rw [canon2_eq, h0, h1]

theorem stored3 (x0 : Vec Ideal S96x4096 .f32) (x1 : Vec Ideal S1x4096 .f32) : out0_3 x0 x1 = E3 x0 x1 := by
  have h0 : View.ld x0 r0_0 = x0 := View.ld_unit_lit _ x0 (by decide)
  have h1 : View.ld x1 r0_1 = x1 := View.ld_unit_lit _ x1 (by decide)
  funext y
  unfold out0_3
  rw [canon3_eq, h0, h1]

/-- The codes and the scales after the run, as functions of the arguments. -/
theorem final2 : (dats m 0 c).arrAt 2 cfg0.N
    = E2 (m ((c : Thread nD τ).loc main_arg0)) (shapeCast S1x4096 (m ((c : Thread nD τ).loc main_arg1)) shapeCasts_S4096_S1x4096) := by
  refine (dats m 0 c).arrAt_eq_of_covers 2 _ (by decide +kernel) fun t hf y => ?_
  blk_simp
  rw [after0_2, whole0, whole1, stored2]
  refine congrArg (E2 (F := Ideal) _ _) (funext fun a => Fin.ext ?_)
  match a with
  | ⟨0, _⟩ => blk_simp [idx t]
  | ⟨1, _⟩ => blk_simp [idx t]

theorem final3 : (dats m 0 c).arrAt 3 cfg0.N
    = E3 (m ((c : Thread nD τ).loc main_arg0)) (shapeCast S1x4096 (m ((c : Thread nD τ).loc main_arg1)) shapeCasts_S4096_S1x4096) := by
  refine (dats m 0 c).arrAt_eq_of_covers 3 _ (by decide +kernel) fun t hf y => ?_
  blk_simp
  rw [after0_3, whole0, whole1, stored3]
  refine congrArg (E3 (F := Ideal) _ _) (funext fun a => Fin.ext ?_)
  match a with
  | ⟨0, _⟩ => blk_simp [idx t]
  | ⟨1, _⟩ => blk_simp [idx t]

end Cert.NormHReferenceIdeal.Value

end
-- ==== Proof.Quantisers.lean ====
/-
  The four quantiser calls: kernel and reference leave the same codes and the same scales, over the extended reals.
-/
module

public import proofs.«01_k».proof.Defs
public import proofs.«01_k».proof.Proof.NormXValue
public import proofs.«01_k».proof.Proof.NormHValue
public import proofs.«01_k».proof.Proof.Gen.QuantAttnIdeal.Value
public import proofs.«01_k».proof.Proof.Gen.QuantAttnReferenceIdeal.Value
public import proofs.«01_k».proof.Proof.Gen.QuantActIdeal.Value
public import proofs.«01_k».proof.Proof.Gen.QuantActReferenceIdeal.Value

@[expose] public section

noncomputable section

namespace Cert.Proof

open Idealize.ShloMosaic Idealize.SL.Sem

/-- The input's normalised codes and scales are the reference's. -/
theorem algebraic_NormX : Cert.algebraic_NormXIdeal_NormXReferenceIdeal (hNormXIdeal := Cert.NormXIdeal.Gen.facts) (hNormXReferenceIdeal := Cert.NormXReferenceIdeal.Gen.facts) := by
  intro m g m' g' hpre hagree
  haveI := Cert.NormXIdeal.Gen.facts
  refine ⟨fun c => Cert.NormXIdeal.Value.E2 (m ((c.tc : Thread Cert.NormXIdeal.nD Cert.NormXIdeal.τ).loc Cert.NormXIdeal.main_arg0)) (shapeCast Cert.NormXIdeal.S1x4096 (m ((c.tc : Thread Cert.NormXIdeal.nD Cert.NormXIdeal.τ).loc Cert.NormXIdeal.main_arg1)) Cert.NormXIdeal.Gen.shapeCasts_S4096_S1x4096),
    fun c => Cert.NormXIdeal.Value.E3 (m ((c.tc : Thread Cert.NormXIdeal.nD Cert.NormXIdeal.τ).loc Cert.NormXIdeal.main_arg0)) (shapeCast Cert.NormXIdeal.S1x4096 (m ((c.tc : Thread Cert.NormXIdeal.nD Cert.NormXIdeal.τ).loc Cert.NormXIdeal.main_arg1)) Cert.NormXIdeal.Gen.shapeCasts_S4096_S1x4096), ?_, ?_⟩
  · exact θ_run_mono (Cert.NormXIdeal.Value.run_blocks m g) fun r h c =>
      ⟨(h c).1.trans (Cert.NormXIdeal.Value.final2 m c), (h c).2.1.trans (Cert.NormXIdeal.Value.final3 m c), (h c).2.2⟩
  · refine θ_run_mono (Cert.NormXReferenceIdeal.Value.run_blocks m' g') fun r h c =>
      ⟨(h c).1.trans ((Cert.NormXReferenceIdeal.Value.final2 m' c).trans ?_), (h c).2.1.trans ((Cert.NormXReferenceIdeal.Value.final3 m' c).trans ?_), (h c).2.2⟩
    all_goals
      rw [(hagree c).1, (hagree c).2]
      rfl

/-- The normalised codes and scales of the hidden state are the reference's. -/
theorem algebraic_NormH : Cert.algebraic_NormHIdeal_NormHReferenceIdeal (hNormHIdeal := Cert.NormHIdeal.Gen.facts) (hNormHReferenceIdeal := Cert.NormHReferenceIdeal.Gen.facts) := by
  intro m g m' g' hpre hagree
  haveI := Cert.NormHIdeal.Gen.facts
  refine ⟨fun c => Cert.NormHIdeal.Value.E2 (m ((c.tc : Thread Cert.NormHIdeal.nD Cert.NormHIdeal.τ).loc Cert.NormHIdeal.main_arg0)) (shapeCast Cert.NormHIdeal.S1x4096 (m ((c.tc : Thread Cert.NormHIdeal.nD Cert.NormHIdeal.τ).loc Cert.NormHIdeal.main_arg1)) Cert.NormHIdeal.Gen.shapeCasts_S4096_S1x4096),
    fun c => Cert.NormHIdeal.Value.E3 (m ((c.tc : Thread Cert.NormHIdeal.nD Cert.NormHIdeal.τ).loc Cert.NormHIdeal.main_arg0)) (shapeCast Cert.NormHIdeal.S1x4096 (m ((c.tc : Thread Cert.NormHIdeal.nD Cert.NormHIdeal.τ).loc Cert.NormHIdeal.main_arg1)) Cert.NormHIdeal.Gen.shapeCasts_S4096_S1x4096), ?_, ?_⟩
  · exact θ_run_mono (Cert.NormHIdeal.Value.run_blocks m g) fun r h c =>
      ⟨(h c).1.trans (Cert.NormHIdeal.Value.final2 m c), (h c).2.1.trans (Cert.NormHIdeal.Value.final3 m c), (h c).2.2⟩
  · refine θ_run_mono (Cert.NormHReferenceIdeal.Value.run_blocks m' g') fun r h c =>
      ⟨(h c).1.trans ((Cert.NormHReferenceIdeal.Value.final2 m' c).trans ?_), (h c).2.1.trans ((Cert.NormHReferenceIdeal.Value.final3 m' c).trans ?_), (h c).2.2⟩
    all_goals
      rw [(hagree c).1, (hagree c).2]
      rfl

/-- The codes and scales of the attention output are the reference's. -/
theorem algebraic_QuantAttn : Cert.algebraic_QuantAttnIdeal_QuantAttnReferenceIdeal (hQuantAttnIdeal := Cert.QuantAttnIdeal.Gen.facts) (hQuantAttnReferenceIdeal := Cert.QuantAttnReferenceIdeal.Gen.facts) := by
  intro m g m' g' hpre hagree
  refine ⟨fun c => Cert.QuantAttnIdeal.Value.G1 (m ((c.tc : Thread Cert.QuantAttnIdeal.nD Cert.QuantAttnIdeal.τ).loc Cert.QuantAttnIdeal.main_arg0)), fun c => Cert.QuantAttnIdeal.Value.G2 (m ((c.tc : Thread Cert.QuantAttnIdeal.nD Cert.QuantAttnIdeal.τ).loc Cert.QuantAttnIdeal.main_arg0)), Cert.QuantAttnIdeal.Value.run m g, ?_⟩
  refine θ_run_mono (Cert.QuantAttnReferenceIdeal.Value.run m' g') fun r h c => ⟨(h c).1.trans ?_, (h c).2.1.trans ?_, (h c).2.2⟩
  all_goals
    rw [show _ = _ from hagree c]
    rfl

/-- The codes and scales of the gated activations are the reference's. -/
theorem algebraic_QuantAct : Cert.algebraic_QuantActIdeal_QuantActReferenceIdeal (hQuantActIdeal := Cert.QuantActIdeal.Gen.facts) (hQuantActReferenceIdeal := Cert.QuantActReferenceIdeal.Gen.facts) := by
  intro m g m' g' hpre hagree
  refine ⟨fun c => Cert.QuantActIdeal.Value.G1 (m ((c.tc : Thread Cert.QuantActIdeal.nD Cert.QuantActIdeal.τ).loc Cert.QuantActIdeal.main_arg0)), fun c => Cert.QuantActIdeal.Value.G2 (m ((c.tc : Thread Cert.QuantActIdeal.nD Cert.QuantActIdeal.τ).loc Cert.QuantActIdeal.main_arg0)), Cert.QuantActIdeal.Value.run m g, ?_⟩
  refine θ_run_mono (Cert.QuantActReferenceIdeal.Value.run m' g') fun r h c => ⟨(h c).1.trans ?_, (h c).2.1.trans ?_, (h c).2.2⟩
  all_goals
    rw [show _ = _ from hagree c]
    rfl

end Cert.Proof

end
-- ==== Proof.lean ====
module

public import proofs.«01_k».proof.Defs
public import proofs.«01_k».proof.Proof.Gen.GateUp
public import proofs.«01_k».proof.Proof.Gen.GateUp.Skeleton
public import proofs.«01_k».proof.Proof.Gen.GateUp.Loops
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Loops
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpReferenceIdeal
public import proofs.«01_k».proof.Proof.Gen.GateUpReferenceIdeal.Skeleton
public import proofs.«01_k».proof.Proof.Gen.GateUpReferenceIdeal.Launch
public import proofs.«01_k».proof.Proof.Gen.GateUpReferenceIdeal.Points
public import proofs.«01_k».proof.Proof.Gen.GateUpReferenceIdeal.Frame
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.Qkv
public import proofs.«01_k».proof.Proof.Gen.Qkv.Skeleton
public import proofs.«01_k».proof.Proof.Gen.Qkv.Loops
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Loops
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Skeleton
public import proofs.«01_k».proof.Proof.Gen.QkvReferenceIdeal.Launch
public import proofs.«01_k».proof.Proof.Gen.QkvReferenceIdeal.Points
public import proofs.«01_k».proof.Proof.Gen.QkvReferenceIdeal.Frame
public import proofs.«01_k».proof.Proof.Gen.Wo
public import proofs.«01_k».proof.Proof.Gen.Wo.Skeleton
public import proofs.«01_k».proof.Proof.Gen.Wo.Loops
public import proofs.«01_k».proof.Proof.Gen.Wo.Launch
public import proofs.«01_k».proof.Proof.Gen.Wo.Points
public import proofs.«01_k».proof.Proof.Gen.Wo.Frame
public import proofs.«01_k».proof.Proof.Gen.WoIdeal
public import proofs.«01_k».proof.Proof.Gen.WoIdeal.Skeleton
public import proofs.«01_k».proof.Proof.Gen.WoIdeal.Loops
public import proofs.«01_k».proof.Proof.Gen.WoIdeal.Launch
public import proofs.«01_k».proof.Proof.Gen.WoIdeal.Points
public import proofs.«01_k».proof.Proof.Gen.WoIdeal.Frame
public import proofs.«01_k».proof.Proof.Gen.WoReferenceIdeal
public import proofs.«01_k».proof.Proof.Gen.WoReferenceIdeal.Skeleton
public import proofs.«01_k».proof.Proof.Gen.WoReferenceIdeal.Launch
public import proofs.«01_k».proof.Proof.Gen.WoReferenceIdeal.Points
public import proofs.«01_k».proof.Proof.Gen.WoReferenceIdeal.Frame
public import proofs.«01_k».proof.Proof.Gen.NormX
public import proofs.«01_k».proof.Proof.Gen.NormX.Skeleton
public import proofs.«01_k».proof.Proof.Gen.NormX.Launch
public import proofs.«01_k».proof.Proof.Gen.NormX.Points
public import proofs.«01_k».proof.Proof.Gen.NormX.Frame
public import proofs.«01_k».proof.Proof.Gen.NormXIdeal
public import proofs.«01_k».proof.Proof.Gen.NormXIdeal.Skeleton
public import proofs.«01_k».proof.Proof.Gen.NormXIdeal.Launch
public import proofs.«01_k».proof.Proof.Gen.NormXIdeal.Points
public import proofs.«01_k».proof.Proof.Gen.NormXIdeal.Frame
public import proofs.«01_k».proof.Proof.Gen.NormXReferenceIdeal
public import proofs.«01_k».proof.Proof.Gen.NormXReferenceIdeal.Skeleton
public import proofs.«01_k».proof.Proof.Gen.NormXReferenceIdeal.Launch
public import proofs.«01_k».proof.Proof.Gen.NormXReferenceIdeal.Points
public import proofs.«01_k».proof.Proof.Gen.NormXReferenceIdeal.Frame
public import proofs.«01_k».proof.Proof.Gen.NormH
public import proofs.«01_k».proof.Proof.Gen.NormH.Skeleton
public import proofs.«01_k».proof.Proof.Gen.NormH.Launch
public import proofs.«01_k».proof.Proof.Gen.NormH.Points
public import proofs.«01_k».proof.Proof.Gen.NormH.Frame
public import proofs.«01_k».proof.Proof.Gen.NormHIdeal
public import proofs.«01_k».proof.Proof.Gen.NormHIdeal.Skeleton
public import proofs.«01_k».proof.Proof.Gen.NormHIdeal.Launch
public import proofs.«01_k».proof.Proof.Gen.NormHIdeal.Points
public import proofs.«01_k».proof.Proof.Gen.NormHIdeal.Frame
public import proofs.«01_k».proof.Proof.Gen.NormHReferenceIdeal
public import proofs.«01_k».proof.Proof.Gen.NormHReferenceIdeal.Skeleton
public import proofs.«01_k».proof.Proof.Gen.NormHReferenceIdeal.Launch
public import proofs.«01_k».proof.Proof.Gen.NormHReferenceIdeal.Points
public import proofs.«01_k».proof.Proof.Gen.NormHReferenceIdeal.Frame
public import proofs.«01_k».proof.Proof.Gen.QuantAttn
public import proofs.«01_k».proof.Proof.Gen.QuantAttn.Skeleton
public import proofs.«01_k».proof.Proof.Gen.QuantAttn.Launch
public import proofs.«01_k».proof.Proof.Gen.QuantAttn.Points
public import proofs.«01_k».proof.Proof.Gen.QuantAttn.Frame
public import proofs.«01_k».proof.Proof.Gen.QuantAttnIdeal
public import proofs.«01_k».proof.Proof.Gen.QuantAttnIdeal.Skeleton
public import proofs.«01_k».proof.Proof.Gen.QuantAttnIdeal.Launch
public import proofs.«01_k».proof.Proof.Gen.QuantAttnIdeal.Points
public import proofs.«01_k».proof.Proof.Gen.QuantAttnIdeal.Frame
public import proofs.«01_k».proof.Proof.Gen.QuantAttnReferenceIdeal
public import proofs.«01_k».proof.Proof.Gen.QuantAttnReferenceIdeal.Skeleton
public import proofs.«01_k».proof.Proof.Gen.QuantAttnReferenceIdeal.Launch
public import proofs.«01_k».proof.Proof.Gen.QuantAttnReferenceIdeal.Points
public import proofs.«01_k».proof.Proof.Gen.QuantAttnReferenceIdeal.Frame
public import proofs.«01_k».proof.Proof.Gen.QuantAct
public import proofs.«01_k».proof.Proof.Gen.QuantAct.Skeleton
public import proofs.«01_k».proof.Proof.Gen.QuantAct.Launch
public import proofs.«01_k».proof.Proof.Gen.QuantAct.Points
public import proofs.«01_k».proof.Proof.Gen.QuantAct.Frame
public import proofs.«01_k».proof.Proof.Gen.QuantActIdeal
public import proofs.«01_k».proof.Proof.Gen.QuantActIdeal.Skeleton
public import proofs.«01_k».proof.Proof.Gen.QuantActIdeal.Launch
public import proofs.«01_k».proof.Proof.Gen.QuantActIdeal.Points
public import proofs.«01_k».proof.Proof.Gen.QuantActIdeal.Frame
public import proofs.«01_k».proof.Proof.Gen.QuantActReferenceIdeal
public import proofs.«01_k».proof.Proof.Gen.QuantActReferenceIdeal.Skeleton
public import proofs.«01_k».proof.Proof.Gen.QuantActReferenceIdeal.Launch
public import proofs.«01_k».proof.Proof.Gen.QuantActReferenceIdeal.Points
public import proofs.«01_k».proof.Proof.Gen.QuantActReferenceIdeal.Frame
public import proofs.«01_k».proof.Proof.Gen.Pre_metadata_valid
public import proofs.«01_k».proof.Proof.Gen.Pre_metadata_valid_down
public import proofs.«01_k».proof.Proof.Gen.Pre_metadata_valid_qkv
public import proofs.«01_k».proof.Proof.Gen.Pre_metadata_valid_wo
public import Idealize.ShloMosaic.Adequacy
public import Idealize.ShloMosaic.Init
public import proofs.«01_k».proof.Proof.Gen.GateUpIdeal.Value
public import proofs.«01_k».proof.Proof.Gen.GateUpReferenceIdeal.Value
public import Idealize.ShloMosaic.Lib.Claim
public import proofs.«01_k».proof.Proof.GateUpValid
public import proofs.«01_k».proof.Proof.GateUpReferenceValue
public import proofs.«01_k».proof.Proof.Linears
public import proofs.«01_k».proof.Proof.Quantisers

@[expose] public section

noncomputable section

namespace Cert.Proof

open Idealize.ShloMosaic Idealize.SL.Sem Cert.GateUp

/-- The kernel's result is the reference's, over metadata that names its columns in increasing order. -/
theorem algebraic : Cert.algebraic_GateUpIdeal_GateUpReferenceIdeal_pre_metadata_valid
    (hGateUpIdeal := Cert.GateUpIdeal.Gen.facts) (hGateUpReferenceIdeal := Cert.GateUpReferenceIdeal.Gen.facts)
    (hPre_metadata_valid := Cert.Pre_metadata_valid.Gen.facts) := by
  intro m g m' g' hpre hagree
  refine ⟨fun c => Cert.GateUpIdeal.Value.RESULT (m ((c.tc : Thread Cert.GateUpIdeal.nD Cert.GateUpIdeal.τ).loc Cert.GateUpIdeal.main_arg0))
      (m ((c.tc : Thread Cert.GateUpIdeal.nD Cert.GateUpIdeal.τ).loc Cert.GateUpIdeal.main_arg1))
      (m ((c.tc : Thread Cert.GateUpIdeal.nD Cert.GateUpIdeal.τ).loc Cert.GateUpIdeal.main_arg2))
      (m ((c.tc : Thread Cert.GateUpIdeal.nD Cert.GateUpIdeal.τ).loc Cert.GateUpIdeal.main_arg3))
      (m ((c.tc : Thread Cert.GateUpIdeal.nD Cert.GateUpIdeal.τ).loc Cert.GateUpIdeal.main_arg4)), ?_, ?_⟩
  · exact θ_run_mono (Cert.GateUpIdeal.Value.run_blocks m g) fun r h c =>
      ⟨(h c).1.trans (Cert.GateUpIdeal.Value.final m c (Cert.Pre_metadata_valid.meta_valid _ _ _ _ _ (Shape.Idx.first (by decide)) (congrFun (hpre c) _))), (h c).2⟩
  · refine θ_run_mono (Cert.GateUpReferenceIdeal.Value.run_blocks m' g') fun r h c => ⟨(h c).1.trans ?_, (h c).2⟩
    obtain ⟨h0, h1, h2, h3, h4⟩ := hagree c
    rw [Cert.GateUpReferenceIdeal.Value.final m' c, h0, h1, h2, h3, h4]
    rfl

theorem claim : Cert.Claim := ⟨
  Cert.GateUp.Gen.facts, Cert.GateUpIdeal.Gen.facts, Cert.GateUpReferenceIdeal.Gen.facts,
  Cert.Down.Gen.facts, Cert.DownIdeal.Gen.facts, Cert.DownReferenceIdeal.Gen.facts,
  Cert.Qkv.Gen.facts, Cert.QkvIdeal.Gen.facts, Cert.QkvReferenceIdeal.Gen.facts,
  Cert.Wo.Gen.facts, Cert.WoIdeal.Gen.facts, Cert.WoReferenceIdeal.Gen.facts,
  Cert.NormX.Gen.facts, Cert.NormXIdeal.Gen.facts, Cert.NormXReferenceIdeal.Gen.facts,
  Cert.NormH.Gen.facts, Cert.NormHIdeal.Gen.facts, Cert.NormHReferenceIdeal.Gen.facts,
  Cert.QuantAttn.Gen.facts, Cert.QuantAttnIdeal.Gen.facts, Cert.QuantAttnReferenceIdeal.Gen.facts,
  Cert.QuantAct.Gen.facts, Cert.QuantActIdeal.Gen.facts, Cert.QuantActReferenceIdeal.Gen.facts,
  Cert.Pre_metadata_valid.Gen.facts, Cert.Pre_metadata_valid_down.Gen.facts, Cert.Pre_metadata_valid_qkv.Gen.facts,
  Cert.Pre_metadata_valid_wo.Gen.facts,
  fun m ρ _ => Cert.GateUp.Gen.frame m ρ,
  fun m ρ _ => Cert.GateUpIdeal.Gen.frame m ρ,
  fun m ρ _ => Cert.GateUpIdeal.Gen.frame m ρ,
  fun m ρ _ => Cert.GateUpReferenceIdeal.Gen.frame m ρ,
  fun m ρ _ => Cert.GateUpReferenceIdeal.Gen.frame m ρ,
  fun m ρ _ => Cert.Down.Gen.frame m ρ,
  fun m ρ _ => Cert.DownIdeal.Gen.frame m ρ,
  fun m ρ _ => Cert.DownIdeal.Gen.frame m ρ,
  fun m ρ _ => Cert.DownReferenceIdeal.Gen.frame m ρ,
  fun m ρ _ => Cert.DownReferenceIdeal.Gen.frame m ρ,
  fun m ρ _ => Cert.Qkv.Gen.frame m ρ,
  fun m ρ _ => Cert.QkvIdeal.Gen.frame m ρ,
  fun m ρ _ => Cert.QkvIdeal.Gen.frame m ρ,
  fun m ρ _ => Cert.QkvReferenceIdeal.Gen.frame m ρ,
  fun m ρ _ => Cert.QkvReferenceIdeal.Gen.frame m ρ,
  fun m ρ _ => Cert.Wo.Gen.frame m ρ,
  fun m ρ _ => Cert.WoIdeal.Gen.frame m ρ,
  fun m ρ _ => Cert.WoIdeal.Gen.frame m ρ,
  fun m ρ _ => Cert.WoReferenceIdeal.Gen.frame m ρ,
  fun m ρ _ => Cert.WoReferenceIdeal.Gen.frame m ρ,
  fun m ρ _ => Cert.NormX.Gen.frame m ρ,
  fun m ρ _ => Cert.NormXIdeal.Gen.frame m ρ,
  fun m ρ _ => Cert.NormXReferenceIdeal.Gen.frame m ρ,
  fun m ρ _ => Cert.NormH.Gen.frame m ρ,
  fun m ρ _ => Cert.NormHIdeal.Gen.frame m ρ,
  fun m ρ _ => Cert.NormHReferenceIdeal.Gen.frame m ρ,
  fun m ρ _ => Cert.QuantAttn.Gen.frame m ρ,
  fun m ρ _ => Cert.QuantAttnIdeal.Gen.frame m ρ,
  fun m ρ _ => Cert.QuantAttnReferenceIdeal.Gen.frame m ρ,
  fun m ρ _ => Cert.QuantAct.Gen.frame m ρ,
  fun m ρ _ => Cert.QuantActIdeal.Gen.frame m ρ,
  fun m ρ _ => Cert.QuantActReferenceIdeal.Gen.frame m ρ,
  trivial, algebraic,
  trivial, algebraic_Down,
  trivial, algebraic_Qkv,
  trivial, algebraic_Wo,
  trivial, algebraic_NormX,
  trivial, algebraic_NormH,
  trivial, algebraic_QuantAttn,
  trivial, algebraic_QuantAct⟩

end Cert.Proof

end
